-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S448x8192 : Shape := ⟨2, ![448, 8192]⟩
abbrev S64x8192 : Shape := ⟨2, ![64, 8192]⟩
abbrev S2x256x1408 : Shape := ⟨3, ![2, 256, 1408]⟩
abbrev S6 : Shape := ⟨1, ![6]⟩
abbrev S6x3 : Shape := ⟨2, ![6, 3]⟩
abbrev S2 : Shape := ⟨1, ![2]⟩
abbrev S_ : Shape := ⟨0, ![]⟩
abbrev S512x512 : Shape := ⟨2, ![512, 512]⟩
abbrev S512x1408 : Shape := ⟨2, ![512, 1408]⟩
abbrev S512x1280 : Shape := ⟨2, ![512, 1280]⟩
abbrev S256x1408 : Shape := ⟨2, ![256, 1408]⟩
abbrev S1x1 : Shape := ⟨2, ![1, 1]⟩
abbrev S256x1280 : Shape := ⟨2, ![256, 1280]⟩
abbrev S128x1408 : Shape := ⟨2, ![128, 1408]⟩
abbrev S128x1280 : Shape := ⟨2, ![128, 1280]⟩
abbrev S64x1408 : Shape := ⟨2, ![64, 1408]⟩
abbrev S64x1280 : Shape := ⟨2, ![64, 1280]⟩
abbrev S1x64x1408 : Shape := ⟨3, ![1, 64, 1408]⟩
abbrev S1x64x1280 : Shape := ⟨3, ![1, 64, 1280]⟩
abbrev S1x128x1408 : Shape := ⟨3, ![1, 128, 1408]⟩
abbrev S1x128x1280 : Shape := ⟨3, ![1, 128, 1280]⟩
abbrev S1x256x1408 : Shape := ⟨3, ![1, 256, 1408]⟩
abbrev S1x256x1280 : Shape := ⟨3, ![1, 256, 1280]⟩

abbrev nBuf : Space → Nat
  | .hbm => 5
  | .vmem => 8
  | .smem => 2
  | _ => 0

abbrev bufTy : (tb : Table) → Fin (tcTables nBuf tb) → BufTy
  | .hbm, ⟨0, _⟩ => ⟨S4096x512, .i8⟩
  | .hbm, ⟨1, _⟩ => ⟨S512x8192, .i8⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x512, .i8⟩
  | .local _ .vmem, ⟨1, _⟩ => ⟨S512x8192, .i8⟩
  | .local _ .vmem, ⟨2, _⟩ => ⟨S512x8192, .f32⟩
  | .local _ .vmem, ⟨3, _⟩ => ⟨S448x8192, .bf16⟩
  | .local _ .vmem, ⟨4, _⟩ => ⟨S448x8192, .bf16⟩
  | .local _ .vmem, ⟨5, _⟩ => ⟨S64x8192, .f32⟩
  | .local _ .vmem, ⟨6, _⟩ => ⟨S512x8192, .bf16⟩
  | .local _ .vmem, ⟨7, _⟩ => ⟨S2x256x1408, .f32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 37 60 bufScoped semScoped dmaSemScoped tileCredit tileCredit_eq_zero tileCredit_pos).withBarriers [(0, 36)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 36

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_15 : BitVec 32 := 1#32
  let v25 : BitVec 32 := Scalar.muli v15 c1_i32_15
  let v26 : BitVec 32 := Scalar.addi c0_i32_16 v25
  v26.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_18 : BitVec 32 := 1#32
  let v27 : BitVec 32 := Scalar.muli v19 c1_i32_18
  let v28 : BitVec 32 := Scalar.addi c0_i32_19 v27
  v28.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_21 : BitVec 32 := 1#32
  let v29 : BitVec 32 := Scalar.muli v23 c1_i32_21
  let v30 : BitVec 32 := Scalar.addi c0_i32_22 v29
  v30.toNat
def k0_off1 (d0 : Dev nD) : Fin 2 → Nat :=
  let c1_i32_50 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let v78 : BitVec 32 := Scalar.subi c1_i32_50 v7
  let c256_i32 : BitVec 32 := 256#32
  let v79 : BitVec 32 := Scalar.muli v78 c256_i32
  let v80 : Index := Scalar.indexCast v79
  let c0_51 : Index := 0#32
  ![v80.toNat, 0]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_57 : BitVec 32 := 1#32
  let v86 : BitVec 32 := Scalar.muli v15 c1_i32_57
  let v87 : BitVec 32 := Scalar.addi c0_i32_58 v86
  v87.toNat
def k0_off2 (d0 : Dev nD) : Fin 2 → Nat :=
  let c1_i32_63 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v94 : BitVec 32 := Scalar.subi c1_i32_63 v9
  let c256_i32_64 : BitVec 32 := 256#32
  let v95 : BitVec 32 := Scalar.muli v94 c256_i32_64
  let v96 : Index := Scalar.indexCast v95
  let c1408_65 : Index := 1408#32
  ![v96.toNat, 1408]
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_71 : BitVec 32 := 1#32
  let v102 : BitVec 32 := Scalar.muli v19 c1_i32_71
  let v103 : BitVec 32 := Scalar.addi c0_i32_72 v102
  v103.toNat
def k0_off3 (d0 : Dev nD) : Fin 2 → Nat :=
  let c1_i32_76 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v110 : BitVec 32 := Scalar.subi c1_i32_76 v11
  let c256_i32_77 : BitVec 32 := 256#32
  let v111 : BitVec 32 := Scalar.muli v110 c256_i32_77
  let v112 : Index := Scalar.indexCast v111
  let c2816_78 : Index := 2816#32
  ![v112.toNat, 2816]
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_84 : BitVec 32 := 1#32
  let v118 : BitVec 32 := Scalar.muli v23 c1_i32_84
  let v119 : BitVec 32 := Scalar.addi c0_i32_85 v118
  v119.toNat
def k0_off4 (d0 : Dev nD) : Fin 2 → Nat :=
  let c1_i32_89 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let v126 : BitVec 32 := Scalar.subi c1_i32_89 v7
  let c256_i32_90 : BitVec 32 := 256#32
  let v127 : BitVec 32 := Scalar.muli v126 c256_i32_90
  let v128 : Index := Scalar.indexCast v127
  let c4224_91 : Index := 4224#32
  ![v128.toNat, 4224]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_97 : BitVec 32 := 1#32
  let v134 : BitVec 32 := Scalar.muli v15 c1_i32_97
  let v135 : BitVec 32 := Scalar.addi c0_i32_98 v134
  v135.toNat
def k0_off5 (d0 : Dev nD) : Fin 2 → Nat :=
  let c1_i32_102 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v142 : BitVec 32 := Scalar.subi c1_i32_102 v9
  let c256_i32_103 : BitVec 32 := 256#32
  let v143 : BitVec 32 := Scalar.muli v142 c256_i32_103
  let v144 : Index := Scalar.indexCast v143
  let c5504_104 : Index := 5504#32
  ![v144.toNat, 5504]
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_110 : BitVec 32 := 1#32
  let v150 : BitVec 32 := Scalar.muli v19 c1_i32_110
  let v151 : BitVec 32 := Scalar.addi c0_i32_111 v150
  v151.toNat
def k0_off6 (d0 : Dev nD) : Fin 2 → Nat :=
  let c1_i32_115 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v158 : BitVec 32 := Scalar.subi c1_i32_115 v11
  let c256_i32_116 : BitVec 32 := 256#32
  let v159 : BitVec 32 := Scalar.muli v158 c256_i32_116
  let v160 : Index := Scalar.indexCast v159
  let c6784_117 : Index := 6784#32
  ![v160.toNat, 6784]
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_122 : BitVec 32 := 1#32
  let v166 : BitVec 32 := Scalar.muli v23 c1_i32_122
  let v167 : BitVec 32 := Scalar.addi c0_i32_123 v166
  v167.toNat
@[reducible] def k0_t1_loop : Scf.Loop 32 :=
  let c0_i32_127 : BitVec 32 := 0#32
  let c8_i32_128 : BitVec 32 := 8#32
  let v174 : BitVec 32 := Scalar.addi c0_i32_127 c8_i32_128
  let c1_i32_129 : BitVec 32 := 1#32
  ⟨c0_i32_127, v174, c1_i32_129⟩
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let v192 : Index := Scalar.indexCast v176
  let c0_154 : Index := 0#32
  ![v192.toNat, 0]
def k0_cond1 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32 : BitVec 32 := 7#32
  let v201 : BitVec 1 := Scalar.cmpi .slt arg19 c7_i32
  let v202 : BitVec 32 := Scalar.extui v201
  let c0_i32_158 : BitVec 32 := 0#32
  let v203 : BitVec 1 := Scalar.cmpi .ne v202 c0_i32_158
  v203

def k0_dev10 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_159 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v204 : BitVec 32 := Scalar.subi c1_i32_159 v9
  let c128_i32 : BitVec 32 := 128#32
  let v205 : BitVec 32 := Scalar.muli v204 c128_i32
  let v206 : BitVec 32 := Scalar.addi v176 v205
  let v210 : Index := Scalar.indexCast v206
  let c0_162 : Index := 0#32
  ![v210.toNat, 0]
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_167 : BitVec 32 := 1#32
  let v216 : BitVec 32 := Scalar.muli v19 c1_i32_167
  let v217 : BitVec 32 := Scalar.addi c0_i32_168 v216
  v217.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let v236 : Index := Scalar.indexCast v177
  let c1408_191 : Index := 1408#32
  ![v236.toNat, 1408]
def k0_cond3 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_195 : BitVec 32 := 7#32
  let v245 : BitVec 1 := Scalar.cmpi .slt arg19 c7_i32_195
  let v246 : BitVec 32 := Scalar.extui v245
  let c0_i32_196 : BitVec 32 := 0#32
  let v247 : BitVec 1 := Scalar.cmpi .ne v246 c0_i32_196
  v247

def k0_dev12 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c1_i32_197 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v248 : BitVec 32 := Scalar.subi c1_i32_197 v11
  let c128_i32_198 : BitVec 32 := 128#32
  let v249 : BitVec 32 := Scalar.muli v248 c128_i32_198
  let v250 : BitVec 32 := Scalar.addi v177 v249
  let v254 : Index := Scalar.indexCast v250
  let c1408_201 : Index := 1408#32
  ![v254.toNat, 1408]
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_207 : BitVec 32 := 1#32
  let v260 : BitVec 32 := Scalar.muli v23 c1_i32_207
  let v261 : BitVec 32 := Scalar.addi c0_i32_208 v260
  v261.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let v280 : Index := Scalar.indexCast v178
  let c2816_231 : Index := 2816#32
  ![v280.toNat, 2816]
def k0_cond5 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_235 : BitVec 32 := 7#32
  let v289 : BitVec 1 := Scalar.cmpi .slt arg19 c7_i32_235
  let v290 : BitVec 32 := Scalar.extui v289
  let c0_i32_236 : BitVec 32 := 0#32
  let v291 : BitVec 1 := Scalar.cmpi .ne v290 c0_i32_236
  v291

def k0_dev14 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c1_i32_237 : BitVec 32 := 1#32
  let c0_i32 : BitVec 32 := 0#32
  let v6 : BitVec 32 := Scalar.shrsi v5 c0_i32
  let c1_i32_2 : BitVec 32 := 1#32
  let v7 : BitVec 32 := Scalar.andi v6 c1_i32_2
  let v292 : BitVec 32 := Scalar.subi c1_i32_237 v7
  let c128_i32_238 : BitVec 32 := 128#32
  let v293 : BitVec 32 := Scalar.muli v292 c128_i32_238
  let v294 : BitVec 32 := Scalar.addi v178 v293
  let v298 : Index := Scalar.indexCast v294
  let c2816_241 : Index := 2816#32
  ![v298.toNat, 2816]
def k0_dev15 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_247 : BitVec 32 := 1#32
  let v304 : BitVec 32 := Scalar.muli v15 c1_i32_247
  let v305 : BitVec 32 := Scalar.addi c0_i32_248 v304
  v305.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let v324 : Index := Scalar.indexCast v179
  let c4224_271 : Index := 4224#32
  ![v324.toNat, 4224]
def k0_cond7 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_275 : BitVec 32 := 7#32
  let v333 : BitVec 1 := Scalar.cmpi .slt arg19 c7_i32_275
  let v334 : BitVec 32 := Scalar.extui v333
  let c0_i32_276 : BitVec 32 := 0#32
  let v335 : BitVec 1 := Scalar.cmpi .ne v334 c0_i32_276
  v335

def k0_dev16 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_277 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v336 : BitVec 32 := Scalar.subi c1_i32_277 v9
  let c128_i32_278 : BitVec 32 := 128#32
  let v337 : BitVec 32 := Scalar.muli v336 c128_i32_278
  let v338 : BitVec 32 := Scalar.addi v179 v337
  let v342 : Index := Scalar.indexCast v338
  let c4224_281 : Index := 4224#32
  ![v342.toNat, 4224]
def k0_dev17 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_287 : BitVec 32 := 1#32
  let v348 : BitVec 32 := Scalar.muli v19 c1_i32_287
  let v349 : BitVec 32 := Scalar.addi c0_i32_288 v348
  v349.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let v368 : Index := Scalar.indexCast v180
  let c5504_311 : Index := 5504#32
  ![v368.toNat, 5504]
def k0_cond9 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_315 : BitVec 32 := 7#32
  let v377 : BitVec 1 := Scalar.cmpi .slt arg19 c7_i32_315
  let v378 : BitVec 32 := Scalar.extui v377
  let c0_i32_316 : BitVec 32 := 0#32
  let v379 : BitVec 1 := Scalar.cmpi .ne v378 c0_i32_316
  v379

def k0_dev18 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c1_i32_317 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v380 : BitVec 32 := Scalar.subi c1_i32_317 v11
  let c128_i32_318 : BitVec 32 := 128#32
  let v381 : BitVec 32 := Scalar.muli v380 c128_i32_318
  let v382 : BitVec 32 := Scalar.addi v180 v381
  let v386 : Index := Scalar.indexCast v382
  let c5504_321 : Index := 5504#32
  ![v386.toNat, 5504]
def k0_dev19 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_327 : BitVec 32 := 1#32
  let v392 : BitVec 32 := Scalar.muli v23 c1_i32_327
  let v393 : BitVec 32 := Scalar.addi c0_i32_328 v392
  v393.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let v412 : Index := Scalar.indexCast v181
  let c6784_351 : Index := 6784#32
  ![v412.toNat, 6784]
def k0_cond11 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_355 : BitVec 32 := 7#32
  let v421 : BitVec 1 := Scalar.cmpi .slt arg19 c7_i32_355
  let v422 : BitVec 32 := Scalar.extui v421
  let c0_i32_356 : BitVec 32 := 0#32
  let v423 : BitVec 1 := Scalar.cmpi .ne v422 c0_i32_356
  v423

def k0_dev20 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c1_i32_357 : BitVec 32 := 1#32
  let c0_i32 : BitVec 32 := 0#32
  let v6 : BitVec 32 := Scalar.shrsi v5 c0_i32
  let c1_i32_2 : BitVec 32 := 1#32
  let v7 : BitVec 32 := Scalar.andi v6 c1_i32_2
  let v424 : BitVec 32 := Scalar.subi c1_i32_357 v7
  let c128_i32_358 : BitVec 32 := 128#32
  let v425 : BitVec 32 := Scalar.muli v424 c128_i32_358
  let v426 : BitVec 32 := Scalar.addi v181 v425
  let v430 : Index := Scalar.indexCast v426
  let c6784_361 : Index := 6784#32
  ![v430.toNat, 6784]
def k0_dev21 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_367 : BitVec 32 := 1#32
  let v436 : BitVec 32 := Scalar.muli v15 c1_i32_367
  let v437 : BitVec 32 := Scalar.addi c0_i32_368 v436
  v437.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let v456 : Index := Scalar.indexCast v225
  let c0_391 : Index := 0#32
  ![v456.toNat, 0]
def k0_cond13 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_395 : BitVec 32 := 7#32
  let v465 : BitVec 1 := Scalar.cmpi .slt arg19 c7_i32_395
  let v466 : BitVec 32 := Scalar.extui v465
  let c0_i32_396 : BitVec 32 := 0#32
  let v467 : BitVec 1 := Scalar.cmpi .ne v466 c0_i32_396
  v467

def k0_dev22 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c1_i32_397 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v468 : BitVec 32 := Scalar.subi c1_i32_397 v11
  let c64_i32 : BitVec 32 := 64#32
  let v469 : BitVec 32 := Scalar.muli v468 c64_i32
  let v470 : BitVec 32 := Scalar.addi v225 v469
  let v474 : Index := Scalar.indexCast v470
  let c0_400 : Index := 0#32
  ![v474.toNat, 0]
def k0_dev23 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_405 : BitVec 32 := 1#32
  let v480 : BitVec 32 := Scalar.muli v23 c1_i32_405
  let v481 : BitVec 32 := Scalar.addi c0_i32_406 v480
  v481.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let v500 : Index := Scalar.indexCast v269
  let c1408_428 : Index := 1408#32
  ![v500.toNat, 1408]
def k0_cond15 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_432 : BitVec 32 := 7#32
  let v509 : BitVec 1 := Scalar.cmpi .slt arg19 c7_i32_432
  let v510 : BitVec 32 := Scalar.extui v509
  let c0_i32_433 : BitVec 32 := 0#32
  let v511 : BitVec 1 := Scalar.cmpi .ne v510 c0_i32_433
  v511

def k0_dev24 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c1_i32_434 : BitVec 32 := 1#32
  let c0_i32 : BitVec 32 := 0#32
  let v6 : BitVec 32 := Scalar.shrsi v5 c0_i32
  let c1_i32_2 : BitVec 32 := 1#32
  let v7 : BitVec 32 := Scalar.andi v6 c1_i32_2
  let v512 : BitVec 32 := Scalar.subi c1_i32_434 v7
  let c64_i32_435 : BitVec 32 := 64#32
  let v513 : BitVec 32 := Scalar.muli v512 c64_i32_435
  let v514 : BitVec 32 := Scalar.addi v269 v513
  let v518 : Index := Scalar.indexCast v514
  let c1408_438 : Index := 1408#32
  ![v518.toNat, 1408]
def k0_dev25 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_444 : BitVec 32 := 1#32
  let v524 : BitVec 32 := Scalar.muli v15 c1_i32_444
  let v525 : BitVec 32 := Scalar.addi c0_i32_445 v524
  v525.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let v544 : Index := Scalar.indexCast v313
  let c2816_468 : Index := 2816#32
  ![v544.toNat, 2816]
def k0_cond17 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_472 : BitVec 32 := 7#32
  let v553 : BitVec 1 := Scalar.cmpi .slt arg19 c7_i32_472
  let v554 : BitVec 32 := Scalar.extui v553
  let c0_i32_473 : BitVec 32 := 0#32
  let v555 : BitVec 1 := Scalar.cmpi .ne v554 c0_i32_473
  v555

def k0_dev26 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_474 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v556 : BitVec 32 := Scalar.subi c1_i32_474 v9
  let c64_i32_475 : BitVec 32 := 64#32
  let v557 : BitVec 32 := Scalar.muli v556 c64_i32_475
  let v558 : BitVec 32 := Scalar.addi v313 v557
  let v562 : Index := Scalar.indexCast v558
  let c2816_478 : Index := 2816#32
  ![v562.toNat, 2816]
def k0_dev27 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_484 : BitVec 32 := 1#32
  let v568 : BitVec 32 := Scalar.muli v19 c1_i32_484
  let v569 : BitVec 32 := Scalar.addi c0_i32_485 v568
  v569.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let v588 : Index := Scalar.indexCast v357
  let c4224_508 : Index := 4224#32
  ![v588.toNat, 4224]
def k0_cond19 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_512 : BitVec 32 := 7#32
  let v597 : BitVec 1 := Scalar.cmpi .slt arg19 c7_i32_512
  let v598 : BitVec 32 := Scalar.extui v597
  let c0_i32_513 : BitVec 32 := 0#32
  let v599 : BitVec 1 := Scalar.cmpi .ne v598 c0_i32_513
  v599

def k0_dev28 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c1_i32_514 : BitVec 32 := 1#32
  let c2_i32 : BitVec 32 := 2#32
  let v10 : BitVec 32 := Scalar.shrsi v5 c2_i32
  let c1_i32_5 : BitVec 32 := 1#32
  let v11 : BitVec 32 := Scalar.andi v10 c1_i32_5
  let v600 : BitVec 32 := Scalar.subi c1_i32_514 v11
  let c64_i32_515 : BitVec 32 := 64#32
  let v601 : BitVec 32 := Scalar.muli v600 c64_i32_515
  let v602 : BitVec 32 := Scalar.addi v357 v601
  let v606 : Index := Scalar.indexCast v602
  let c4224_518 : Index := 4224#32
  ![v606.toNat, 4224]
def k0_dev29 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_524 : BitVec 32 := 1#32
  let v612 : BitVec 32 := Scalar.muli v23 c1_i32_524
  let v613 : BitVec 32 := Scalar.addi c0_i32_525 v612
  v613.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let v632 : Index := Scalar.indexCast v401
  let c5504_548 : Index := 5504#32
  ![v632.toNat, 5504]
def k0_cond21 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_552 : BitVec 32 := 7#32
  let v641 : BitVec 1 := Scalar.cmpi .slt arg19 c7_i32_552
  let v642 : BitVec 32 := Scalar.extui v641
  let c0_i32_553 : BitVec 32 := 0#32
  let v643 : BitVec 1 := Scalar.cmpi .ne v642 c0_i32_553
  v643

def k0_dev30 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c1_i32_554 : BitVec 32 := 1#32
  let c0_i32 : BitVec 32 := 0#32
  let v6 : BitVec 32 := Scalar.shrsi v5 c0_i32
  let c1_i32_2 : BitVec 32 := 1#32
  let v7 : BitVec 32 := Scalar.andi v6 c1_i32_2
  let v644 : BitVec 32 := Scalar.subi c1_i32_554 v7
  let c64_i32_555 : BitVec 32 := 64#32
  let v645 : BitVec 32 := Scalar.muli v644 c64_i32_555
  let v646 : BitVec 32 := Scalar.addi v401 v645
  let v650 : Index := Scalar.indexCast v646
  let c5504_558 : Index := 5504#32
  ![v650.toNat, 5504]
def k0_dev31 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_564 : BitVec 32 := 1#32
  let v656 : BitVec 32 := Scalar.muli v15 c1_i32_564
  let v657 : BitVec 32 := Scalar.addi c0_i32_565 v656
  v657.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let v676 : Index := Scalar.indexCast v445
  let c6784_588 : Index := 6784#32
  ![v676.toNat, 6784]
def k0_cond23 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_592 : BitVec 32 := 7#32
  let v685 : BitVec 1 := Scalar.cmpi .slt arg19 c7_i32_592
  let v686 : BitVec 32 := Scalar.extui v685
  let c0_i32_593 : BitVec 32 := 0#32
  let v687 : BitVec 1 := Scalar.cmpi .ne v686 c0_i32_593
  v687

def k0_dev32 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_594 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v688 : BitVec 32 := Scalar.subi c1_i32_594 v9
  let c64_i32_595 : BitVec 32 := 64#32
  let v689 : BitVec 32 := Scalar.muli v688 c64_i32_595
  let v690 : BitVec 32 := Scalar.addi v445 v689
  let v694 : Index := Scalar.indexCast v690
  let c6784_598 : Index := 6784#32
  ![v694.toNat, 6784]
def k0_dev33 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_604 : BitVec 32 := 1#32
  let v700 : BitVec 32 := Scalar.muli v19 c1_i32_604
  let v701 : BitVec 32 := Scalar.addi c0_i32_605 v700
  v701.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let v720 : Index := Scalar.indexCast v489
  let c0_628 : Index := 0#32
  ![v720.toNat, 0]
def k0_cond25 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_632 : BitVec 32 := 7#32
  let v729 : BitVec 1 := Scalar.cmpi .slt arg19 c7_i32_632
  let v730 : BitVec 32 := Scalar.extui v729
  let c0_i32_633 : BitVec 32 := 0#32
  let v731 : BitVec 1 := Scalar.cmpi .ne v730 c0_i32_633
  v731

def k0_dev34 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off32 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let v751 : BitVec 32 := Scalar.addi v175 v489
  let c0_i32_643 : BitVec 32 := 0#32
  ![v751.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c0_i32_653 : BitVec 32 := 0#32
  ![v489.toNat, 0]
def k0_dev35 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_651 : BitVec 32 := 1#32
  let v759 : BitVec 32 := Scalar.muli v23 c1_i32_651
  let v760 : BitVec 32 := Scalar.addi c0_i32_652 v759
  v760.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let v782 : Index := Scalar.indexCast v533
  let c1408_675 : Index := 1408#32
  ![v782.toNat, 1408]
def k0_cond27 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_679 : BitVec 32 := 7#32
  let v791 : BitVec 1 := Scalar.cmpi .slt arg19 c7_i32_679
  let v792 : BitVec 32 := Scalar.extui v791
  let c0_i32_680 : BitVec 32 := 0#32
  let v793 : BitVec 1 := Scalar.cmpi .ne v792 c0_i32_680
  v793

def k0_dev36 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off35 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let v813 : BitVec 32 := Scalar.addi v175 v533
  let c1408_i32_690 : BitVec 32 := 1408#32
  ![v813.toNat, 1408]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c1408_i32_700 : BitVec 32 := 1408#32
  ![v533.toNat, 1408]
def k0_dev37 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_698 : BitVec 32 := 1#32
  let v821 : BitVec 32 := Scalar.muli v15 c1_i32_698
  let v822 : BitVec 32 := Scalar.addi c0_i32_699 v821
  v822.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let v844 : Index := Scalar.indexCast v577
  let c2816_722 : Index := 2816#32
  ![v844.toNat, 2816]
def k0_cond29 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_726 : BitVec 32 := 7#32
  let v853 : BitVec 1 := Scalar.cmpi .slt arg19 c7_i32_726
  let v854 : BitVec 32 := Scalar.extui v853
  let c0_i32_727 : BitVec 32 := 0#32
  let v855 : BitVec 1 := Scalar.cmpi .ne v854 c0_i32_727
  v855

def k0_dev38 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off38 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let v875 : BitVec 32 := Scalar.addi v175 v577
  let c2816_i32_737 : BitVec 32 := 2816#32
  ![v875.toNat, 2816]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c2816_i32_747 : BitVec 32 := 2816#32
  ![v577.toNat, 2816]
def k0_dev39 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_745 : BitVec 32 := 1#32
  let v883 : BitVec 32 := Scalar.muli v19 c1_i32_745
  let v884 : BitVec 32 := Scalar.addi c0_i32_746 v883
  v884.toNat
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let v906 : Index := Scalar.indexCast v621
  let c4224_769 : Index := 4224#32
  ![v906.toNat, 4224]
def k0_cond31 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_773 : BitVec 32 := 7#32
  let v915 : BitVec 1 := Scalar.cmpi .slt arg19 c7_i32_773
  let v916 : BitVec 32 := Scalar.extui v915
  let c0_i32_774 : BitVec 32 := 0#32
  let v917 : BitVec 1 := Scalar.cmpi .ne v916 c0_i32_774
  v917

def k0_dev40 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off41 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let v937 : BitVec 32 := Scalar.addi v175 v621
  let c4224_i32_784 : BitVec 32 := 4224#32
  ![v937.toNat, 4224]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c4224_i32_794 : BitVec 32 := 4224#32
  ![v621.toNat, 4224]
def k0_dev41 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_792 : BitVec 32 := 1#32
  let v945 : BitVec 32 := Scalar.muli v23 c1_i32_792
  let v946 : BitVec 32 := Scalar.addi c0_i32_793 v945
  v946.toNat
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let v968 : Index := Scalar.indexCast v665
  let c5504_816 : Index := 5504#32
  ![v968.toNat, 5504]
def k0_cond33 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_820 : BitVec 32 := 7#32
  let v977 : BitVec 1 := Scalar.cmpi .slt arg19 c7_i32_820
  let v978 : BitVec 32 := Scalar.extui v977
  let c0_i32_821 : BitVec 32 := 0#32
  let v979 : BitVec 1 := Scalar.cmpi .ne v978 c0_i32_821
  v979

def k0_dev42 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off44 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let v999 : BitVec 32 := Scalar.addi v175 v665
  let c5504_i32_831 : BitVec 32 := 5504#32
  ![v999.toNat, 5504]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c5504_i32_841 : BitVec 32 := 5504#32
  ![v665.toNat, 5504]
def k0_dev43 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_839 : BitVec 32 := 1#32
  let v1007 : BitVec 32 := Scalar.muli v15 c1_i32_839
  let v1008 : BitVec 32 := Scalar.addi c0_i32_840 v1007
  v1008.toNat
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let v1030 : Index := Scalar.indexCast v709
  let c6784_863 : Index := 6784#32
  ![v1030.toNat, 6784]
def k0_cond35 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_867 : BitVec 32 := 7#32
  let v1039 : BitVec 1 := Scalar.cmpi .slt arg19 c7_i32_867
  let v1040 : BitVec 32 := Scalar.extui v1039
  let c0_i32_868 : BitVec 32 := 0#32
  let v1041 : BitVec 1 := Scalar.cmpi .ne v1040 c0_i32_868
  v1041

def k0_dev44 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off47 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let v1061 : BitVec 32 := Scalar.addi v175 v709
  let c6784_i32_878 : BitVec 32 := 6784#32
  ![v1061.toNat, 6784]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c6784_i32_888 : BitVec 32 := 6784#32
  ![v709.toNat, 6784]
def k0_dev45 (d0 : Dev nD) : Nat :=
  let c0_i32_887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_886 : BitVec 32 := 1#32
  let v1069 : BitVec 32 := Scalar.muli v19 c1_i32_886
  let v1070 : BitVec 32 := Scalar.addi c0_i32_887 v1069
  v1070.toNat
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c0_i32_913 : BitVec 32 := 0#32
  ![v768.toNat, 0]
def k0_dev46 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_911 : BitVec 32 := 1#32
  let v1095 : BitVec 32 := Scalar.muli v19 c1_i32_911
  let v1096 : BitVec 32 := Scalar.addi c0_i32_912 v1095
  v1096.toNat
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c1_i32_656 : BitVec 32 := 1#32
  let v769 : BitVec 32 := Scalar.subi c1_i32_656 v11
  let c64_i32_657 : BitVec 32 := 64#32
  let v770 : BitVec 32 := Scalar.muli v769 c64_i32_657
  let v771 : BitVec 32 := Scalar.addi v768 v770
  let v1108 : Index := Scalar.indexCast v771
  let c0_918 : Index := 0#32
  ![v1108.toNat, 0]
def k0_off51 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c1_i32_656 : BitVec 32 := 1#32
  let v769 : BitVec 32 := Scalar.subi c1_i32_656 v11
  let c64_i32_657 : BitVec 32 := 64#32
  let v770 : BitVec 32 := Scalar.muli v769 c64_i32_657
  let v771 : BitVec 32 := Scalar.addi v768 v770
  let v1114 : BitVec 32 := Scalar.addi v175 v771
  let c0_i32_924 : BitVec 32 := 0#32
  ![v1114.toNat, 0]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c1408_i32_947 : BitVec 32 := 1408#32
  ![v830.toNat, 1408]
def k0_dev47 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_945 : BitVec 32 := 1#32
  let v1133 : BitVec 32 := Scalar.muli v23 c1_i32_945
  let v1134 : BitVec 32 := Scalar.addi c0_i32_946 v1133
  v1134.toNat
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c1_i32_703 : BitVec 32 := 1#32
  let v831 : BitVec 32 := Scalar.subi c1_i32_703 v7
  let c64_i32_704 : BitVec 32 := 64#32
  let v832 : BitVec 32 := Scalar.muli v831 c64_i32_704
  let v833 : BitVec 32 := Scalar.addi v830 v832
  let v1146 : Index := Scalar.indexCast v833
  let c1408_952 : Index := 1408#32
  ![v1146.toNat, 1408]
def k0_off54 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c1_i32_703 : BitVec 32 := 1#32
  let v831 : BitVec 32 := Scalar.subi c1_i32_703 v7
  let c64_i32_704 : BitVec 32 := 64#32
  let v832 : BitVec 32 := Scalar.muli v831 c64_i32_704
  let v833 : BitVec 32 := Scalar.addi v830 v832
  let v1152 : BitVec 32 := Scalar.addi v175 v833
  let c1408_i32_957 : BitVec 32 := 1408#32
  ![v1152.toNat, 1408]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c2816_i32_980 : BitVec 32 := 2816#32
  ![v892.toNat, 2816]
def k0_dev48 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_978 : BitVec 32 := 1#32
  let v1171 : BitVec 32 := Scalar.muli v15 c1_i32_978
  let v1172 : BitVec 32 := Scalar.addi c0_i32_979 v1171
  v1172.toNat
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c1_i32_750 : BitVec 32 := 1#32
  let v893 : BitVec 32 := Scalar.subi c1_i32_750 v9
  let c64_i32_751 : BitVec 32 := 64#32
  let v894 : BitVec 32 := Scalar.muli v893 c64_i32_751
  let v895 : BitVec 32 := Scalar.addi v892 v894
  let v1189 : Index := Scalar.indexCast v895
  let c2816_990 : Index := 2816#32
  ![v1189.toNat, 2816]
def k0_off57 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c1_i32_750 : BitVec 32 := 1#32
  let v893 : BitVec 32 := Scalar.subi c1_i32_750 v9
  let c64_i32_751 : BitVec 32 := 64#32
  let v894 : BitVec 32 := Scalar.muli v893 c64_i32_751
  let v895 : BitVec 32 := Scalar.addi v892 v894
  let v1195 : BitVec 32 := Scalar.addi v175 v895
  let c2816_i32_996 : BitVec 32 := 2816#32
  ![v1195.toNat, 2816]
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c4224_i32_1019 : BitVec 32 := 4224#32
  ![v954.toNat, 4224]
def k0_dev49 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1017 : BitVec 32 := 1#32
  let v1214 : BitVec 32 := Scalar.muli v19 c1_i32_1017
  let v1215 : BitVec 32 := Scalar.addi c0_i32_1018 v1214
  v1215.toNat
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c1_i32_797 : BitVec 32 := 1#32
  let v955 : BitVec 32 := Scalar.subi c1_i32_797 v11
  let c64_i32_798 : BitVec 32 := 64#32
  let v956 : BitVec 32 := Scalar.muli v955 c64_i32_798
  let v957 : BitVec 32 := Scalar.addi v954 v956
  let v1232 : Index := Scalar.indexCast v957
  let c4224_1029 : Index := 4224#32
  ![v1232.toNat, 4224]
def k0_off60 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c1_i32_797 : BitVec 32 := 1#32
  let v955 : BitVec 32 := Scalar.subi c1_i32_797 v11
  let c64_i32_798 : BitVec 32 := 64#32
  let v956 : BitVec 32 := Scalar.muli v955 c64_i32_798
  let v957 : BitVec 32 := Scalar.addi v954 v956
  let v1238 : BitVec 32 := Scalar.addi v175 v957
  let c4224_i32_1035 : BitVec 32 := 4224#32
  ![v1238.toNat, 4224]
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c5504_i32_1058 : BitVec 32 := 5504#32
  ![v1016.toNat, 5504]
def k0_dev50 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1056 : BitVec 32 := 1#32
  let v1257 : BitVec 32 := Scalar.muli v23 c1_i32_1056
  let v1258 : BitVec 32 := Scalar.addi c0_i32_1057 v1257
  v1258.toNat
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c1_i32_844 : BitVec 32 := 1#32
  let v1017 : BitVec 32 := Scalar.subi c1_i32_844 v7
  let c64_i32_845 : BitVec 32 := 64#32
  let v1018 : BitVec 32 := Scalar.muli v1017 c64_i32_845
  let v1019 : BitVec 32 := Scalar.addi v1016 v1018
  let v1275 : Index := Scalar.indexCast v1019
  let c5504_1068 : Index := 5504#32
  ![v1275.toNat, 5504]
def k0_off63 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c1_i32_844 : BitVec 32 := 1#32
  let v1017 : BitVec 32 := Scalar.subi c1_i32_844 v7
  let c64_i32_845 : BitVec 32 := 64#32
  let v1018 : BitVec 32 := Scalar.muli v1017 c64_i32_845
  let v1019 : BitVec 32 := Scalar.addi v1016 v1018
  let v1281 : BitVec 32 := Scalar.addi v175 v1019
  let c5504_i32_1074 : BitVec 32 := 5504#32
  ![v1281.toNat, 5504]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c6784_i32_1097 : BitVec 32 := 6784#32
  ![v1078.toNat, 6784]
def k0_dev51 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1095 : BitVec 32 := 1#32
  let v1300 : BitVec 32 := Scalar.muli v15 c1_i32_1095
  let v1301 : BitVec 32 := Scalar.addi c0_i32_1096 v1300
  v1301.toNat
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c1_i32_891 : BitVec 32 := 1#32
  let v1079 : BitVec 32 := Scalar.subi c1_i32_891 v9
  let c64_i32_892 : BitVec 32 := 64#32
  let v1080 : BitVec 32 := Scalar.muli v1079 c64_i32_892
  let v1081 : BitVec 32 := Scalar.addi v1078 v1080
  let v1318 : Index := Scalar.indexCast v1081
  let c6784_1107 : Index := 6784#32
  ![v1318.toNat, 6784]
def k0_off66 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c1_i32_891 : BitVec 32 := 1#32
  let v1079 : BitVec 32 := Scalar.subi c1_i32_891 v9
  let c64_i32_892 : BitVec 32 := 64#32
  let v1080 : BitVec 32 := Scalar.muli v1079 c64_i32_892
  let v1081 : BitVec 32 := Scalar.addi v1078 v1080
  let v1324 : BitVec 32 := Scalar.addi v175 v1081
  let c6784_i32_1113 : BitVec 32 := 6784#32
  ![v1324.toNat, 6784]
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c128_i32_915 : BitVec 32 := 128#32
  let v1103 : BitVec 32 := Scalar.muli v9 c128_i32_915
  let v1104 : BitVec 32 := Scalar.subi v768 v1103
  let c0_i32_1136 : BitVec 32 := 0#32
  ![v1104.toNat, 0]
def k0_dev52 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1134 : BitVec 32 := 1#32
  let v1343 : BitVec 32 := Scalar.muli v15 c1_i32_1134
  let v1344 : BitVec 32 := Scalar.addi c0_i32_1135 v1343
  v1344.toNat
def k0_cond44 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1141 : BitVec 32 := 7#32
  let v1356 : BitVec 1 := Scalar.cmpi .slt arg19 c7_i32_1141
  let v1357 : BitVec 32 := Scalar.extui v1356
  let c0_i32_1142 : BitVec 32 := 0#32
  let v1358 : BitVec 1 := Scalar.cmpi .ne v1357 c0_i32_1142
  v1358

def k0_dev53 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c128_i32_915 : BitVec 32 := 128#32
  let v1103 : BitVec 32 := Scalar.muli v9 c128_i32_915
  let v1104 : BitVec 32 := Scalar.subi v768 v1103
  let c1_i32_916 : BitVec 32 := 1#32
  let v1105 : BitVec 32 := Scalar.subi c1_i32_916 v9
  let c128_i32_917 : BitVec 32 := 128#32
  let v1106 : BitVec 32 := Scalar.muli v1105 c128_i32_917
  let v1107 : BitVec 32 := Scalar.addi v1104 v1106
  let v1364 : Index := Scalar.indexCast v1107
  let c0_1148 : Index := 0#32
  ![v1364.toNat, 0]
def k0_off69 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c128_i32_915 : BitVec 32 := 128#32
  let v1103 : BitVec 32 := Scalar.muli v9 c128_i32_915
  let v1104 : BitVec 32 := Scalar.subi v768 v1103
  let c1_i32_916 : BitVec 32 := 1#32
  let v1105 : BitVec 32 := Scalar.subi c1_i32_916 v9
  let c128_i32_917 : BitVec 32 := 128#32
  let v1106 : BitVec 32 := Scalar.muli v1105 c128_i32_917
  let v1107 : BitVec 32 := Scalar.addi v1104 v1106
  let v1370 : BitVec 32 := Scalar.addi v175 v1107
  let c0_i32_1154 : BitVec 32 := 0#32
  ![v1370.toNat, 0]
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c128_i32_949 : BitVec 32 := 128#32
  let v1141 : BitVec 32 := Scalar.muli v11 c128_i32_949
  let v1142 : BitVec 32 := Scalar.subi v830 v1141
  let c1408_i32_1177 : BitVec 32 := 1408#32
  ![v1142.toNat, 1408]
def k0_dev54 (d0 : Dev nD) : Nat :=
  let c0_i32_1176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1175 : BitVec 32 := 1#32
  let v1389 : BitVec 32 := Scalar.muli v19 c1_i32_1175
  let v1390 : BitVec 32 := Scalar.addi c0_i32_1176 v1389
  v1390.toNat
def k0_cond46 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1182 : BitVec 32 := 7#32
  let v1402 : BitVec 1 := Scalar.cmpi .slt arg19 c7_i32_1182
  let v1403 : BitVec 32 := Scalar.extui v1402
  let c0_i32_1183 : BitVec 32 := 0#32
  let v1404 : BitVec 1 := Scalar.cmpi .ne v1403 c0_i32_1183
  v1404

def k0_dev55 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off71 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c128_i32_949 : BitVec 32 := 128#32
  let v1141 : BitVec 32 := Scalar.muli v11 c128_i32_949
  let v1142 : BitVec 32 := Scalar.subi v830 v1141
  let c1_i32_950 : BitVec 32 := 1#32
  let v1143 : BitVec 32 := Scalar.subi c1_i32_950 v11
  let c128_i32_951 : BitVec 32 := 128#32
  let v1144 : BitVec 32 := Scalar.muli v1143 c128_i32_951
  let v1145 : BitVec 32 := Scalar.addi v1142 v1144
  let v1410 : Index := Scalar.indexCast v1145
  let c1408_1189 : Index := 1408#32
  ![v1410.toNat, 1408]
def k0_off72 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c128_i32_949 : BitVec 32 := 128#32
  let v1141 : BitVec 32 := Scalar.muli v11 c128_i32_949
  let v1142 : BitVec 32 := Scalar.subi v830 v1141
  let c1_i32_950 : BitVec 32 := 1#32
  let v1143 : BitVec 32 := Scalar.subi c1_i32_950 v11
  let c128_i32_951 : BitVec 32 := 128#32
  let v1144 : BitVec 32 := Scalar.muli v1143 c128_i32_951
  let v1145 : BitVec 32 := Scalar.addi v1142 v1144
  let v1416 : BitVec 32 := Scalar.addi v175 v1145
  let c1408_i32_1195 : BitVec 32 := 1408#32
  ![v1416.toNat, 1408]
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c128_i32_982 : BitVec 32 := 128#32
  let v1179 : BitVec 32 := Scalar.muli v7 c128_i32_982
  let v1180 : BitVec 32 := Scalar.subi v892 v1179
  let c2816_i32_1218 : BitVec 32 := 2816#32
  ![v1180.toNat, 2816]
def k0_dev56 (d0 : Dev nD) : Nat :=
  let c0_i32_1217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1216 : BitVec 32 := 1#32
  let v1435 : BitVec 32 := Scalar.muli v23 c1_i32_1216
  let v1436 : BitVec 32 := Scalar.addi c0_i32_1217 v1435
  v1436.toNat
def k0_cond48 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1223 : BitVec 32 := 7#32
  let v1448 : BitVec 1 := Scalar.cmpi .slt arg19 c7_i32_1223
  let v1449 : BitVec 32 := Scalar.extui v1448
  let c0_i32_1224 : BitVec 32 := 0#32
  let v1450 : BitVec 1 := Scalar.cmpi .ne v1449 c0_i32_1224
  v1450

def k0_dev57 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c128_i32_982 : BitVec 32 := 128#32
  let v1179 : BitVec 32 := Scalar.muli v7 c128_i32_982
  let v1180 : BitVec 32 := Scalar.subi v892 v1179
  let c1_i32_983 : BitVec 32 := 1#32
  let v1181 : BitVec 32 := Scalar.subi c1_i32_983 v7
  let c128_i32_984 : BitVec 32 := 128#32
  let v1182 : BitVec 32 := Scalar.muli v1181 c128_i32_984
  let v1183 : BitVec 32 := Scalar.addi v1180 v1182
  let v1456 : Index := Scalar.indexCast v1183
  let c2816_1230 : Index := 2816#32
  ![v1456.toNat, 2816]
def k0_off75 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c128_i32_982 : BitVec 32 := 128#32
  let v1179 : BitVec 32 := Scalar.muli v7 c128_i32_982
  let v1180 : BitVec 32 := Scalar.subi v892 v1179
  let c1_i32_983 : BitVec 32 := 1#32
  let v1181 : BitVec 32 := Scalar.subi c1_i32_983 v7
  let c128_i32_984 : BitVec 32 := 128#32
  let v1182 : BitVec 32 := Scalar.muli v1181 c128_i32_984
  let v1183 : BitVec 32 := Scalar.addi v1180 v1182
  let v1462 : BitVec 32 := Scalar.addi v175 v1183
  let c2816_i32_1236 : BitVec 32 := 2816#32
  ![v1462.toNat, 2816]
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c128_i32_1021 : BitVec 32 := 128#32
  let v1222 : BitVec 32 := Scalar.muli v9 c128_i32_1021
  let v1223 : BitVec 32 := Scalar.subi v954 v1222
  let c4224_i32_1259 : BitVec 32 := 4224#32
  ![v1223.toNat, 4224]
def k0_dev58 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1257 : BitVec 32 := 1#32
  let v1481 : BitVec 32 := Scalar.muli v15 c1_i32_1257
  let v1482 : BitVec 32 := Scalar.addi c0_i32_1258 v1481
  v1482.toNat
def k0_cond50 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1264 : BitVec 32 := 7#32
  let v1494 : BitVec 1 := Scalar.cmpi .slt arg19 c7_i32_1264
  let v1495 : BitVec 32 := Scalar.extui v1494
  let c0_i32_1265 : BitVec 32 := 0#32
  let v1496 : BitVec 1 := Scalar.cmpi .ne v1495 c0_i32_1265
  v1496

def k0_dev59 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c128_i32_1021 : BitVec 32 := 128#32
  let v1222 : BitVec 32 := Scalar.muli v9 c128_i32_1021
  let v1223 : BitVec 32 := Scalar.subi v954 v1222
  let c1_i32_1022 : BitVec 32 := 1#32
  let v1224 : BitVec 32 := Scalar.subi c1_i32_1022 v9
  let c128_i32_1023 : BitVec 32 := 128#32
  let v1225 : BitVec 32 := Scalar.muli v1224 c128_i32_1023
  let v1226 : BitVec 32 := Scalar.addi v1223 v1225
  let v1502 : Index := Scalar.indexCast v1226
  let c4224_1271 : Index := 4224#32
  ![v1502.toNat, 4224]
def k0_off78 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c128_i32_1021 : BitVec 32 := 128#32
  let v1222 : BitVec 32 := Scalar.muli v9 c128_i32_1021
  let v1223 : BitVec 32 := Scalar.subi v954 v1222
  let c1_i32_1022 : BitVec 32 := 1#32
  let v1224 : BitVec 32 := Scalar.subi c1_i32_1022 v9
  let c128_i32_1023 : BitVec 32 := 128#32
  let v1225 : BitVec 32 := Scalar.muli v1224 c128_i32_1023
  let v1226 : BitVec 32 := Scalar.addi v1223 v1225
  let v1508 : BitVec 32 := Scalar.addi v175 v1226
  let c4224_i32_1277 : BitVec 32 := 4224#32
  ![v1508.toNat, 4224]
def k0_off79 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c128_i32_1060 : BitVec 32 := 128#32
  let v1265 : BitVec 32 := Scalar.muli v11 c128_i32_1060
  let v1266 : BitVec 32 := Scalar.subi v1016 v1265
  let c5504_i32_1300 : BitVec 32 := 5504#32
  ![v1266.toNat, 5504]
def k0_dev60 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1298 : BitVec 32 := 1#32
  let v1527 : BitVec 32 := Scalar.muli v19 c1_i32_1298
  let v1528 : BitVec 32 := Scalar.addi c0_i32_1299 v1527
  v1528.toNat
def k0_cond52 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1305 : BitVec 32 := 7#32
  let v1540 : BitVec 1 := Scalar.cmpi .slt arg19 c7_i32_1305
  let v1541 : BitVec 32 := Scalar.extui v1540
  let c0_i32_1306 : BitVec 32 := 0#32
  let v1542 : BitVec 1 := Scalar.cmpi .ne v1541 c0_i32_1306
  v1542

def k0_dev61 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c128_i32_1060 : BitVec 32 := 128#32
  let v1265 : BitVec 32 := Scalar.muli v11 c128_i32_1060
  let v1266 : BitVec 32 := Scalar.subi v1016 v1265
  let c1_i32_1061 : BitVec 32 := 1#32
  let v1267 : BitVec 32 := Scalar.subi c1_i32_1061 v11
  let c128_i32_1062 : BitVec 32 := 128#32
  let v1268 : BitVec 32 := Scalar.muli v1267 c128_i32_1062
  let v1269 : BitVec 32 := Scalar.addi v1266 v1268
  let v1548 : Index := Scalar.indexCast v1269
  let c5504_1312 : Index := 5504#32
  ![v1548.toNat, 5504]
def k0_off81 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c128_i32_1060 : BitVec 32 := 128#32
  let v1265 : BitVec 32 := Scalar.muli v11 c128_i32_1060
  let v1266 : BitVec 32 := Scalar.subi v1016 v1265
  let c1_i32_1061 : BitVec 32 := 1#32
  let v1267 : BitVec 32 := Scalar.subi c1_i32_1061 v11
  let c128_i32_1062 : BitVec 32 := 128#32
  let v1268 : BitVec 32 := Scalar.muli v1267 c128_i32_1062
  let v1269 : BitVec 32 := Scalar.addi v1266 v1268
  let v1554 : BitVec 32 := Scalar.addi v175 v1269
  let c5504_i32_1318 : BitVec 32 := 5504#32
  ![v1554.toNat, 5504]
def k0_off82 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c128_i32_1099 : BitVec 32 := 128#32
  let v1308 : BitVec 32 := Scalar.muli v7 c128_i32_1099
  let v1309 : BitVec 32 := Scalar.subi v1078 v1308
  let c6784_i32_1341 : BitVec 32 := 6784#32
  ![v1309.toNat, 6784]
def k0_dev62 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1339 : BitVec 32 := 1#32
  let v1573 : BitVec 32 := Scalar.muli v23 c1_i32_1339
  let v1574 : BitVec 32 := Scalar.addi c0_i32_1340 v1573
  v1574.toNat
def k0_cond54 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1346 : BitVec 32 := 7#32
  let v1586 : BitVec 1 := Scalar.cmpi .slt arg19 c7_i32_1346
  let v1587 : BitVec 32 := Scalar.extui v1586
  let c0_i32_1347 : BitVec 32 := 0#32
  let v1588 : BitVec 1 := Scalar.cmpi .ne v1587 c0_i32_1347
  v1588

def k0_dev63 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off83 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c128_i32_1099 : BitVec 32 := 128#32
  let v1308 : BitVec 32 := Scalar.muli v7 c128_i32_1099
  let v1309 : BitVec 32 := Scalar.subi v1078 v1308
  let c1_i32_1100 : BitVec 32 := 1#32
  let v1310 : BitVec 32 := Scalar.subi c1_i32_1100 v7
  let c128_i32_1101 : BitVec 32 := 128#32
  let v1311 : BitVec 32 := Scalar.muli v1310 c128_i32_1101
  let v1312 : BitVec 32 := Scalar.addi v1309 v1311
  let v1594 : Index := Scalar.indexCast v1312
  let c6784_1353 : Index := 6784#32
  ![v1594.toNat, 6784]
def k0_off84 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c128_i32_1099 : BitVec 32 := 128#32
  let v1308 : BitVec 32 := Scalar.muli v7 c128_i32_1099
  let v1309 : BitVec 32 := Scalar.subi v1078 v1308
  let c1_i32_1100 : BitVec 32 := 1#32
  let v1310 : BitVec 32 := Scalar.subi c1_i32_1100 v7
  let c128_i32_1101 : BitVec 32 := 128#32
  let v1311 : BitVec 32 := Scalar.muli v1310 c128_i32_1101
  let v1312 : BitVec 32 := Scalar.addi v1309 v1311
  let v1600 : BitVec 32 := Scalar.addi v175 v1312
  let c6784_i32_1359 : BitVec 32 := 6784#32
  ![v1600.toNat, 6784]
def k0_cond55 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1362 : BitVec 32 := 7#32
  let v1606 : BitVec 1 := Scalar.cmpi .slt arg19 c7_i32_1362
  let v1607 : BitVec 32 := Scalar.extui v1606
  let c0_i32_1363 : BitVec 32 := 0#32
  let v1608 : BitVec 1 := Scalar.cmpi .ne v1607 c0_i32_1363
  v1608

def k0_off85 (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c1_i32_1584 : BitVec 32 := 1#32
  let v1841 : BitVec 32 := Scalar.addi arg19 c1_i32_1584
  let c7_i32_1585 : BitVec 32 := 7#32
  let v1842 : BitVec 32 := Scalar.minsi v1841 c7_i32_1585
  let c512_i32_1586 : BitVec 32 := 512#32
  let v1843 : BitVec 32 := Scalar.muli v1842 c512_i32_1586
  let v1844 : Index := Scalar.indexCast v1843
  let c0_1587 : Index := 0#32
  ![v1844.toNat, 0]
def k0_off86 (d0 : Dev nD) : Fin 2 → Nat :=
  let c1_i32_1622 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let v1891 : BitVec 32 := Scalar.subi c1_i32_1622 v7
  let c256_i32_1623 : BitVec 32 := 256#32
  let v1892 : BitVec 32 := Scalar.muli v1891 c256_i32_1623
  let v1893 : Index := Scalar.indexCast v1892
  let c0_1624 : Index := 0#32
  ![v1893.toNat, 0]
def k0_dev64 (d0 : Dev nD) : Nat :=
  let c0_i32_1631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1630 : BitVec 32 := 1#32
  let v1899 : BitVec 32 := Scalar.muli v15 c1_i32_1630
  let v1900 : BitVec 32 := Scalar.addi c0_i32_1631 v1899
  v1900.toNat
def k0_off87 (d0 : Dev nD) : Fin 2 → Nat :=
  let c1_i32_1640 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v1909 : BitVec 32 := Scalar.subi c1_i32_1640 v9
  let c256_i32_1641 : BitVec 32 := 256#32
  let v1910 : BitVec 32 := Scalar.muli v1909 c256_i32_1641
  let v1911 : Index := Scalar.indexCast v1910
  let c1408_1642 : Index := 1408#32
  ![v1911.toNat, 1408]
def k0_dev65 (d0 : Dev nD) : Nat :=
  let c0_i32_1649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1648 : BitVec 32 := 1#32
  let v1917 : BitVec 32 := Scalar.muli v19 c1_i32_1648
  let v1918 : BitVec 32 := Scalar.addi c0_i32_1649 v1917
  v1918.toNat
def k0_off88 (d0 : Dev nD) : Fin 2 → Nat :=
  let c1_i32_1658 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v1927 : BitVec 32 := Scalar.subi c1_i32_1658 v11
  let c256_i32_1659 : BitVec 32 := 256#32
  let v1928 : BitVec 32 := Scalar.muli v1927 c256_i32_1659
  let v1929 : Index := Scalar.indexCast v1928
  let c2816_1660 : Index := 2816#32
  ![v1929.toNat, 2816]
def k0_dev66 (d0 : Dev nD) : Nat :=
  let c0_i32_1667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1666 : BitVec 32 := 1#32
  let v1935 : BitVec 32 := Scalar.muli v23 c1_i32_1666
  let v1936 : BitVec 32 := Scalar.addi c0_i32_1667 v1935
  v1936.toNat
def k0_off89 (d0 : Dev nD) : Fin 2 → Nat :=
  let c1_i32_1676 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let v1945 : BitVec 32 := Scalar.subi c1_i32_1676 v7
  let c256_i32_1677 : BitVec 32 := 256#32
  let v1946 : BitVec 32 := Scalar.muli v1945 c256_i32_1677
  let v1947 : Index := Scalar.indexCast v1946
  let c4224_1678 : Index := 4224#32
  ![v1947.toNat, 4224]
def k0_dev67 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1684 : BitVec 32 := 1#32
  let v1953 : BitVec 32 := Scalar.muli v15 c1_i32_1684
  let v1954 : BitVec 32 := Scalar.addi c0_i32_1685 v1953
  v1954.toNat
def k0_off90 (d0 : Dev nD) : Fin 2 → Nat :=
  let c1_i32_1694 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let v1963 : BitVec 32 := Scalar.subi c1_i32_1694 v9
  let c256_i32_1695 : BitVec 32 := 256#32
  let v1964 : BitVec 32 := Scalar.muli v1963 c256_i32_1695
  let v1965 : Index := Scalar.indexCast v1964
  let c5504_1696 : Index := 5504#32
  ![v1965.toNat, 5504]
def k0_dev68 (d0 : Dev nD) : Nat :=
  let c0_i32_1703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1702 : BitVec 32 := 1#32
  let v1971 : BitVec 32 := Scalar.muli v19 c1_i32_1702
  let v1972 : BitVec 32 := Scalar.addi c0_i32_1703 v1971
  v1972.toNat
def k0_off91 (d0 : Dev nD) : Fin 2 → Nat :=
  let c1_i32_1712 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let v1981 : BitVec 32 := Scalar.subi c1_i32_1712 v11
  let c256_i32_1713 : BitVec 32 := 256#32
  let v1982 : BitVec 32 := Scalar.muli v1981 c256_i32_1713
  let v1983 : Index := Scalar.indexCast v1982
  let c6784_1714 : Index := 6784#32
  ![v1983.toNat, 6784]
def k0_dev69 (d0 : Dev nD) : Nat :=
  let c0_i32_1721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1720 : BitVec 32 := 1#32
  let v1989 : BitVec 32 := Scalar.muli v23 c1_i32_1720
  let v1990 : BitVec 32 := Scalar.addi c0_i32_1721 v1989
  v1990.toNat
def k0_cond56 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1377 : BitVec 32 := 7#32
  let v1619 : BitVec 1 := Scalar.cmpi .slt arg19 c7_i32_1377
  let v1620 : BitVec 32 := Scalar.extui v1619
  let c0_i32_1378 : BitVec 32 := 0#32
  let v1621 : BitVec 1 := Scalar.cmpi .ne v1620 c0_i32_1378
  v1621

def k0_dev70 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off92 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c128_i32_915 : BitVec 32 := 128#32
  let v1103 : BitVec 32 := Scalar.muli v9 c128_i32_915
  let v1104 : BitVec 32 := Scalar.subi v768 v1103
  let c256_i32_1138 : BitVec 32 := 256#32
  let v1351 : BitVec 32 := Scalar.muli v7 c256_i32_1138
  let v1352 : BitVec 32 := Scalar.subi v1104 v1351
  let c1_i32_1139 : BitVec 32 := 1#32
  let v1353 : BitVec 32 := Scalar.subi c1_i32_1139 v7
  let c256_i32_1140 : BitVec 32 := 256#32
  let v1354 : BitVec 32 := Scalar.muli v1353 c256_i32_1140
  let v1355 : BitVec 32 := Scalar.addi v1352 v1354
  let v1627 : Index := Scalar.indexCast v1355
  let c0_1384 : Index := 0#32
  ![v1627.toNat, 0]
def k0_off93 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_131 : BitVec 32 := 256#32
  let v176 : BitVec 32 := Scalar.muli v7 c256_i32_131
  let c1_i32_3 : BitVec 32 := 1#32
  let v8 : BitVec 32 := Scalar.shrsi v5 c1_i32_3
  let c1_i32_4 : BitVec 32 := 1#32
  let v9 : BitVec 32 := Scalar.andi v8 c1_i32_4
  let c128_i32_173 : BitVec 32 := 128#32
  let v224 : BitVec 32 := Scalar.muli v9 c128_i32_173
  let v225 : BitVec 32 := Scalar.addi v176 v224
  let c2_i32 : BitVec 32 := 2#32
  let v10 : BitVec 32 := Scalar.shrsi v5 c2_i32
  let c1_i32_5 : BitVec 32 := 1#32
  let v11 : BitVec 32 := Scalar.andi v10 c1_i32_5
  let c64_i32_410 : BitVec 32 := 64#32
  let v488 : BitVec 32 := Scalar.muli v11 c64_i32_410
  let v489 : BitVec 32 := Scalar.addi v225 v488
  let c64_i32_655 : BitVec 32 := 64#32
  let v767 : BitVec 32 := Scalar.muli v11 c64_i32_655
  let v768 : BitVec 32 := Scalar.subi v489 v767
  let c128_i32_915 : BitVec 32 := 128#32
  let v1103 : BitVec 32 := Scalar.muli v9 c128_i32_915
  let v1104 : BitVec 32 := Scalar.subi v768 v1103
  let c256_i32_1138 : BitVec 32 := 256#32
  let v1351 : BitVec 32 := Scalar.muli v7 c256_i32_1138
  let v1352 : BitVec 32 := Scalar.subi v1104 v1351
  let c1_i32_1139 : BitVec 32 := 1#32
  let v1353 : BitVec 32 := Scalar.subi c1_i32_1139 v7
  let c256_i32_1140 : BitVec 32 := 256#32
  let v1354 : BitVec 32 := Scalar.muli v1353 c256_i32_1140
  let v1355 : BitVec 32 := Scalar.addi v1352 v1354
  let v1633 : BitVec 32 := Scalar.addi v175 v1355
  let c0_i32_1390 : BitVec 32 := 0#32
  ![v1633.toNat, 0]
def k0_cond57 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1393 : BitVec 32 := 7#32
  let v1639 : BitVec 1 := Scalar.cmpi .slt arg19 c7_i32_1393
  let v1640 : BitVec 32 := Scalar.extui v1639
  let c0_i32_1394 : BitVec 32 := 0#32
  let v1641 : BitVec 1 := Scalar.cmpi .ne v1640 c0_i32_1394
  v1641

def k0_dev71 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_cond58 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1408 : BitVec 32 := 7#32
  let v1652 : BitVec 1 := Scalar.cmpi .slt arg19 c7_i32_1408
  let v1653 : BitVec 32 := Scalar.extui v1652
  let c0_i32_1409 : BitVec 32 := 0#32
  let v1654 : BitVec 1 := Scalar.cmpi .ne v1653 c0_i32_1409
  v1654

def k0_dev72 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off94 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c128_i32_949 : BitVec 32 := 128#32
  let v1141 : BitVec 32 := Scalar.muli v11 c128_i32_949
  let v1142 : BitVec 32 := Scalar.subi v830 v1141
  let c256_i32_1179 : BitVec 32 := 256#32
  let v1397 : BitVec 32 := Scalar.muli v9 c256_i32_1179
  let v1398 : BitVec 32 := Scalar.subi v1142 v1397
  let c1_i32_1180 : BitVec 32 := 1#32
  let v1399 : BitVec 32 := Scalar.subi c1_i32_1180 v9
  let c256_i32_1181 : BitVec 32 := 256#32
  let v1400 : BitVec 32 := Scalar.muli v1399 c256_i32_1181
  let v1401 : BitVec 32 := Scalar.addi v1398 v1400
  let v1660 : Index := Scalar.indexCast v1401
  let c1408_1415 : Index := 1408#32
  ![v1660.toNat, 1408]
def k0_off95 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_132 : BitVec 32 := 256#32
  let v177 : BitVec 32 := Scalar.muli v9 c256_i32_132
  let c2_i32 : BitVec 32 := 2#32
  let v10 : BitVec 32 := Scalar.shrsi v5 c2_i32
  let c1_i32_5 : BitVec 32 := 1#32
  let v11 : BitVec 32 := Scalar.andi v10 c1_i32_5
  let c128_i32_213 : BitVec 32 := 128#32
  let v268 : BitVec 32 := Scalar.muli v11 c128_i32_213
  let v269 : BitVec 32 := Scalar.addi v177 v268
  let c0_i32 : BitVec 32 := 0#32
  let v6 : BitVec 32 := Scalar.shrsi v5 c0_i32
  let c1_i32_2 : BitVec 32 := 1#32
  let v7 : BitVec 32 := Scalar.andi v6 c1_i32_2
  let c64_i32_450 : BitVec 32 := 64#32
  let v532 : BitVec 32 := Scalar.muli v7 c64_i32_450
  let v533 : BitVec 32 := Scalar.addi v269 v532
  let c64_i32_702 : BitVec 32 := 64#32
  let v829 : BitVec 32 := Scalar.muli v7 c64_i32_702
  let v830 : BitVec 32 := Scalar.subi v533 v829
  let c128_i32_949 : BitVec 32 := 128#32
  let v1141 : BitVec 32 := Scalar.muli v11 c128_i32_949
  let v1142 : BitVec 32 := Scalar.subi v830 v1141
  let c256_i32_1179 : BitVec 32 := 256#32
  let v1397 : BitVec 32 := Scalar.muli v9 c256_i32_1179
  let v1398 : BitVec 32 := Scalar.subi v1142 v1397
  let c1_i32_1180 : BitVec 32 := 1#32
  let v1399 : BitVec 32 := Scalar.subi c1_i32_1180 v9
  let c256_i32_1181 : BitVec 32 := 256#32
  let v1400 : BitVec 32 := Scalar.muli v1399 c256_i32_1181
  let v1401 : BitVec 32 := Scalar.addi v1398 v1400
  let v1666 : BitVec 32 := Scalar.addi v175 v1401
  let c1408_i32_1421 : BitVec 32 := 1408#32
  ![v1666.toNat, 1408]
def k0_cond59 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1424 : BitVec 32 := 7#32
  let v1672 : BitVec 1 := Scalar.cmpi .slt arg19 c7_i32_1424
  let v1673 : BitVec 32 := Scalar.extui v1672
  let c0_i32_1425 : BitVec 32 := 0#32
  let v1674 : BitVec 1 := Scalar.cmpi .ne v1673 c0_i32_1425
  v1674

def k0_dev73 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_cond60 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1439 : BitVec 32 := 7#32
  let v1685 : BitVec 1 := Scalar.cmpi .slt arg19 c7_i32_1439
  let v1686 : BitVec 32 := Scalar.extui v1685
  let c0_i32_1440 : BitVec 32 := 0#32
  let v1687 : BitVec 1 := Scalar.cmpi .ne v1686 c0_i32_1440
  v1687

def k0_dev74 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off96 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c128_i32_982 : BitVec 32 := 128#32
  let v1179 : BitVec 32 := Scalar.muli v7 c128_i32_982
  let v1180 : BitVec 32 := Scalar.subi v892 v1179
  let c256_i32_1220 : BitVec 32 := 256#32
  let v1443 : BitVec 32 := Scalar.muli v11 c256_i32_1220
  let v1444 : BitVec 32 := Scalar.subi v1180 v1443
  let c1_i32_1221 : BitVec 32 := 1#32
  let v1445 : BitVec 32 := Scalar.subi c1_i32_1221 v11
  let c256_i32_1222 : BitVec 32 := 256#32
  let v1446 : BitVec 32 := Scalar.muli v1445 c256_i32_1222
  let v1447 : BitVec 32 := Scalar.addi v1444 v1446
  let v1693 : Index := Scalar.indexCast v1447
  let c2816_1446 : Index := 2816#32
  ![v1693.toNat, 2816]
def k0_off97 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_133 : BitVec 32 := 256#32
  let v178 : BitVec 32 := Scalar.muli v11 c256_i32_133
  let c0_i32 : BitVec 32 := 0#32
  let v6 : BitVec 32 := Scalar.shrsi v5 c0_i32
  let c1_i32_2 : BitVec 32 := 1#32
  let v7 : BitVec 32 := Scalar.andi v6 c1_i32_2
  let c128_i32_253 : BitVec 32 := 128#32
  let v312 : BitVec 32 := Scalar.muli v7 c128_i32_253
  let v313 : BitVec 32 := Scalar.addi v178 v312
  let c1_i32_3 : BitVec 32 := 1#32
  let v8 : BitVec 32 := Scalar.shrsi v5 c1_i32_3
  let c1_i32_4 : BitVec 32 := 1#32
  let v9 : BitVec 32 := Scalar.andi v8 c1_i32_4
  let c64_i32_490 : BitVec 32 := 64#32
  let v576 : BitVec 32 := Scalar.muli v9 c64_i32_490
  let v577 : BitVec 32 := Scalar.addi v313 v576
  let c64_i32_749 : BitVec 32 := 64#32
  let v891 : BitVec 32 := Scalar.muli v9 c64_i32_749
  let v892 : BitVec 32 := Scalar.subi v577 v891
  let c128_i32_982 : BitVec 32 := 128#32
  let v1179 : BitVec 32 := Scalar.muli v7 c128_i32_982
  let v1180 : BitVec 32 := Scalar.subi v892 v1179
  let c256_i32_1220 : BitVec 32 := 256#32
  let v1443 : BitVec 32 := Scalar.muli v11 c256_i32_1220
  let v1444 : BitVec 32 := Scalar.subi v1180 v1443
  let c1_i32_1221 : BitVec 32 := 1#32
  let v1445 : BitVec 32 := Scalar.subi c1_i32_1221 v11
  let c256_i32_1222 : BitVec 32 := 256#32
  let v1446 : BitVec 32 := Scalar.muli v1445 c256_i32_1222
  let v1447 : BitVec 32 := Scalar.addi v1444 v1446
  let v1699 : BitVec 32 := Scalar.addi v175 v1447
  let c2816_i32_1452 : BitVec 32 := 2816#32
  ![v1699.toNat, 2816]
def k0_cond61 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1455 : BitVec 32 := 7#32
  let v1705 : BitVec 1 := Scalar.cmpi .slt arg19 c7_i32_1455
  let v1706 : BitVec 32 := Scalar.extui v1705
  let c0_i32_1456 : BitVec 32 := 0#32
  let v1707 : BitVec 1 := Scalar.cmpi .ne v1706 c0_i32_1456
  v1707

def k0_dev75 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_cond62 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1470 : BitVec 32 := 7#32
  let v1718 : BitVec 1 := Scalar.cmpi .slt arg19 c7_i32_1470
  let v1719 : BitVec 32 := Scalar.extui v1718
  let c0_i32_1471 : BitVec 32 := 0#32
  let v1720 : BitVec 1 := Scalar.cmpi .ne v1719 c0_i32_1471
  v1720

def k0_dev76 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_off98 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c128_i32_1021 : BitVec 32 := 128#32
  let v1222 : BitVec 32 := Scalar.muli v9 c128_i32_1021
  let v1223 : BitVec 32 := Scalar.subi v954 v1222
  let c256_i32_1261 : BitVec 32 := 256#32
  let v1489 : BitVec 32 := Scalar.muli v7 c256_i32_1261
  let v1490 : BitVec 32 := Scalar.subi v1223 v1489
  let c1_i32_1262 : BitVec 32 := 1#32
  let v1491 : BitVec 32 := Scalar.subi c1_i32_1262 v7
  let c256_i32_1263 : BitVec 32 := 256#32
  let v1492 : BitVec 32 := Scalar.muli v1491 c256_i32_1263
  let v1493 : BitVec 32 := Scalar.addi v1490 v1492
  let v1726 : Index := Scalar.indexCast v1493
  let c4224_1477 : Index := 4224#32
  ![v1726.toNat, 4224]
def k0_off99 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32 : BitVec 32 := 0#32
  let v6 : BitVec 32 := Scalar.shrsi v5 c0_i32
  let c1_i32_2 : BitVec 32 := 1#32
  let v7 : BitVec 32 := Scalar.andi v6 c1_i32_2
  let c256_i32_134 : BitVec 32 := 256#32
  let v179 : BitVec 32 := Scalar.muli v7 c256_i32_134
  let c1_i32_3 : BitVec 32 := 1#32
  let v8 : BitVec 32 := Scalar.shrsi v5 c1_i32_3
  let c1_i32_4 : BitVec 32 := 1#32
  let v9 : BitVec 32 := Scalar.andi v8 c1_i32_4
  let c128_i32_293 : BitVec 32 := 128#32
  let v356 : BitVec 32 := Scalar.muli v9 c128_i32_293
  let v357 : BitVec 32 := Scalar.addi v179 v356
  let c2_i32 : BitVec 32 := 2#32
  let v10 : BitVec 32 := Scalar.shrsi v5 c2_i32
  let c1_i32_5 : BitVec 32 := 1#32
  let v11 : BitVec 32 := Scalar.andi v10 c1_i32_5
  let c64_i32_530 : BitVec 32 := 64#32
  let v620 : BitVec 32 := Scalar.muli v11 c64_i32_530
  let v621 : BitVec 32 := Scalar.addi v357 v620
  let c64_i32_796 : BitVec 32 := 64#32
  let v953 : BitVec 32 := Scalar.muli v11 c64_i32_796
  let v954 : BitVec 32 := Scalar.subi v621 v953
  let c128_i32_1021 : BitVec 32 := 128#32
  let v1222 : BitVec 32 := Scalar.muli v9 c128_i32_1021
  let v1223 : BitVec 32 := Scalar.subi v954 v1222
  let c256_i32_1261 : BitVec 32 := 256#32
  let v1489 : BitVec 32 := Scalar.muli v7 c256_i32_1261
  let v1490 : BitVec 32 := Scalar.subi v1223 v1489
  let c1_i32_1262 : BitVec 32 := 1#32
  let v1491 : BitVec 32 := Scalar.subi c1_i32_1262 v7
  let c256_i32_1263 : BitVec 32 := 256#32
  let v1492 : BitVec 32 := Scalar.muli v1491 c256_i32_1263
  let v1493 : BitVec 32 := Scalar.addi v1490 v1492
  let v1732 : BitVec 32 := Scalar.addi v175 v1493
  let c4224_i32_1483 : BitVec 32 := 4224#32
  ![v1732.toNat, 4224]
def k0_cond63 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1486 : BitVec 32 := 7#32
  let v1738 : BitVec 1 := Scalar.cmpi .slt arg19 c7_i32_1486
  let v1739 : BitVec 32 := Scalar.extui v1738
  let c0_i32_1487 : BitVec 32 := 0#32
  let v1740 : BitVec 1 := Scalar.cmpi .ne v1739 c0_i32_1487
  v1740

def k0_dev77 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_cond64 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1501 : BitVec 32 := 7#32
  let v1751 : BitVec 1 := Scalar.cmpi .slt arg19 c7_i32_1501
  let v1752 : BitVec 32 := Scalar.extui v1751
  let c0_i32_1502 : BitVec 32 := 0#32
  let v1753 : BitVec 1 := Scalar.cmpi .ne v1752 c0_i32_1502
  v1753

def k0_dev78 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
def k0_off100 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c128_i32_1060 : BitVec 32 := 128#32
  let v1265 : BitVec 32 := Scalar.muli v11 c128_i32_1060
  let v1266 : BitVec 32 := Scalar.subi v1016 v1265
  let c256_i32_1302 : BitVec 32 := 256#32
  let v1535 : BitVec 32 := Scalar.muli v9 c256_i32_1302
  let v1536 : BitVec 32 := Scalar.subi v1266 v1535
  let c1_i32_1303 : BitVec 32 := 1#32
  let v1537 : BitVec 32 := Scalar.subi c1_i32_1303 v9
  let c256_i32_1304 : BitVec 32 := 256#32
  let v1538 : BitVec 32 := Scalar.muli v1537 c256_i32_1304
  let v1539 : BitVec 32 := Scalar.addi v1536 v1538
  let v1759 : Index := Scalar.indexCast v1539
  let c5504_1508 : Index := 5504#32
  ![v1759.toNat, 5504]
def k0_off101 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c256_i32_135 : BitVec 32 := 256#32
  let v180 : BitVec 32 := Scalar.muli v9 c256_i32_135
  let c2_i32 : BitVec 32 := 2#32
  let v10 : BitVec 32 := Scalar.shrsi v5 c2_i32
  let c1_i32_5 : BitVec 32 := 1#32
  let v11 : BitVec 32 := Scalar.andi v10 c1_i32_5
  let c128_i32_333 : BitVec 32 := 128#32
  let v400 : BitVec 32 := Scalar.muli v11 c128_i32_333
  let v401 : BitVec 32 := Scalar.addi v180 v400
  let c0_i32 : BitVec 32 := 0#32
  let v6 : BitVec 32 := Scalar.shrsi v5 c0_i32
  let c1_i32_2 : BitVec 32 := 1#32
  let v7 : BitVec 32 := Scalar.andi v6 c1_i32_2
  let c64_i32_570 : BitVec 32 := 64#32
  let v664 : BitVec 32 := Scalar.muli v7 c64_i32_570
  let v665 : BitVec 32 := Scalar.addi v401 v664
  let c64_i32_843 : BitVec 32 := 64#32
  let v1015 : BitVec 32 := Scalar.muli v7 c64_i32_843
  let v1016 : BitVec 32 := Scalar.subi v665 v1015
  let c128_i32_1060 : BitVec 32 := 128#32
  let v1265 : BitVec 32 := Scalar.muli v11 c128_i32_1060
  let v1266 : BitVec 32 := Scalar.subi v1016 v1265
  let c256_i32_1302 : BitVec 32 := 256#32
  let v1535 : BitVec 32 := Scalar.muli v9 c256_i32_1302
  let v1536 : BitVec 32 := Scalar.subi v1266 v1535
  let c1_i32_1303 : BitVec 32 := 1#32
  let v1537 : BitVec 32 := Scalar.subi c1_i32_1303 v9
  let c256_i32_1304 : BitVec 32 := 256#32
  let v1538 : BitVec 32 := Scalar.muli v1537 c256_i32_1304
  let v1539 : BitVec 32 := Scalar.addi v1536 v1538
  let v1765 : BitVec 32 := Scalar.addi v175 v1539
  let c5504_i32_1514 : BitVec 32 := 5504#32
  ![v1765.toNat, 5504]
def k0_cond65 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1517 : BitVec 32 := 7#32
  let v1771 : BitVec 1 := Scalar.cmpi .slt arg19 c7_i32_1517
  let v1772 : BitVec 32 := Scalar.extui v1771
  let c0_i32_1518 : BitVec 32 := 0#32
  let v1773 : BitVec 1 := Scalar.cmpi .ne v1772 c0_i32_1518
  v1773

def k0_dev79 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v16 : BitVec 32 := Scalar.xori v5 c2_i32_9
  let c1_i32_10 : BitVec 32 := 1#32
  let v17 : BitVec 32 := Scalar.shrsi v16 c1_i32_10
  let c1_i32_11 : BitVec 32 := 1#32
  let v18 : BitVec 32 := Scalar.andi v17 c1_i32_11
  let v19 : BitVec 32 := Scalar.xori v16 v18
  let c1_i32_1587 : BitVec 32 := 1#32
  let v1843 : BitVec 32 := Scalar.muli v19 c1_i32_1587
  let v1844 : BitVec 32 := Scalar.addi c0_i32_1588 v1843
  v1844.toNat
def k0_cond66 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1532 : BitVec 32 := 7#32
  let v1784 : BitVec 1 := Scalar.cmpi .slt arg19 c7_i32_1532
  let v1785 : BitVec 32 := Scalar.extui v1784
  let c0_i32_1533 : BitVec 32 := 0#32
  let v1786 : BitVec 1 := Scalar.cmpi .ne v1785 c0_i32_1533
  v1786

def k0_dev80 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_1587 : BitVec 32 := 1#32
  let v1843 : BitVec 32 := Scalar.muli v15 c1_i32_1587
  let v1844 : BitVec 32 := Scalar.addi c0_i32_1588 v1843
  v1844.toNat
def k0_off102 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c128_i32_1099 : BitVec 32 := 128#32
  let v1308 : BitVec 32 := Scalar.muli v7 c128_i32_1099
  let v1309 : BitVec 32 := Scalar.subi v1078 v1308
  let c256_i32_1343 : BitVec 32 := 256#32
  let v1581 : BitVec 32 := Scalar.muli v11 c256_i32_1343
  let v1582 : BitVec 32 := Scalar.subi v1309 v1581
  let c1_i32_1344 : BitVec 32 := 1#32
  let v1583 : BitVec 32 := Scalar.subi c1_i32_1344 v11
  let c256_i32_1345 : BitVec 32 := 256#32
  let v1584 : BitVec 32 := Scalar.muli v1583 c256_i32_1345
  let v1585 : BitVec 32 := Scalar.addi v1582 v1584
  let v1792 : Index := Scalar.indexCast v1585
  let c6784_1539 : Index := 6784#32
  ![v1792.toNat, 6784]
def k0_off103 (d0 : Dev nD) (k0_t1 : Fin k0_t1_loop.trips) : Fin 2 → Nat :=
  let c0_i32_127 : BitVec 32 := 0#32
  let c1_i32_129 : BitVec 32 := 1#32
  let arg19 : BitVec 32 := Scf.iv c0_i32_127 c1_i32_129 k0_t1
  let c512_i32 : BitVec 32 := 512#32
  let v175 : BitVec 32 := Scalar.muli arg19 c512_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v10 : BitVec 32 := Scalar.shrsi v5 c2_i32
  let c1_i32_5 : BitVec 32 := 1#32
  let v11 : BitVec 32 := Scalar.andi v10 c1_i32_5
  let c256_i32_136 : BitVec 32 := 256#32
  let v181 : BitVec 32 := Scalar.muli v11 c256_i32_136
  let c0_i32 : BitVec 32 := 0#32
  let v6 : BitVec 32 := Scalar.shrsi v5 c0_i32
  let c1_i32_2 : BitVec 32 := 1#32
  let v7 : BitVec 32 := Scalar.andi v6 c1_i32_2
  let c128_i32_373 : BitVec 32 := 128#32
  let v444 : BitVec 32 := Scalar.muli v7 c128_i32_373
  let v445 : BitVec 32 := Scalar.addi v181 v444
  let c1_i32_3 : BitVec 32 := 1#32
  let v8 : BitVec 32 := Scalar.shrsi v5 c1_i32_3
  let c1_i32_4 : BitVec 32 := 1#32
  let v9 : BitVec 32 := Scalar.andi v8 c1_i32_4
  let c64_i32_610 : BitVec 32 := 64#32
  let v708 : BitVec 32 := Scalar.muli v9 c64_i32_610
  let v709 : BitVec 32 := Scalar.addi v445 v708
  let c64_i32_890 : BitVec 32 := 64#32
  let v1077 : BitVec 32 := Scalar.muli v9 c64_i32_890
  let v1078 : BitVec 32 := Scalar.subi v709 v1077
  let c128_i32_1099 : BitVec 32 := 128#32
  let v1308 : BitVec 32 := Scalar.muli v7 c128_i32_1099
  let v1309 : BitVec 32 := Scalar.subi v1078 v1308
  let c256_i32_1343 : BitVec 32 := 256#32
  let v1581 : BitVec 32 := Scalar.muli v11 c256_i32_1343
  let v1582 : BitVec 32 := Scalar.subi v1309 v1581
  let c1_i32_1344 : BitVec 32 := 1#32
  let v1583 : BitVec 32 := Scalar.subi c1_i32_1344 v11
  let c256_i32_1345 : BitVec 32 := 256#32
  let v1584 : BitVec 32 := Scalar.muli v1583 c256_i32_1345
  let v1585 : BitVec 32 := Scalar.addi v1582 v1584
  let v1798 : BitVec 32 := Scalar.addi v175 v1585
  let c6784_i32_1545 : BitVec 32 := 6784#32
  ![v1798.toNat, 6784]
def k0_cond67 (k0_t1 : Fin k0_t1_loop.trips) : BitVec 1 :=
  let c0_i32_127 : BitVec 32 := 0#32
  let c1_i32_129 : BitVec 32 := 1#32
  let arg19 : BitVec 32 := Scf.iv c0_i32_127 c1_i32_129 k0_t1
  let c7_i32_1548 : BitVec 32 := 7#32
  let v1804 : BitVec 1 := Scalar.cmpi .slt arg19 c7_i32_1548
  let v1805 : BitVec 32 := Scalar.extui v1804
  let c0_i32_1549 : BitVec 32 := 0#32
  let v1806 : BitVec 1 := Scalar.cmpi .ne v1805 c0_i32_1549
  v1806

def k0_dev81 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v20 : BitVec 32 := Scalar.xori v5 c4_i32
  let c1_i32_12 : BitVec 32 := 1#32
  let v21 : BitVec 32 := Scalar.shrsi v20 c1_i32_12
  let c1_i32_13 : BitVec 32 := 1#32
  let v22 : BitVec 32 := Scalar.andi v21 c1_i32_13
  let v23 : BitVec 32 := Scalar.xori v20 v22
  let c1_i32_1587 : BitVec 32 := 1#32
  let v1843 : BitVec 32 := Scalar.muli v23 c1_i32_1587
  let v1844 : BitVec 32 := Scalar.addi c0_i32_1588 v1843
  v1844.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.RS.Text.lean ====
/- The body of the kernel written once per kind of step, at a symbolic part `i : Fin 6` and stage `k : Fin 3`,
   each step followed by an arbitrary continuation. `RS.TextEq` shows the printed trip is these steps in order. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points

@[expose] public section

noncomputable section

namespace Cert.Proof.RS

open Cert.KernelIdeal
open Idealize.ShloMosaic Idealize.ShloMosaic.TcCoe Idealize.ShloMosaic.Tactic
open Idealize.SL Idealize.SL.Sem

variable {F : FTy → Type} [FloatOps F]

/-- Programs of the kernel's TensorCore. -/
abbrev TP (F : FTy → Type) [FloatOps F] : Type 1 := Prog (TpuEff nD τ sig (Elt F) Λ₀ .tc) PUnit

/-! ## The tables -/

/-- The width of part `i`. -/
def cn : Fin 6 → ℕ | 0 => 1408 | 1 => 1408 | 2 => 1408 | 3 => 1280 | 4 => 1280 | 5 => 1408
/-- The first column of part `i`. -/
def co : Fin 6 → ℕ | 0 => 0 | 1 => 1408 | 2 => 2816 | 3 => 4224 | 4 => 5504 | 5 => 6784
/-- The rows moved at stage `k` of the reduction. -/
def half : Fin 3 → ℕ | 0 => 256 | 1 => 128 | 2 => 64
/-- The first row of stage `k` in the landing and sending buffers. -/
def roff : Fin 3 → ℕ | 0 => 0 | 1 => 256 | 2 => 384
/-- The rows moved at stage `k` of the gathering. -/
def ln : Fin 3 → ℕ | 0 => 64 | 1 => 128 | 2 => 256
/-- The mesh dimension that stage `k` of part `i` goes along. -/
def dim : Fin 6 → Fin 3 → ℕ
  | 0, 0 => 0 | 0, 1 => 1 | 0, 2 => 2 | 1, 0 => 1 | 1, 1 => 2 | 1, 2 => 0 | 2, 0 => 2 | 2, 1 => 0 | 2, 2 => 1
  | 3, 0 => 0 | 3, 1 => 1 | 3, 2 => 2 | 4, 0 => 1 | 4, 1 => 2 | 4, 2 => 0 | 5, 0 => 2 | 5, 1 => 0 | 5, 2 => 1

/-- The shape of `a` rows of `b` columns. -/
abbrev sh (a b : ℕ) : Shape := ⟨2, ![a, b]⟩
/-- The shape of one slot of `a` rows of `b` columns. -/
abbrev sh1 (a b : ℕ) : Shape := ⟨3, ![1, a, b]⟩

theorem cn_pos (i : Fin 6) : 0 < cn i := by revert i; decide
theorem half_pos (k : Fin 3) : 0 < half k := by revert k; decide
theorem ln_pos (k : Fin 3) : 0 < ln k := by revert k; decide

/-- A shape of some rows and some columns has an element. -/
theorem numel_sh {a b : ℕ} (ha : 0 < a) (hb : 0 < b) : 0 < (sh a b).numel := by
  simp [Shape.numel, Fin.prod_univ_succ]; omega

/-! ## Words: positions of the device and the rows it works on -/

/-- The device's position among the eight, as bits. -/
def vb (c : Dev nD) : BitVec 32 :=
  Scalar.xori (Scalar.remsi (Scalar.divsi (Dev.word c) 1#32) 8#32)
    (Scalar.andi (Scalar.shrsi (Scalar.remsi (Scalar.divsi (Dev.word c) 1#32) 8#32) 1#32) 1#32)
/-- Its bit along dimension `d`. -/
def bitW (c : Dev nD) (d : ℕ) : BitVec 32 := Scalar.andi (Scalar.shrsi (vb c) (BitVec.ofNat 32 d)) 1#32
/-- The neighbour along dimension `d`, as a word. -/
def prtW (c : Dev nD) (d : ℕ) : BitVec 32 :=
  Scalar.xori (Scalar.xori (vb c) (BitVec.ofNat 32 (2 ^ d)))
    (Scalar.andi (Scalar.shrsi (Scalar.xori (vb c) (BitVec.ofNat 32 (2 ^ d))) 1#32) 1#32)
/-- The neighbour along the dimension of stage `k` of part `i`. -/
def prt (c : Dev nD) (i : Fin 6) (k : Fin 3) : Dev nD :=
  ⟨(Scalar.addi 0#32 (Scalar.muli (prtW c (dim i k)) 1#32)).toNat, by revert c i k; decide +kernel⟩

/-- The first row kept at stage `k` of the reduction of part `i`. -/
def keepW (c : Dev nD) (i : Fin 6) : Fin 3 → BitVec 32
  | 0 => Scalar.muli (bitW c (dim i 0)) 256#32
  | 1 => Scalar.addi (keepW c i 0) (Scalar.muli (bitW c (dim i 1)) 128#32)
  | 2 => Scalar.addi (keepW c i 1) (Scalar.muli (bitW c (dim i 2)) 64#32)
/-- The first row sent at stage `k`. -/
def sentW (c : Dev nD) (i : Fin 6) : Fin 3 → BitVec 32
  | 0 => Scalar.muli (Scalar.subi 1#32 (bitW c (dim i 0))) 256#32
  | 1 => Scalar.addi (keepW c i 0) (Scalar.muli (Scalar.subi 1#32 (bitW c (dim i 1))) 128#32)
  | 2 => Scalar.addi (keepW c i 1) (Scalar.muli (Scalar.subi 1#32 (bitW c (dim i 2))) 64#32)
/-- The first row held before stage `k` of the gathering. -/
def holdW (c : Dev nD) (i : Fin 6) : Fin 3 → BitVec 32
  | 0 => keepW c i 2
  | 1 => Scalar.subi (keepW c i 2) (Scalar.muli (bitW c (dim i 2)) 64#32)
  | 2 => Scalar.subi (Scalar.subi (keepW c i 2) (Scalar.muli (bitW c (dim i 2)) 64#32)) (Scalar.muli (bitW c (dim i 1)) 128#32)
/-- The first row received at stage `k` of the gathering. -/
def gotW (c : Dev nD) (i : Fin 6) : Fin 3 → BitVec 32
  | 0 => Scalar.addi (holdW c i 1) (Scalar.muli (Scalar.subi 1#32 (bitW c (dim i 2))) 64#32)
  | 1 => Scalar.addi (holdW c i 2) (Scalar.muli (Scalar.subi 1#32 (bitW c (dim i 1))) 128#32)
  | 2 => Scalar.addi (Scalar.subi (holdW c i 2) (Scalar.muli (bitW c (dim i 0)) 256#32))
          (Scalar.muli (Scalar.subi 1#32 (bitW c (dim i 0))) 256#32)

/-- The loop's counter as a word. -/
def tW (t : Fin k0_t1_loop.trips) : BitVec 32 := Scf.iv 0#32 1#32 t
/-- The first row of the round's rows, as a word. -/
def baseW (t : Fin k0_t1_loop.trips) : BitVec 32 := Scalar.muli (tW t) 512#32
/-- The first row of the next round's rows, as a word. -/
def nextW (t : Fin k0_t1_loop.trips) : BitVec 32 :=
  Scalar.muli (Scalar.minsi (Scalar.addi (tW t) 1#32) 7#32) 512#32

/-- Where stage `k` of part `i` keeps, in the accumulator. -/
def keepOff (c : Dev nD) (i : Fin 6) (k : Fin 3) : Fin 2 → ℕ := ![(keepW c i k).toNat, co i]
/-- Where it sends from. -/
def sentOff (c : Dev nD) (i : Fin 6) (k : Fin 3) : Fin 2 → ℕ := ![(sentW c i k).toNat, co i]
/-- Where stage `k` of the gathering sends from (and to). -/
def holdOff (c : Dev nD) (i : Fin 6) (k : Fin 3) : Fin 2 → ℕ := ![(holdW c i k).toNat, co i]
/-- Where it receives. -/
def gotOff (c : Dev nD) (i : Fin 6) (k : Fin 3) : Fin 2 → ℕ := ![(gotW c i k).toNat, co i]
/-- Where the device's own rows of the round lie in the result. -/
def outOff (c : Dev nD) (t : Fin k0_t1_loop.trips) (i : Fin 6) : Fin 2 → ℕ :=
  ![(Scalar.addi (baseW t) (keepW c i 2)).toNat, co i]
/-- Where the rows received at stage `k` lie in the result. -/
def outGotOff (c : Dev nD) (t : Fin k0_t1_loop.trips) (i : Fin 6) (k : Fin 3) : Fin 2 → ℕ :=
  ![(Scalar.addi (baseW t) (gotW c i k)).toNat, co i]

theorem keep_inb (c : Dev nD) (i : Fin 6) (k : Fin 3) : ∀ a, keepOff c i k a + (sh (half k) (cn i)).size a ≤ S512x8192.size a := by
  revert c i k; decide +kernel
theorem sent_inb (c : Dev nD) (i : Fin 6) (k : Fin 3) : ∀ a, sentOff c i k a + (sh (half k) (cn i)).size a ≤ S512x8192.size a := by
  revert c i k; decide +kernel
theorem hold_inb (c : Dev nD) (i : Fin 6) (k : Fin 3) : ∀ a, holdOff c i k a + (sh (ln k) (cn i)).size a ≤ S512x8192.size a := by
  revert c i k; decide +kernel
theorem got_inb (c : Dev nD) (i : Fin 6) (k : Fin 3) : ∀ a, gotOff c i k a + (sh (ln k) (cn i)).size a ≤ S512x8192.size a := by
  revert c i k; decide +kernel
theorem own_inb (c : Dev nD) (i : Fin 6) : ∀ a, keepOff c i 2 a + (sh 64 (cn i)).size a ≤ S512x8192.size a := keep_inb c i 2
theorem out_inb (c : Dev nD) (t : Fin k0_t1_loop.trips) (i : Fin 6) : ∀ a, outOff c t i a + (sh 64 (cn i)).size a ≤ S4096x8192.size a := by
  revert c t i; decide +kernel
theorem outGot_inb (c : Dev nD) (t : Fin k0_t1_loop.trips) (i : Fin 6) (k : Fin 3) :
    ∀ a, outGotOff c t i k a + (sh (ln k) (cn i)).size a ≤ S4096x8192.size a := by
  revert c t i k; decide +kernel
theorem stage_inb (i : Fin 6) (k : Fin 3) : ∀ a, (![roff k, co i] : Fin 2 → ℕ) a + (sh (half k) (cn i)).size a ≤ S448x8192.size a := by
  revert i k; decide
theorem ep_inb (i : Fin 6) : ∀ a, (![0, co i] : Fin 2 → ℕ) a + (sh 64 (cn i)).size a ≤ S64x8192.size a := by
  revert i; decide
theorem acc_inb (i : Fin 6) : ∀ a, (![0, co i] : Fin 2 → ℕ) a + (sh 512 (cn i)).size a ≤ S512x8192.size a := by
  revert i; decide
theorem cv_inb (s : Fin 2) (i : Fin 6) (k : Fin 3) : ∀ a, (![(s : ℕ), 0, 0] : Fin 3 → ℕ) a + (sh1 (ln k) (cn i)).size a ≤ S2x256x1408.size a := by
  revert s i k; decide
theorem next_inb (t : Fin k0_t1_loop.trips) : ∀ a, (![(nextW t).toNat, 0] : Fin 2 → ℕ) a + S512x512.size a ≤ S4096x512.size a := by
  revert t; decide +kernel

/-! ## The semaphores -/

/-- Completion of part `i`'s first send. -/
def semS0 (i : Fin 6) : DmaSem sig := ⟨4 + i, by have : sig.nDmaSem = 60 := rfl; omega⟩
/-- Completion of part `i`'s other sends. -/
def semS (i : Fin 6) : DmaSem sig := ⟨10 + i, by have : sig.nDmaSem = 60 := rfl; omega⟩
/-- Landing of stage `k` of the reduction of part `i`. -/
def semR (i : Fin 6) (k : Fin 3) : DmaSem sig := ⟨16 + 3 * i + k, by have : sig.nDmaSem = 60 := rfl; omega⟩
/-- Landing of stage `k` of the gathering of part `i`. -/
def semA (i : Fin 6) (k : Fin 3) : DmaSem sig := ⟨34 + 3 * i + k, by have : sig.nDmaSem = 60 := rfl; omega⟩
/-- Completion of the copy of part `i`'s own rows to the result. -/
def semC (i : Fin 6) : DmaSem sig := ⟨52 + i, by have : sig.nDmaSem = 60 := rfl; omega⟩
/-- Completion of a copy of received rows from slot `s` to the result. -/
def semV (s : Fin 2) : DmaSem sig := ⟨58 + s, by have : sig.nDmaSem = 60 := rfl; omega⟩
/-- Permission for stage `k` of the reduction of part `i`. -/
def semRC (i : Fin 6) (k : Fin 3) : Sem sig := ⟨3 * i + k, by have : sig.nSem = 37 := rfl; omega⟩
/-- Permission for stage `k` of the gathering of part `i`. -/
def semAC (i : Fin 6) (k : Fin 3) : Sem sig := ⟨18 + 3 * i + k, by have : sig.nSem = 37 := rfl; omega⟩

/-! ## The buffers and their pieces -/

abbrev xM : Memref sig .tc .vmem S4096x512 .i8 := win0_0.stage 0
abbrev wM : Memref sig .tc .vmem S512x8192 .i8 := win0_1.stage 0
abbrev sxM : Memref sig .tc .smem S1 .f32 := win0_2.stage 0
abbrev swM : Memref sig .tc .smem S1 .f32 := win0_3.stage 0
abbrev outM : Memref sig .tc .hbm S4096x8192 .f32 := Memref.whole main_v1
abbrev accM : Memref sig .tc .vmem S512x8192 .f32 := Memref.whole cc0_scratch0
abbrev recvM : Memref sig .tc .vmem S448x8192 .bf16 := Memref.whole cc0_scratch1
abbrev sbM : Memref sig .tc .vmem S448x8192 .bf16 := Memref.whole cc0_scratch2
abbrev epM : Memref sig .tc .vmem S64x8192 .f32 := Memref.whole cc0_scratch3
abbrev agM : Memref sig .tc .vmem S512x8192 .bf16 := Memref.whole cc0_scratch4
abbrev cvM : Memref sig .tc .vmem S2x256x1408 .f32 := Memref.whole cc0_scratch5

/-- The rectangle of stage `k` of part `i` in the landing and sending buffers. -/
abbrev stageR (i : Fin 6) (k : Fin 3) : Rect S448x8192 := Rect.unit ![roff k, co i] (sh (half k) (cn i)).size (stage_inb i k)
abbrev keepR (c : Dev nD) (i : Fin 6) (k : Fin 3) : Rect S512x8192 := Rect.unit (keepOff c i k) (sh (half k) (cn i)).size (keep_inb c i k)
abbrev sentR (c : Dev nD) (i : Fin 6) (k : Fin 3) : Rect S512x8192 := Rect.unit (sentOff c i k) (sh (half k) (cn i)).size (sent_inb c i k)
abbrev holdR (c : Dev nD) (i : Fin 6) (k : Fin 3) : Rect S512x8192 := Rect.unit (holdOff c i k) (sh (ln k) (cn i)).size (hold_inb c i k)
abbrev gotR (c : Dev nD) (i : Fin 6) (k : Fin 3) : Rect S512x8192 := Rect.unit (gotOff c i k) (sh (ln k) (cn i)).size (got_inb c i k)
abbrev ownR (c : Dev nD) (i : Fin 6) : Rect S512x8192 := Rect.unit (keepOff c i 2) (sh 64 (cn i)).size (own_inb c i)
abbrev accR (i : Fin 6) : Rect S512x8192 := Rect.unit ![0, co i] (sh 512 (cn i)).size (acc_inb i)
abbrev epR (i : Fin 6) : Rect S64x8192 := Rect.unit ![0, co i] (sh 64 (cn i)).size (ep_inb i)
abbrev outR (c : Dev nD) (t : Fin k0_t1_loop.trips) (i : Fin 6) : Rect S4096x8192 := Rect.unit (outOff c t i) (sh 64 (cn i)).size (out_inb c t i)
abbrev outGotR (c : Dev nD) (t : Fin k0_t1_loop.trips) (i : Fin 6) (k : Fin 3) : Rect S4096x8192 :=
  Rect.unit (outGotOff c t i k) (sh (ln k) (cn i)).size (outGot_inb c t i k)
abbrev cvR (s : Fin 2) (i : Fin 6) (k : Fin 3) : Rect S2x256x1408 := Rect.unit ![(s : ℕ), 0, 0] (sh1 (ln k) (cn i)).size (cv_inb s i k)

abbrev recvV (i : Fin 6) (k : Fin 3) : Memref sig .tc .vmem (sh (half k) (cn i)) .bf16 := recvM.slice (stageR i k) (fun _ => rfl)
abbrev sbV (i : Fin 6) (k : Fin 3) : Memref sig .tc .vmem (sh (half k) (cn i)) .bf16 := sbM.slice (stageR i k) (fun _ => rfl)
abbrev agV (c : Dev nD) (i : Fin 6) (k : Fin 3) : Memref sig .tc .vmem (sh (ln k) (cn i)) .bf16 := agM.slice (holdR c i k) (fun _ => rfl)
abbrev epV (i : Fin 6) : Memref sig .tc .vmem (sh 64 (cn i)) .f32 := epM.slice (epR i) (fun _ => rfl)
abbrev outV (c : Dev nD) (t : Fin k0_t1_loop.trips) (i : Fin 6) : Memref sig .tc .hbm (sh 64 (cn i)) .f32 := outM.slice (outR c t i) (fun _ => rfl)
abbrev outGotV (c : Dev nD) (t : Fin k0_t1_loop.trips) (i : Fin 6) (k : Fin 3) : Memref sig .tc .hbm (sh (ln k) (cn i)) .f32 :=
  outM.slice (outGotR c t i k) (fun _ => rfl)

theorem sq_cv (i : Fin 6) (k : Fin 3) : (sh1 (ln k) (cn i)).Squeezes (sh (ln k) (cn i)) := by revert i k; decide
abbrev cvV (s : Fin 2) (i : Fin 6) (k : Fin 3) : Memref sig .tc .vmem (sh (ln k) (cn i)) .f32 :=
  (cvM.slice (cvR s i k) (fun _ => rfl)).squeeze (sh (ln k) (cn i)) (sq_cv i k)

theorem stage_words (i : Fin 6) (k : Fin 3) : (stageR i k).WholeWords (EltTy.packing .bf16) := by revert i k; decide
theorem stage_packed (i : Fin 6) (k : Fin 3) : (stageR i k).PackedRows (EltTy.packing .bf16) := by revert i k; decide
theorem hold_words (c : Dev nD) (i : Fin 6) (k : Fin 3) : (holdR c i k).WholeWords (EltTy.packing .bf16) := by revert c i k; decide +kernel
theorem own_packed (c : Dev nD) (i : Fin 6) : (ownR c i).PackedRows (EltTy.packing .bf16) := by revert c i; decide +kernel

theorem recv_exact (i : Fin 6) (k : Fin 3) : (recvV i k).view.WordExact := (Memref.isWhole_whole _).wordExact_slice rfl _ (stage_words i k)
theorem sb_exact (i : Fin 6) (k : Fin 3) : (sbV i k).view.WordExact := (Memref.isWhole_whole _).wordExact_slice rfl _ (stage_words i k)
theorem ag_exact (c : Dev nD) (i : Fin 6) (k : Fin 3) : (agV c i k).view.WordExact := (Memref.isWhole_whole _).wordExact_slice rfl _ (hold_words c i k)

/-! ## The values stored -/

/-- Casting a shape to itself. -/
theorem sc (s : Shape) : s.ShapeCasts s := by
  first | exact Shape.ShapeCasts.refl _ | rfl | (unfold Shape.ShapeCasts; simp)

/-- The block product of a round's rows with part `i` of the matrix, as floats. -/
def dotPay : (i : Fin 6) → Vec F S512x512 .i8 → Vec F (sh 512 (cn i)) .i8 → FVec F (sh 512 (cn i)) .f32
  | 0 => fun x w => Gen.k0_pay90 x w | 1 => fun x w => Gen.k0_pay91 x w | 2 => fun x w => Gen.k0_pay92 x w
  | 3 => fun x w => Gen.k0_pay94 (Gen.k0_pay93 x w) | 4 => fun x w => Gen.k0_pay95 (Gen.k0_pay89 x) w | 5 => fun x w => Gen.k0_pay96 (Gen.k0_pay89 x) w
/-- What a stage sends. -/
def sendPay (a b : ℕ) (v : Vec F (sh a b) .f32) : FVec F (sh a b) .bf16 :=
  shapeCast (sh a b) (truncf .bf16 v Gen.bitsLt_bf16_f32) (sc _)
/-- What a stage keeps. -/
def addPay (a b : ℕ) (v : Vec F (sh a b) .f32) (u : Vec F (sh a b) .bf16) : FVec F (sh a b) .f32 :=
  shapeCast (sh a b) (addf v (extf .f32 u Gen.bitsLt_bf16_f32)) (sc _)
/-- The epilogue. -/
def epPay (a b : ℕ) (s : F .f32) (v : Vec F (sh a b) .f32) : FVec F (sh a b) .f32 :=
  shapeCast (sh a b) (mulf (mulf v (broadcast (sh a b) s)) (logistic (minimumf (broadcast (sh a b) (Scalar.ofBits .f32 0x42700000#32))
    (maximumf (broadcast (sh a b) (Scalar.ofBits .f32 0xC2700000#32)) (mulf v (broadcast (sh a b) s)))))) (sc _)

/-- What a slot of the staging of received rows holds. -/
def cvPay (a b : ℕ) (h : (sh a b).ShapeCasts (sh1 a b)) (u : Vec F (sh a b) .bf16) : FVec F (sh1 a b) .f32 :=
  shapeCast (sh1 a b) (extf .f32 u Gen.bitsLt_bf16_f32) h

theorem cv_casts (i : Fin 6) (k : Fin 3) : (sh (ln k) (cn i)).ShapeCasts (sh1 (ln k) (cn i)) := by revert i k; decide

theorem ne_stage (i : Fin 6) (k : Fin 3) : 0 < (sh (half k) (cn i)).numel := numel_sh (half_pos k) (cn_pos i)
theorem ne_ln (i : Fin 6) (k : Fin 3) : 0 < (sh (ln k) (cn i)).numel := numel_sh (ln_pos k) (cn_pos i)
theorem ne_64 (i : Fin 6) : 0 < (sh 64 (cn i)).numel := numel_sh (by decide) (cn_pos i)
theorem ne_512 (i : Fin 6) : 0 < (sh 512 (cn i)).numel := numel_sh (by decide) (cn_pos i)
theorem ne_cv (i : Fin 6) (k : Fin 3) : 0 < (sh1 (ln k) (cn i)).numel := by
  have := ln_pos k; have := cn_pos i
  exact Shape.numel_pos fun a => by fin_cases a <;> simp <;> assumption

/-! ## The steps -/

/-- The round is not the last. -/
def ltC (t : Fin k0_t1_loop.trips) : BitVec 1 := Scalar.cmpi .ne ((Scalar.extui (Scalar.cmpi .slt (tW t) 7#32) : BitVec 32)) 0#32
/-- The round is not the first. -/
def gtC (t : Fin k0_t1_loop.trips) : BitVec 1 := Scalar.cmpi .ne ((Scalar.extui (Scalar.cmpi .sgt (tW t) 0#32) : BitVec 32)) 0#32

/-- `f` when the condition holds. -/
def when (b : BitVec 1) (f : TP F) (k : TP F) : TP F := Prog.bind (if _h : b = 1#1 then f else .ret ⟨⟩) fun _ => k

/-- One step of each part. -/
def each (f : Fin 6 → TP F → TP F) (k : TP F) : TP F := f 0 (f 1 (f 2 (f 3 (f 4 (f 5 k)))))

/-- Waiting for a stage of the reduction: its send, then its landing. -/
def waitRS (s : Fin 3 → Fin 6 → DmaSem sig) (k : Fin 3) (i : Fin 6) (K : TP F) : TP F :=
  .op (.waitDma2 (s k i) (recvV i k) (sbV i k) (recv_exact i k) (sb_exact i k)) fun _ =>
  .op (.waitDma2 (semR i k) (sbV i k) (recvV i k) (sb_exact i k) (recv_exact i k)) fun _ => K

/-- The semaphore of a stage's send. -/
def semSnd (k : Fin 3) (i : Fin 6) : DmaSem sig := if k = 0 then semS0 i else semS i

/-- Adding what stage `k` received to what is kept. -/
def addRS (c : Dev nD) (k : Fin 3) (i : Fin 6) (K : TP F) : TP F :=
  .op (.load accM (keepR c i k).toLoadRect (View.loadsAt_vmem (ne_stage i k))) fun v =>
  .op (.load recvM (stageR i k).toLoadRect (View.loadsAt_vmem (ne_stage i k))) fun u =>
  .op (.load accM (keepR c i k).toLoadRect (View.loadsAt_vmem (ne_stage i k))) fun _ =>
  .op (.store accM (keepR c i k) (addPay (half k) (cn i) v u) Finset.univ (View.stores_vmem_bits_univ (ne_stage i k) rfl) (.inl rfl)) fun _ => K

/-- Permission to the neighbour for its next stage `k`. -/
def creditRS (c : Dev nD) (t : Fin k0_t1_loop.trips) (k : Fin 3) (i : Fin 6) (K : TP F) : TP F :=
  when (ltC t) (semSignalWord (Λ := Λ₀) (prt c i k : Dev nD) (semRC i k) 1#32) K

/-- The neighbour's permission. -/
def awaitRS (t : Fin k0_t1_loop.trips) (k : Fin 3) (i : Fin 6) (K : TP F) : TP F :=
  when (gtC t) (semWaitWord (semRC i k) 1#32) K

/-- Rounding what stage `k` sends into the sending buffer. -/
def stageRS (c : Dev nD) (k : Fin 3) (i : Fin 6) (K : TP F) : TP F :=
  .op (.load accM (sentR c i k).toLoadRect (View.loadsAt_vmem (ne_stage i k))) fun v =>
  .op (.load sbM (stageR i k).toLoadRect (View.loadsAt_vmem (ne_stage i k))) fun _ =>
  .op (.store sbM (stageR i k) (sendPay (half k) (cn i) v) Finset.univ
    (View.stores_vmem (ne_stage i k) ((Memref.isWhole_whole _).storeExact_slice rfl _ (stage_packed i k)) (fun _ => rfl)) (.inl rfl)) fun _ => K

/-- Sending it. -/
def sendRS (c : Dev nD) (k : Fin 3) (i : Fin 6) (K : TP F) : TP F :=
  .op (.enqueueDma (sbV i k) (.remote (Dev.tc (prt c i k)) (recvV i k) (.dma (semSnd k i))) (.dma (semR i k))
    (sb_exact i k) (recv_exact i k) ⟨⟨rfl, Or.inl rfl⟩, trivial⟩) fun _ => K

/-- The device's own rows: the epilogue, the rounded copy for the others, the copy to the result. -/
def epilogue (c : Dev nD) (s : F .f32) (t : Fin k0_t1_loop.trips) (i : Fin 6) (K : TP F) : TP F :=
  .op (.load accM (ownR c i).toLoadRect (View.loadsAt_vmem (ne_64 i))) fun v =>
  .op (.load epM (epR i).toLoadRect (View.loadsAt_vmem (ne_64 i))) fun _ =>
  .op (.store epM (epR i) (epPay 64 (cn i) s v) Finset.univ (View.stores_vmem_bits_univ (ne_64 i) rfl) (.inl rfl)) fun _ =>
  .op (.load epM (epR i).toLoadRect (View.loadsAt_vmem (ne_64 i))) fun u =>
  .op (.load agM (ownR c i).toLoadRect (View.loadsAt_vmem (ne_64 i))) fun _ =>
  .op (.store agM (ownR c i) (sendPay 64 (cn i) u) Finset.univ
    (View.stores_vmem (ne_64 i) ((Memref.isWhole_whole _).storeExact_slice rfl _ (own_packed c i)) (fun _ => rfl)) (.inl rfl)) fun _ =>
  .op (.enqueueDma (epV i) (.here (outV c t i)) (.dma (semC i)) (View.wordExact_bits rfl) (View.wordExact_bits rfl) ⟨Or.inl rfl, trivial⟩) fun _ => K

/-- The mesh dimension of stage `k` of the gathering is that of stage `2 - k` of the reduction. -/
def mir : Fin 3 → Fin 3 | 0 => 2 | 1 => 1 | 2 => 0

/-- The neighbour's permission for stage `k` of the gathering. -/
def awaitAG (t : Fin k0_t1_loop.trips) (k : Fin 3) (i : Fin 6) (K : TP F) : TP F :=
  when (gtC t) (semWaitWord (semAC i k) 1#32) K

/-- Permission to the neighbour. -/
def creditAG (c : Dev nD) (t : Fin k0_t1_loop.trips) (k : Fin 3) (i : Fin 6) (K : TP F) : TP F :=
  when (ltC t) (semSignalWord (Λ := Λ₀) (prt c i (mir k) : Dev nD) (semAC i k) 1#32) K

/-- Sending the rows held. -/
def sendAG (c : Dev nD) (k : Fin 3) (i : Fin 6) (K : TP F) : TP F :=
  .op (.enqueueDma (agV c i k) (.remote (Dev.tc (prt c i (mir k))) (agV c i k) (.dma (semS i))) (.dma (semA i k))
    (ag_exact c i k) (ag_exact c i k) ⟨⟨rfl, Or.inl rfl⟩, trivial⟩) fun _ => K

/-- Waiting for a stage of the gathering. -/
def waitAG (c : Dev nD) (k : Fin 3) (i : Fin 6) (K : TP F) : TP F :=
  .op (.waitDma2 (semS i) (agV c i k) (agV c i k) (ag_exact c i k) (ag_exact c i k)) fun _ =>
  .op (.waitDma2 (semA i k) (agV c i k) (agV c i k) (ag_exact c i k) (ag_exact c i k)) fun _ => K

/-- The slot a part's received rows pass through. -/
def slot (i : Fin 6) : Fin 2 := ⟨(i : ℕ) % 2, Nat.mod_lt _ (by decide)⟩

/-- Waiting for the copy of stage `k`, part `i`, out of its slot. -/
def waitCV (c : Dev nD) (t : Fin k0_t1_loop.trips) (k : Fin 3) (i : Fin 6) (K : TP F) : TP F :=
  .op (.waitDma2 (semV (slot i)) (cvV (slot i) i k) (outGotV c t i k) ((View.wordExact_bits rfl).reshape _ _) (View.wordExact_bits rfl)) fun _ => K

/-- The received rows, widened into their slot and copied to the result. -/
def putCV (c : Dev nD) (t : Fin k0_t1_loop.trips) (k : Fin 3) (i : Fin 6) (K : TP F) : TP F :=
  .op (.load agM (gotR c i k).toLoadRect (View.loadsAt_vmem (ne_ln i k))) fun u =>
  .op (.load cvM (cvR (slot i) i k).toLoadRect (View.loadsAt_vmem (ne_cv i k))) fun _ =>
  .op (.store cvM (cvR (slot i) i k) (cvPay (ln k) (cn i) (cv_casts i k) u) Finset.univ (View.stores_vmem_bits_univ (ne_cv i k) rfl) (.inl rfl)) fun _ =>
  .op (.enqueueDma (cvV (slot i) i k) (.here (outGotV c t i k)) (.dma (semV (slot i))) ((View.wordExact_bits rfl).reshape _ _) (View.wordExact_bits rfl)
    ⟨Or.inl rfl, trivial⟩) fun _ => K

/-- The use of the slot before this one, and that wait; the first two uses of a round have none. -/
def clearCV (c : Dev nD) (t : Fin k0_t1_loop.trips) (k : Fin 3) (i : Fin 6) (K : TP F) : TP F :=
  match i, k with
  | 0, 0 => K | 0, 1 => waitCV c t 0 4 K | 0, 2 => waitCV c t 1 4 K
  | 1, 0 => K | 1, 1 => waitCV c t 0 5 K | 1, 2 => waitCV c t 1 5 K
  | 2, k => waitCV c t k 0 K | 3, k => waitCV c t k 1 K | 4, k => waitCV c t k 2 K | 5, k => waitCV c t k 3 K

/-- Part `i` of the product of a round's rows `x`. -/
def dotStep (x : Vec F S512x512 .i8) (i : Fin 6) (K : TP F) : TP F :=
  .op (.load wM (accR i).toLoadRect (View.loadsAt_vmem (ne_512 i))) fun w =>
  .op (.load accM (accR i).toLoadRect (View.loadsAt_vmem (ne_512 i))) fun _ =>
  .op (.store accM (accR i) (dotPay i x w) Finset.univ (View.stores_vmem_bits_univ (ne_512 i) rfl) (.inl rfl)) fun _ => K

/-- The rows of the matrix of the round after `t`. -/
abbrev nextR (t : Fin k0_t1_loop.trips) : Rect S4096x512 := Rect.unit ![(nextW t).toNat, 0] S512x512.size (next_inb t)
theorem first_inb : ∀ a, (![0, 0] : Fin 2 → ℕ) a + S512x512.size a ≤ S4096x512.size a := by decide
/-- The rows of the first round. -/
abbrev firstR : Rect S4096x512 := Rect.unit ![0, 0] S512x512.size first_inb
theorem ne_x : 0 < S512x512.numel := numel_sh (by decide) (by decide)

/-- The wait and the copies of the first stage. -/
def startRS (c : Dev nD) (t : Fin k0_t1_loop.trips) (k : Fin 3) (i : Fin 6) (K : TP F) : TP F :=
  awaitRS t k i (stageRS c k i (sendRS c k i K))

/-! ## One round -/

def phaseA (c : Dev nD) (t : Fin k0_t1_loop.trips) (i : Fin 6) (K : TP F) : TP F :=
  waitRS semSnd 0 i (addRS c 0 i (creditRS c t 0 i (startRS c t 1 i K)))
def phaseB (c : Dev nD) (t : Fin k0_t1_loop.trips) (i : Fin 6) (K : TP F) : TP F :=
  waitRS semSnd 1 i (addRS c 1 i (creditRS c t 1 i (startRS c t 2 i K)))
def phaseC (c : Dev nD) (s : F .f32) (t : Fin k0_t1_loop.trips) (i : Fin 6) (K : TP F) : TP F :=
  waitRS semSnd 2 i (addRS c 2 i (creditRS c t 2 i (epilogue c s t i (awaitAG t 0 i (sendAG c 0 i K)))))
def phaseD (c : Dev nD) (t : Fin k0_t1_loop.trips) (i : Fin 6) (K : TP F) : TP F :=
  waitAG c 0 i (awaitAG t 1 i (sendAG c 1 i (clearCV c t 0 i (putCV c t 0 i K))))
def phaseE (c : Dev nD) (t : Fin k0_t1_loop.trips) (i : Fin 6) (K : TP F) : TP F :=
  waitAG c 1 i (awaitAG t 2 i (sendAG c 2 i (creditAG c t 0 i (clearCV c t 1 i (putCV c t 1 i K)))))
def nextRS (c : Dev nD) (i : Fin 6) (K : TP F) : TP F :=
  .op (.semWait (semRC i 0) (1#32 : BitVec 32).toInt) fun _ => stageRS c 0 i (sendRS c 0 i K)
def phaseF (c : Dev nD) (t : Fin k0_t1_loop.trips) (K : TP F) : TP F :=
  when (ltC t) (.op (.load xM (nextR t).toLoadRect (View.loadsAt_vmem ne_x)) fun x =>
    each (dotStep x) (each (nextRS c) (.ret ⟨⟩))) K
def phaseG (c : Dev nD) (t : Fin k0_t1_loop.trips) (i : Fin 6) (K : TP F) : TP F :=
  waitAG c 2 i (creditAG c t 1 i (clearCV c t 2 i (putCV c t 2 i (creditAG c t 2 i K))))
def phaseH (c : Dev nD) (t : Fin k0_t1_loop.trips) (i : Fin 6) (K : TP F) : TP F :=
  .op (.waitDma2 (semC i) (epV i) (outV c t i) (View.wordExact_bits rfl) (View.wordExact_bits rfl)) fun _ => K

/-- One round of the kernel. -/
def trip (c : Dev nD) (s : F .f32) (t : Fin k0_t1_loop.trips) (K : TP F) : TP F :=
  each (phaseA c t) (each (phaseB c t) (each (phaseC c s t) (each (phaseD c t) (each (phaseE c t) (phaseF c t
    (each (phaseG c t) (each (phaseH c t) (waitCV c t 2 4 (waitCV c t 2 5 K)))))))))

/-- The barrier's semaphore. -/
abbrev barS : Sem sig := sig.barrier 0 rfl

/-- A signal to the neighbour along dimension `d`. -/
def hello (c : Dev nD) (i : Fin 6) (K : TP F) : TP F :=
  .op (.semSignal ((prt c i 0 : Dev nD) : Dev nD × _) barS (1#32 : BitVec 32).toInt) fun _ => K

theorem s1_inb : ∀ a, (![0] : Fin 1 → ℕ) a + S1.size a ≤ S1.size a := by decide

/-- The kernel before its loop, on device `c`. -/
def prologue (c : Dev nD) (K : F .f32 → TP F) : TP F :=
  hello c 0 (hello c 1 (hello c 2 (.op (.semWait barS (3#32 : BitVec 32).toInt) fun _ =>
  Prog.bind (smemLoad sxM (Rect.unit (s := S1) ![0] S1.size s1_inb) Gen.numel1_S1 rfl) fun a =>
  Prog.bind (smemLoad swM (Rect.unit (s := S1) ![0] S1.size s1_inb) Gen.numel1_S1 rfl) fun b =>
  .op (.load xM firstR.toLoadRect (View.loadsAt_vmem ne_x)) fun x =>
    each (dotStep x) (each (fun i K => stageRS c 0 i (sendRS c 0 i K)) (K (Scalar.mulf a b))))))

end Cert.Proof.RS

end
-- ==== Proof.RS.Rows.lean ====
/- The rows and columns the kernel's steps work on, as numbers, and the boxes of elements they make up. -/
module

public import proofs.«01_k».proof.Proof.RS.Text

@[expose] public section

noncomputable section

namespace Cert.Proof.RS

open Cert.KernelIdeal
open Idealize.ShloMosaic Idealize.ShloMosaic.TcCoe
open Idealize.SL Idealize.SL.Sem

/-! ## Rows as numbers -/

/-- The first row kept at stage `k`. -/
def kp (c : Dev nD) (i : Fin 6) (k : Fin 3) : ℕ := (keepW c i k).toNat
/-- The first row sent at stage `k`. -/
def st (c : Dev nD) (i : Fin 6) (k : Fin 3) : ℕ := (sentW c i k).toNat
/-- The first row held before stage `k` of the gathering. -/
def hd (c : Dev nD) (i : Fin 6) (k : Fin 3) : ℕ := (holdW c i k).toNat
/-- The first row received at stage `k` of the gathering. -/
def gt (c : Dev nD) (i : Fin 6) (k : Fin 3) : ℕ := (gotW c i k).toNat
/-- The first row of what stage `k` of the reduction splits. -/
def kb (c : Dev nD) (i : Fin 6) : Fin 3 → ℕ | 0 => 0 | 1 => kp c i 0 | 2 => kp c i 1
/-- The number of those rows. -/
def kl : Fin 3 → ℕ | 0 => 512 | 1 => 256 | 2 => 128
/-- The first row of what stage `k` of the gathering completes. -/
def hb (c : Dev nD) (i : Fin 6) : Fin 3 → ℕ | 0 => hd c i 1 | 1 => hd c i 2 | 2 => 0

theorem kp_st (c : Dev nD) (i : Fin 6) (k : Fin 3) :
    kl k = half k + half k ∧ ((kp c i k = kb c i k ∧ st c i k = kb c i k + half k) ∨ (st c i k = kb c i k ∧ kp c i k = kb c i k + half k)) := by
  revert c i k; decide +kernel
theorem hd_gt (c : Dev nD) (i : Fin 6) (k : Fin 3) :
    (hd c i k = hb c i k ∧ gt c i k = hb c i k + ln k) ∨ (gt c i k = hb c i k ∧ hd c i k = hb c i k + ln k) := by
  revert c i k; decide +kernel
theorem hd_zero (c : Dev nD) (i : Fin 6) : hd c i 0 = kp c i 2 := rfl
theorem kp_le (c : Dev nD) (i : Fin 6) (k : Fin 3) : kp c i k + half k ≤ 512 ∧ st c i k + half k ≤ 512 := by revert c i k; decide +kernel
theorem hd_le (c : Dev nD) (i : Fin 6) (k : Fin 3) : hd c i k + ln k ≤ 512 ∧ gt c i k + ln k ≤ 512 := by revert c i k; decide +kernel
theorem kl_le (c : Dev nD) (i : Fin 6) (k : Fin 3) : kb c i k + kl k ≤ 512 := by revert c i k; decide +kernel

/-- The neighbour's neighbour is the device. -/
theorem prt_prt (c : Dev nD) (i : Fin 6) (k : Fin 3) : prt (prt c i k) i k = c := by revert c i k; decide +kernel
theorem prt_ne (c : Dev nD) (i : Fin 6) (k : Fin 3) : prt c i k ≠ c := by revert c i k; decide +kernel
theorem st_prt (c : Dev nD) (i : Fin 6) (k : Fin 3) : st (prt c i k) i k = kp c i k := by revert c i k; decide +kernel
theorem kp_prt (c : Dev nD) (i : Fin 6) (k : Fin 3) : kp (prt c i k) i k = st c i k := by revert c i k; decide +kernel
theorem hd_prt (c : Dev nD) (i : Fin 6) (k : Fin 3) : hd (prt c i (mir k)) i k = gt c i k := by revert c i k; decide +kernel
theorem gt_prt (c : Dev nD) (i : Fin 6) (k : Fin 3) : gt (prt c i (mir k)) i k = hd c i k := by revert c i k; decide +kernel

/-- The parts of a dimension's hello: the neighbour depends on the dimension only. -/
theorem prt_dim (c : Dev nD) (i j : Fin 6) (k l : Fin 3) (h : dim i k = dim j l) : prt c i k = prt c j l := by
  revert c i j k l; decide +kernel
theorem mir_mir (k : Fin 3) : mir (mir k) = k := by revert k; decide

theorem trips_eq : k0_t1_loop.trips = 8 := by decide +kernel
theorem t_lt (t : Fin k0_t1_loop.trips) : (t : ℕ) < 8 := lt_of_lt_of_eq t.isLt trips_eq

theorem ltC_iff (t : Fin k0_t1_loop.trips) : ltC t = 1#1 ↔ (t : ℕ) < 7 := by revert t; decide +kernel
theorem gtC_iff (t : Fin k0_t1_loop.trips) : gtC t = 1#1 ↔ 0 < (t : ℕ) := by revert t; decide +kernel

theorem nextW_eq (t : Fin k0_t1_loop.trips) (h : (t : ℕ) < 7) : (nextW t).toNat = 512 * ((t : ℕ) + 1) := by
  revert t; decide +kernel
theorem outRow_eq (c : Dev nD) (t : Fin k0_t1_loop.trips) (i : Fin 6) :
    (Scalar.addi (baseW t) (keepW c i 2)).toNat = 512 * (t : ℕ) + kp c i 2 := by revert c t i; decide +kernel
theorem outGotRow_eq (c : Dev nD) (t : Fin k0_t1_loop.trips) (i : Fin 6) (k : Fin 3) :
    (Scalar.addi (baseW t) (gotW c i k)).toNat = 512 * (t : ℕ) + gt c i k := by revert c t i k; decide +kernel

/-- The device whose own rows of part `i` hold row `R` of a round. -/
def own (i : Fin 6) (R : ℕ) : Dev nD := ((List.finRange nD).find? fun c => kp c i 2 == R / 64 * 64).getD 0
theorem own_spec (i : Fin 6) (R : ℕ) (c : Dev nD) (hR : R < 512) : own i R = c ↔ kp c i 2 ≤ R ∧ R < kp c i 2 + 64 := by
  have key : ∀ (b : Fin 8) (i : Fin 6) (c : Dev nD),
      ((((List.finRange nD).find? fun c => kp c i 2 == (b : ℕ) * 64).getD 0 = c) ↔ kp c i 2 = b * 64) ∧ kp c i 2 % 64 = 0 := by decide +kernel
  have h := key ⟨R / 64, by omega⟩ i c
  refine h.1.trans ?_
  have := h.2
  show kp c i 2 = R / 64 * 64 ↔ _
  omega

/-! ## Columns -/

/-- The part a column lies in. -/
def part (C : ℕ) : Fin 6 :=
  if C < 1408 then 0 else if C < 2816 then 1 else if C < 4224 then 2 else if C < 5504 then 3 else if C < 6784 then 4 else 5
theorem part_eq {i : Fin 6} {C : ℕ} (h : co i ≤ C) (h' : C < co i + cn i) : part C = i := by
  revert h h'
  fin_cases i <;> (simp only [co, cn, part]; intro h h'; (repeat' split) <;> first | rfl | omega)
theorem part_spec {C : ℕ} (h : C < 8192) : co (part C) ≤ C ∧ C < co (part C) + cn (part C) := by
  unfold part; (repeat' split) <;> simp only [co, cn] <;> omega
theorem co_le (i : Fin 6) : co i + cn i ≤ 8192 := by revert i; decide

/-- The stage a row of the landing and sending buffers belongs to. -/
def stg (R : ℕ) : Fin 3 := if R < 256 then 0 else if R < 384 then 1 else 2
theorem stg_eq {k : Fin 3} {R : ℕ} (h : roff k ≤ R) (h' : R < roff k + half k) : stg R = k := by
  revert h h'
  fin_cases k <;> (simp only [roff, half, stg]; intro h h'; (repeat' split) <;> first | rfl | omega)
theorem stg_spec {R : ℕ} (h : R < 448) : roff (stg R) ≤ R ∧ R < roff (stg R) + half (stg R) := by
  unfold stg; (repeat' split) <;> simp only [roff, half] <;> omega
theorem roff_le (k : Fin 3) : roff k + half k ≤ 448 := by revert k; decide

/-! ## Boxes -/

/-- Rows `r` to `r + h` of part `i`'s columns. -/
def bx {A B : ℕ} (r h : ℕ) (i : Fin 6) : Finset (sh A B).Idx :=
  Finset.univ.filter fun x => (r ≤ (x 0 : ℕ) ∧ (x 0 : ℕ) < r + h) ∧ co i ≤ (x 1 : ℕ) ∧ (x 1 : ℕ) < co i + cn i

theorem mem_bx {A B r h : ℕ} {i : Fin 6} {x : (sh A B).Idx} :
    x ∈ bx r h i ↔ (r ≤ (x 0 : ℕ) ∧ (x 0 : ℕ) < r + h) ∧ co i ≤ (x 1 : ℕ) ∧ (x 1 : ℕ) < co i + cn i := by
  simp [bx]

/-- A rectangle of part `i`'s columns is a box. -/
theorem rect_bx {A B r h : ℕ} {i : Fin 6} {off : Fin 2 → ℕ} (hoff : off = ![r, co i]) {inb} :
    (Rect.unit (s := sh A B) off (sh h (cn i)).size inb).set = bx r h i := by
  subst hoff
  ext x
  rw [Rect.mem_set_unit, mem_bx]
  exact ⟨fun H => ⟨H 0, H 1⟩, fun H a => by fin_cases a; exacts [H.1, H.2]⟩

/-- Two stacked boxes are one. -/
theorem bx_union {A B a b r h l : ℕ} {i : Fin 6} (hs : (a = r ∧ b = r + h) ∨ (b = r ∧ a = r + h)) (hl : l = h + h) :
    (bx a h i ∪ bx b h i : Finset (sh A B).Idx) = bx r l i := by
  subst hl
  ext x
  simp only [Finset.mem_union, mem_bx]
  omega
theorem bx_disj {A B a b h l : ℕ} {i j : Fin 6} (hs : a + h ≤ b ∨ b + l ≤ a ∨ i ≠ j) :
    Disjoint (bx a h i : Finset (sh A B).Idx) (bx b l j) := by
  rw [Finset.disjoint_left]
  intro x hx hy
  rw [mem_bx] at hx hy
  rcases hs with h1 | h1 | h1
  · omega
  · omega
  · exact h1 ((part_eq hx.2.1 hx.2.2).symm.trans (part_eq hy.2.1 hy.2.2))
theorem bx_sub {A B a b h l : ℕ} {i : Fin 6} (hs : b ≤ a ∧ a + h ≤ b + l) :
    (bx a h i : Finset (sh A B).Idx) ⊆ bx b l i := fun x hx => by
  rw [mem_bx] at hx ⊢; omega

/-- The slot of the staging buffer of received rows. -/
def slotBox (s : Fin 2) : Finset S2x256x1408.Idx := Finset.univ.filter fun x => (x 0 : ℕ) = s
theorem mem_slotBox {s : Fin 2} {x : S2x256x1408.Idx} : x ∈ slotBox s ↔ (x 0 : ℕ) = s := by simp [slotBox]

theorem cvR_sub (s : Fin 2) (i : Fin 6) (k : Fin 3) : (cvR s i k).set ⊆ slotBox s := fun x hx => by
  rw [Rect.mem_set_unit] at hx
  have := hx 0
  rw [mem_slotBox]
  simp at this
  omega

end Cert.Proof.RS

end
-- ==== Proof.RS.Spec.lean ====
/- What every buffer holds, element by element, as functions of the device, the round, the row and the column. -/
module

public import proofs.«01_k».proof.Proof.RS.Rows

@[expose] public section

noncomputable section

namespace Cert.Proof.RS

open Cert.KernelIdeal
open Idealize.ShloMosaic Idealize.ShloMosaic.TcCoe
open Idealize.SL Idealize.SL.Sem

variable {F : FTy → Type} [FloatOps F]

/-- What the devices compute with: their columns and rows of the two matrices, and the scale. -/
structure Inp (F : FTy → Type) where
  X : Dev nD → Vec F S4096x512 .i8
  W : Dev nD → Vec F S512x8192 .i8
  s : Dev nD → F .f32

/-- The index of a row and a column. -/
def ix {A B : ℕ} (hA : 0 < A) (hB : 0 < B) (R C : ℕ) : (sh A B).Idx :=
  fun a => match a with | 0 => ⟨R % A, Nat.mod_lt _ hA⟩ | 1 => ⟨C % B, Nat.mod_lt _ hB⟩

theorem ix_self {A B : ℕ} (hA : 0 < A) (hB : 0 < B) (y : (sh A B).Idx) {R C : ℕ} (hR : R = (y 0 : ℕ)) (hC : C = (y 1 : ℕ)) :
    ix hA hB R C = y := by
  subst hR hC
  funext a
  match a with
  | 0 => exact Fin.ext (Nat.mod_eq_of_lt (y 0).isLt)
  | 1 => exact Fin.ext (Nat.mod_eq_of_lt (y 1).isLt)

section Scalars
/-- Rounding one value for sending. -/
def tr (v : F .f32) : F .bf16 := FloatOps.truncf .bf16 Gen.bitsLt_bf16_f32 v
/-- Widening one value. -/
def ex (u : F .bf16) : F .f32 := FloatOps.extf .f32 Gen.bitsLt_bf16_f32 u
/-- The epilogue of one value. -/
def ep1 (s v : F .f32) : F .f32 :=
  FloatOps.mulf (FloatOps.mulf v s) (FloatOps.logistic (FloatOps.minimumf (Scalar.ofBits .f32 0x42700000#32)
    (FloatOps.maximumf (Scalar.ofBits .f32 0xC2700000#32) (FloatOps.mulf v s))))

theorem shapeCast_self {α : Type} (s : Shape) (x : s.Idx → α) (h : s.ShapeCasts s) : shapeCast s x h = x := by
  exact funext fun j => congrArg x (Shape.reshapeEquiv_self _ j)
theorem sendPay_apply (a b : ℕ) (v : Vec F (sh a b) .f32) (y : (sh a b).Idx) : sendPay a b v y = tr (v y) := by
  unfold sendPay; rw [shapeCast_self]; rfl
theorem addPay_apply (a b : ℕ) (v : Vec F (sh a b) .f32) (u : Vec F (sh a b) .bf16) (y : (sh a b).Idx) :
    addPay a b v u y = FloatOps.addf (v y) (ex (u y)) := by
  unfold addPay; rw [shapeCast_self]; rfl
theorem epPay_apply (a b : ℕ) (s : F .f32) (v : Vec F (sh a b) .f32) (y : (sh a b).Idx) : epPay a b s v y = ep1 s (v y) := by
  unfold epPay; rw [shapeCast_self]; rfl
end Scalars

variable (D : Inp F)

/-- The rows of round `r` on device `c`. -/
def xrow (c : Dev nD) (r : ℕ) : Vec F S512x512 .i8 :=
  fun y => D.X c (ix (A := 4096) (B := 512) (by decide) (by decide) (512 * r + (y 0 : ℕ)) (y 1 : ℕ))
/-- The columns of part `i` on device `c`. -/
def wcol (c : Dev nD) (i : Fin 6) : Vec F (sh 512 (cn i)) .i8 := fun y => D.W c ((accR i).emb y)

/-- A number as a stage. -/
def f3 : ℕ → Fin 3 | 0 => 0 | 1 => 1 | _ => 2
theorem f3_val (k : Fin 3) : f3 k = k := by revert k; decide

/-- Part `i` of the product of round `r`'s rows, at a row and a column. -/
def dotAt (c : Dev nD) (r : ℕ) (i : Fin 6) (R C : ℕ) : F .f32 :=
  dotPay i (xrow D c r) (wcol D c i) (ix (by decide) (cn_pos i) R (C - co i))

/-- The accumulator before stage `k` of round `r`, where it is not given away, stage first. -/
def stageSum : ℕ → Dev nD → ℕ → ℕ → ℕ → F .f32
  | 0 => fun c r R C => dotAt D c r (part C) R C
  | k + 1 => fun c r R C => FloatOps.addf (stageSum k c r R C) (ex (tr (stageSum k (prt c (part C) (f3 k)) r R C)))
/-- The accumulator before stage `k` of round `r`, where it is not given away. -/
abbrev S (c : Dev nD) (r k R C : ℕ) : F .f32 := stageSum D k c r R C

theorem S_succ (c : Dev nD) (r : ℕ) (k : Fin 3) (R C : ℕ) :
    S D c r (k + 1) R C = FloatOps.addf (S D c r k R C) (ex (tr (S D (prt c (part C) k) r k R C))) := by
  show FloatOps.addf (S D c r k R C) (ex (tr (S D (prt c (part C) (f3 k)) r k R C))) = _
  rw [f3_val]

/-- The epilogue of the device's own rows. -/
def EP (c : Dev nD) (r R C : ℕ) : F .f32 := ep1 (D.s c) (S D c r 3 R C)
/-- What the gathering passes on. -/
def AG (r R C : ℕ) : F .bf16 := tr (EP D (own (part C) R) r R C)
/-- The sending buffer. -/
def SB (c : Dev nD) (r R C : ℕ) : F .bf16 := tr (S D c r (stg R) (st c (part C) (stg R) + (R - roff (stg R))) C)
/-- The landing buffer. -/
def RV (c : Dev nD) (r R C : ℕ) : F .bf16 := SB D (prt c (part C) (stg R)) r R C
/-- The result. -/
def OUT (c : Dev nD) (R C : ℕ) : F .f32 :=
  if own (part C) (R % 512) = c then EP D c (R / 512) (R % 512) C else ex (AG D (R / 512) (R % 512) C)

/-- A function of the row and the column as the contents of a buffer. -/
abbrev buf {α : Type} {A B : ℕ} (g : ℕ → ℕ → α) : (sh A B).Idx → α := fun x => g (x 0 : ℕ) (x 1 : ℕ)

theorem SB_at (c : Dev nD) (r : ℕ) {i : Fin 6} {k : Fin 3} {R C : ℕ} (hR : R < half k) (hC : co i ≤ C) (hC' : C < co i + cn i) :
    SB D c r (roff k + R) C = tr (S D c r k (st c i k + R) C) := by
  unfold SB
  rw [part_eq hC hC', stg_eq (k := k) (by omega) (by omega), Nat.add_sub_cancel_left]

theorem RV_at (c : Dev nD) (r : ℕ) {i : Fin 6} {k : Fin 3} {R C : ℕ} (hR : R < half k) (hC : co i ≤ C) (hC' : C < co i + cn i) :
    RV D c r (roff k + R) C = tr (S D (prt c i k) r k (kp c i k + R) C) := by
  unfold RV
  rw [part_eq hC hC', stg_eq (k := k) (by omega) (by omega), SB_at D _ r hR hC hC', st_prt]

theorem RV_prt (c : Dev nD) (r : ℕ) {i : Fin 6} {k : Fin 3} {R C : ℕ} (hR : roff k ≤ R) (hR' : R < roff k + half k) (hC : co i ≤ C)
    (hC' : C < co i + cn i) : RV D (prt c i k) r R C = SB D c r R C := by
  unfold RV
  rw [part_eq hC hC', stg_eq (k := k) (by omega) (by omega), prt_prt]

theorem S_zero (c : Dev nD) (r : ℕ) {i : Fin 6} (y : (sh 512 (cn i)).Idx) :
    S D c r 0 (y 0 : ℕ) (co i + (y 1 : ℕ)) = dotPay i (xrow D c r) (wcol D c i) y := by
  have h1 : (y 1 : ℕ) < cn i := (y 1).isLt
  show dotAt D c r (part _) _ _ = _
  have hp : part (co i + (y 1 : ℕ)) = i := part_eq (by omega) (by omega)
  rw [hp, dotAt, ix_self _ _ y rfl (by omega)]

end Cert.Proof.RS

end
-- ==== Proof.RS.Cells.lean ====
/- The semaphores of the protocol, the order in which a device pays them, and what each completion hands over. -/
module

public import proofs.«01_k».proof.Proof.RS.Spec
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's semaphores: a part's first send, its other sends, the landings of the reduction and of the gathering, the copy of a
    part's own rows, a slot's copies, the permissions of the reduction and of the gathering. -/
inductive Own
  | s0 (i : Fin 6) | s (i : Fin 6) | r (i : Fin 6) (k : Fin 3) | a (i : Fin 6) (k : Fin 3) | c (i : Fin 6) | v (s : Fin 2)
  | rc (i : Fin 6) (k : Fin 3) | ac (i : Fin 6) (k : Fin 3)
  deriving DecidableEq, Fintype

/-- Where each lies. -/
def osem : Own → SemLoc sig
  | .s0 i => .dma (semS0 i) | .s i => .dma (semS i) | .r i k => .dma (semR i k) | .a i k => .dma (semA i k) | .c i => .dma (semC i)
  | .v s => .dma (semV s) | .rc i k => .reg (semRC i k) | .ac i k => .reg (semAC i k)

/-- The kernel's semaphores and the barrier (`none`). -/
abbrev Cell : Type := Option Own
/-- Where each lies. -/
def csem : Cell → SemLoc sig
  | some x => osem x
  | none => .reg barS

theorem csem_inj : Function.Injective csem := by
  have : ∀ x y : Cell, csem x = csem y → x = y := by decide +kernel
  exact fun x y h => this x y h

/-- The semaphore of the protocol at a location. -/
def kind (sm : SemLoc sig) : Option Cell := Function.partialInv csem sm
theorem kind_csem (x : Cell) : kind (csem x) = some x := Function.partialInv_left csem_inj x

/-- A device's cell. -/
abbrev cell (c : Dev nD) (x : Cell) : GSem nD τ sig := ((c : Thread nD τ), csem x)

theorem cell_inj : Function.Injective (fun p : Dev nD × Cell => cell p.1 p.2) := by
  rintro ⟨c, x⟩ ⟨d, y⟩ h
  have h1 : c = d := congrArg (fun g : GSem nD τ sig => g.1.1) h
  have h2 : csem x = csem y := congrArg Prod.snd h
  rw [h1, csem_inj h2]

/-- The rounds of a semaphore. -/
def rounds : Cell → ℕ
  | some (.s0 _) => 8 | some (.s _) => 40 | some (.r _ _) => 8 | some (.a _ _) => 8 | some (.c _) => 8 | some (.v _) => 72
  | some (.rc _ _) => 7 | some (.ac _ _) => 7 | none => 1

/-! ## Amounts -/

/-- What a stage of the reduction credits. -/
def amtR (i : Fin 6) (k : Fin 3) : ℕ := (recvV i k).view.dmaCredit
/-- What a stage of the gathering credits. -/
def amtA (i : Fin 6) (k : Fin 3) : ℕ := (agV 0 i k).view.dmaCredit
/-- What the copy of a part's own rows credits. -/
def amtC (i : Fin 6) : ℕ := (epV i).view.dmaCredit
/-- What a copy out of a slot credits. -/
def amtV (i : Fin 6) (k : Fin 3) : ℕ := (cvV 0 i k).view.dmaCredit

/-- The stage and the part of a slot's use. -/
def vk (u : ℕ) : Fin 3 := f3 (u / 3)
def vi (s : Fin 2) (u : ℕ) : Fin 6 := ⟨2 * (u % 3) + s, by omega⟩

/-- What a round of a semaphore takes. -/
def amt : Cell → ℕ → ℕ
  | some (.s0 i), _ => amtR i 0
  | some (.s i), n => if n % 5 = 0 then amtR i 1 else if n % 5 = 1 then amtR i 2 else amtA i (f3 (n % 5 - 2))
  | some (.r i k), _ => amtR i k
  | some (.a i k), _ => amtA i k
  | some (.c i), _ => amtC i
  | some (.v s), n => amtV (vi s (n % 9)) (vk (n % 9))
  | some (.rc _ _), _ => 1
  | some (.ac _ _), _ => 1
  | none, _ => 1

theorem amtR_pos (i : Fin 6) (k : Fin 3) : 0 < amtR i k := View.dmaCredit_pos _ (ne_stage i k)
theorem amtA_pos (i : Fin 6) (k : Fin 3) : 0 < amtA i k := View.dmaCredit_pos _ (ne_ln i k)
theorem amtC_pos (i : Fin 6) : 0 < amtC i := View.dmaCredit_pos _ (ne_64 i)
theorem amtV_pos (i : Fin 6) (k : Fin 3) : 0 < amtV i k := View.dmaCredit_pos _ (ne_ln i k)
theorem amt_pos (x : Cell) (n : ℕ) : 0 < amt x n := by
  rcases x with _ | x
  · exact Nat.one_pos
  cases x with
  | s0 i => exact amtR_pos i 0
  | s i => show 0 < if _ then _ else if _ then _ else _
           split
           · exact amtR_pos _ _
           · split
             · exact amtR_pos _ _
             · exact amtA_pos _ _
  | r i k => exact amtR_pos i k
  | a i k => exact amtA_pos i k
  | c i => exact amtC_pos i
  | v s => exact amtV_pos _ _
  | rc i k => exact Nat.one_pos
  | ac i k => exact Nat.one_pos

theorem sb_credit (i : Fin 6) (k : Fin 3) : (sbV i k).view.dmaCredit = amtR i k := rfl
theorem ag_credit (c : Dev nD) (i : Fin 6) (k : Fin 3) : (agV c i k).view.dmaCredit = amtA i k := rfl
theorem out_credit (c : Dev nD) (t : Fin k0_t1_loop.trips) (i : Fin 6) : (outV c t i).view.dmaCredit = amtC i := rfl
theorem cv_credit (s : Fin 2) (i : Fin 6) (k : Fin 3) : (cvV s i k).view.dmaCredit = amtV i k := rfl
theorem outGot_credit (c : Dev nD) (t : Fin k0_t1_loop.trips) (i : Fin 6) (k : Fin 3) : (outGotV c t i k).view.dmaCredit = amtV i k := rfl

/-! ## Who pays what when -/

/-- The device that pays (and, being its neighbour, the one that is paid). -/
def tgt (c : Dev nD) : Cell → Dev nD
  | some (.r i k) => prt c i k | some (.rc i k) => prt c i k
  | some (.a i k) => prt c i (mir k) | some (.ac i k) => prt c i (mir k)
  | _ => c
theorem tgt_tgt (c : Dev nD) (x : Cell) : tgt (tgt c x) x = c := by
  rcases x with _ | x
  · rfl
  cases x <;> first | rfl | exact prt_prt _ _ _

/-- The place in a device's program of a payment: trip `t1 - 1` (the prologue is `0`), phase `p`, part `i`, first or second. -/
abbrev pos (t1 p i b : ℕ) : ℕ := 3 + ((t1 * 8 + p) * 6 + i) * 2 + b
/-- The place of the payment of a round of a semaphore. -/
def lvOf : Cell → ℕ → ℕ
  | some (.r i 0), n => pos n 5 i 0 | some (.r i 1), n => pos (n + 1) 0 i 1 | some (.r i 2), n => pos (n + 1) 1 i 1
  | some (.a i 0), n => pos (n + 1) 2 i 1 | some (.a i 1), n => pos (n + 1) 3 i 0 | some (.a i 2), n => pos (n + 1) 4 i 0
  | some (.rc i 0), n => pos (n + 1) 0 i 0 | some (.rc i 1), n => pos (n + 1) 1 i 0 | some (.rc i 2), n => pos (n + 1) 2 i 0
  | some (.ac i 0), n => pos (n + 1) 4 i 1 | some (.ac i 1), n => pos (n + 1) 6 i 0 | some (.ac i 2), n => pos (n + 1) 6 i 1
  | none, _ => 2
  | _, _ => 0
/-- Whether a semaphore is paid by another device (the barrier apart). -/
def far : Own → Bool
  | .r _ _ => true | .a _ _ => true | .rc _ _ => true | .ac _ _ => true | _ => false

/-- What is paid in phase `p`. -/
def paid (p b : ℕ) (i : Fin 6) : Option Own :=
  match p, b with
  | 0, 0 => some (.rc i 0) | 0, 1 => some (.r i 1) | 1, 0 => some (.rc i 1) | 1, 1 => some (.r i 2) | 2, 0 => some (.rc i 2) | 2, 1 => some (.a i 0)
  | 3, 0 => some (.a i 1) | 4, 0 => some (.a i 2) | 4, 1 => some (.ac i 0) | 5, 0 => some (.r i 0) | 6, 0 => some (.ac i 1) | 6, 1 => some (.ac i 2)
  | _, _ => none
/-- The first stage of the reduction is paid one trip early. -/
def late (p : ℕ) : ℕ := if p = 5 then 0 else 1
theorem late_le (p : ℕ) : late p ≤ 1 := by unfold late; split <;> omega
/-- The payment in trip `t1 - 1`, phase `p`. -/
def evIn (t1 p b : ℕ) (i : Fin 6) : Option (Own × ℕ) :=
  match paid p b i with
  | none => none
  | some x => if late p ≤ t1 ∧ t1 - late p < rounds (some x) then some (x, t1 - late p) else none
/-- The payment at a place: the semaphore and its round. -/
def evAt (m : ℕ) : Option (Own × ℕ) :=
  if m < 3 then none else evIn ((m - 3) / 2 / 6 / 8) ((m - 3) / 2 / 6 % 8) ((m - 3) % 2) ⟨(m - 3) / 2 % 6, Nat.mod_lt _ (by decide)⟩

/-- Every payment's place, spelled out. -/
theorem lv_form {x : Own} (hx : far x = true) :
    ∃ (p b : ℕ) (i : Fin 6), p < 8 ∧ b < 2 ∧ paid p b i = some x ∧ ∀ n, lvOf (some x) n = pos (n + late p) p i b := by
  cases x with
  | r i k => fin_cases k
             · exact ⟨5, 0, i, by decide, by decide, rfl, fun _ => rfl⟩
             · exact ⟨0, 1, i, by decide, by decide, rfl, fun _ => rfl⟩
             · exact ⟨1, 1, i, by decide, by decide, rfl, fun _ => rfl⟩
  | a i k => fin_cases k
             · exact ⟨2, 1, i, by decide, by decide, rfl, fun _ => rfl⟩
             · exact ⟨3, 0, i, by decide, by decide, rfl, fun _ => rfl⟩
             · exact ⟨4, 0, i, by decide, by decide, rfl, fun _ => rfl⟩
  | rc i k => fin_cases k
              · exact ⟨0, 0, i, by decide, by decide, rfl, fun _ => rfl⟩
              · exact ⟨1, 0, i, by decide, by decide, rfl, fun _ => rfl⟩
              · exact ⟨2, 0, i, by decide, by decide, rfl, fun _ => rfl⟩
  | ac i k => fin_cases k
              · exact ⟨4, 1, i, by decide, by decide, rfl, fun _ => rfl⟩
              · exact ⟨6, 0, i, by decide, by decide, rfl, fun _ => rfl⟩
              · exact ⟨6, 1, i, by decide, by decide, rfl, fun _ => rfl⟩
  | _ => cases hx

theorem paid_form {p b : ℕ} {i : Fin 6} {x : Own} (h : paid p b i = some x) :
    far x = true ∧ ∀ n, lvOf (some x) n = pos (n + late p) p i b := by
  unfold paid at h
  split at h <;> cases h <;> exact ⟨rfl, fun _ => rfl⟩

theorem evIn_pos {t1 p b : ℕ} {i : Fin 6} (hp : p < 8) (hb : b < 2) : evAt (pos t1 p i b) = evIn t1 p b i := by
  unfold evAt
  rw [if_neg (by simp only [pos]; omega)]
  have hi := i.isLt
  obtain ⟨a, ha⟩ : ∃ a, a = t1 * 8 + p := ⟨_, rfl⟩
  obtain ⟨q, hq⟩ : ∃ q, q = a * 6 + (i : ℕ) := ⟨_, rfl⟩
  have e1 : (pos t1 p i b - 3) = q * 2 + b := by simp only [pos]; rw [hq, ha]; omega
  have e2 : (q * 2 + b) / 2 = q := by omega
  have e3 : q / 6 = a := by omega
  have e4 : q % 6 = i := by omega
  have e5 : (q * 2 + b) % 2 = b := by omega
  have e6 : a / 8 = t1 := by omega
  have e7 : a % 8 = p := by omega
  have e8 : (⟨(pos t1 p i b - 3) / 2 % 6, Nat.mod_lt _ (by decide)⟩ : Fin 6) = i := Fin.ext (by show (pos t1 p i b - 3) / 2 % 6 = (i : ℕ); rw [e1, e2, e4])
  rw [e8, e1, e2, e3, e5, e6, e7]

theorem evAt_some {m : ℕ} {x : Own} {n : ℕ} (h : evAt m = some (x, n)) : lvOf (some x) n = m ∧ n < rounds (some x) ∧ far x = true := by
  have h3 : ¬ m < 3 := fun h3 => by unfold evAt at h; rw [if_pos h3] at h; cases h
  obtain ⟨q, hq⟩ : ∃ q, q = (m - 3) / 2 := ⟨_, rfl⟩
  obtain ⟨a, ha⟩ : ∃ a, a = q / 6 := ⟨_, rfl⟩
  have hm : m = pos (a / 8) (a % 8) (⟨q % 6, Nat.mod_lt _ (by decide)⟩ : Fin 6) ((m - 3) % 2) := by
    have e1 : a / 8 * 8 + a % 8 = a := by omega
    have e2 : a * 6 + q % 6 = q := by omega
    show m = 3 + ((a / 8 * 8 + a % 8) * 6 + q % 6) * 2 + (m - 3) % 2
    rw [e1, e2]; omega
  rw [hm, evIn_pos (by omega) (by omega)] at h
  unfold evIn at h
  split at h
  · cases h
  · rename_i y hy
    split at h
    · rename_i hc
      obtain ⟨rfl, rfl⟩ := Prod.mk.inj (Option.some.inj h)
      obtain ⟨hf, hl⟩ := paid_form hy
      refine ⟨?_, hc.2, hf⟩
      rw [hl, Nat.sub_add_cancel hc.1]
      exact hm.symm
    · cases h

theorem evAt_lv {x : Own} {n : ℕ} (hx : far x = true) (hn : n < rounds (some x)) : evAt (lvOf (some x) n) = some (x, n) := by
  obtain ⟨p, b, i, hp, hb, hpaid, hl⟩ := lv_form hx
  rw [hl, evIn_pos hp hb, evIn, hpaid]
  simp only [Nat.add_sub_cancel]
  rw [if_pos ⟨Nat.le_add_left _ _, hn⟩]

/-- The end of a device's payments. -/
def endPos : ℕ := pos 9 0 0 0
theorem rounds_le {x : Own} (hx : far x = true) : rounds (some x) ≤ 8 := by
  cases x <;> first | exact Nat.le_refl 8 | exact Nat.le_succ 7 | cases hx
theorem lvOf_lt {x : Own} (hx : far x = true) {n : ℕ} (hn : n < rounds (some x)) : lvOf (some x) n < endPos := by
  obtain ⟨p, b, i, hp, hb, -, hl⟩ := lv_form hx
  have hi := i.isLt
  have := rounds_le hx
  have := late_le p
  rw [hl]; simp only [endPos, pos]; omega

/-- The neighbour along dimension `d`. -/
def nb (c : Dev nD) (d : Fin 3) : Dev nD := prt c ⟨d, by omega⟩ 0
theorem nb_nb (c : Dev nD) (d : Fin 3) : nb (nb c d) d = c := prt_prt _ _ _

/-- What device `c` pays at place `m`. -/
def ev (c : Dev nD) (m : ℕ) : CellTallies nD τ sig ℕ :=
  if h : m < 3 then tallyAt (cell (nb c ⟨m, h⟩) none) 0 1 else
  match evAt m with
  | some (x, n) => tallyAt (cell (tgt c (some x)) (some x)) n (amt (some x) n)
  | none => 0
/-- What it still owes before place `n`. -/
def debt (c : Dev nD) (n : ℕ) : CellTallies nD τ sig ℕ := ∑ m ∈ Finset.Ico n endPos, ev c m

theorem debt_step (c : Dev nD) {n : ℕ} (h : n < endPos) : debt c n = debt c (n + 1) + ev c n := by
  unfold debt; rw [Finset.sum_eq_sum_Ico_succ_bot h, add_comm]
theorem debt_end (c : Dev nD) : debt c endPos = 0 := by unfold debt; simp

theorem ev_far (c : Dev nD) {x : Own} {n : ℕ} (hx : far x = true) (hn : n < rounds (some x)) :
    ev c (lvOf (some x) n) = tallyAt (cell (tgt c (some x)) (some x)) n (amt (some x) n) := by
  unfold ev
  have h3 : ¬ lvOf (some x) n < 3 := by
    have := evAt_lv hx hn
    intro h; unfold evAt at this; rw [if_pos h] at this; cases this
  rw [dif_neg h3, evAt_lv hx hn]

/-- Levels: the place of the payment. -/
def lv (g : GSem nD τ sig) (n : ℕ) : ℕ := match kind g.2 with | some x => lvOf x n | none => 0
theorem lv_cell (c : Dev nD) (x : Cell) (n : ℕ) : lv (cell c x) n = lvOf x n := by unfold lv; rw [kind_csem]
/-- The rounds given a level. -/
def L (g : GSem nD τ sig) : Finset ℕ := if g.1.2 = .tc then Finset.range 80 else ∅
theorem L_of_ne (g : GSem nD τ sig) (h : g.1.2 ≠ .tc) : L g = ∅ := if_neg h
theorem L_tc (c : Dev nD) (sm : SemLoc sig) : L ((c : Thread nD τ), sm) = Finset.range 80 := if_pos rfl
theorem rounds_lt (x : Cell) : rounds x < 80 := by
  rcases x with _ | x
  · decide
  cases x <;> simp only [rounds] <;> omega

theorem ev_pos {c : Dev nD} {m : ℕ} {g : GSem nD τ sig} {n : ℕ} (h : 0 < ev c m g n) : m ≤ lv g n ∧ n ∈ L g := by
  unfold ev at h
  split at h
  · rename_i h3
    rw [tallyAt_apply] at h
    split at h
    · rename_i hg
      obtain ⟨rfl, rfl⟩ := hg
      refine ⟨?_, ?_⟩
      · rw [lv_cell]; show m ≤ 2; omega
      · rw [L_tc]; decide
    · exact absurd h (Nat.lt_irrefl 0)
  · cases hx : evAt m with
    | none => rw [hx] at h; exact absurd h (Nat.lt_irrefl 0)
    | some y =>
      rw [hx] at h
      have h' : 0 < tallyAt (cell (tgt c (some y.1)) (some y.1)) y.2 (amt (some y.1) y.2) g n := h
      rw [tallyAt_apply] at h'
      split at h'
      · rename_i hg
        obtain ⟨rfl, rfl⟩ := hg
        have := evAt_some hx
        refine ⟨?_, ?_⟩
        · rw [lv_cell]; exact this.1.ge
        · rw [L_tc, Finset.mem_range]; exact this.2.1.trans (rounds_lt _)
      · exact absurd h' (Nat.lt_irrefl 0)

theorem debt_apply (c : Dev nD) (a : ℕ) (g : GSem nD τ sig) (n : ℕ) : debt c a g n = ∑ m ∈ Finset.Ico a endPos, ev c m g n := by
  unfold debt; rw [Finset.sum_apply, Finsupp.finset_sum_apply]

theorem debt_pos {c : Dev nD} {a : ℕ} {g : GSem nD τ sig} {n : ℕ} (h : 0 < debt c a g n) : a ≤ lv g n ∧ n ∈ L g := by
  rw [debt_apply] at h
  obtain ⟨m, hm, hp⟩ := Finset.exists_ne_zero_of_sum_ne_zero h.ne'
  have := ev_pos (Nat.pos_of_ne_zero hp)
  exact ⟨(Finset.mem_Ico.mp hm).1.trans this.1, this.2⟩

end Cert.Proof.RS

end
-- ==== Proof.RS.Mem.lean ====
/- Loading, storing and copying boxes of the kernel's buffers. -/
module

public import proofs.«01_k».proof.Proof.RS.Cells
public import Idealize.ShloMosaic.Lib.SparseCore.ProtocolKit

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's algebra: a round of a semaphore has at most three payments. -/
abbrev UB : Type := URounds (GSem nD τ sig) (Fin 3)
/-- The pipeline's algebra and the protocol's. -/
abbrev UU : Type := URounds (GSem nD τ sig) Unit × UB

local notation "𝕄" => MT nD τ sig ℕ (Elt F) ℕ UU ℕ

abbrev EP0 : Emb (URounds (GSem nD τ sig) Unit) (MT nD τ sig ℕ (Elt F) ℕ UU ℕ) := embL
abbrev ER : Emb UB (MT nD τ sig ℕ (Elt F) ℕ UU ℕ) := embR
abbrev 𝒱₀ : Variants := Variants.none

/-- A program of device `c` is safe and ends in `Q`. -/
abbrev WP (c : Dev nD) (K : TP F) (Q : PUnit → sProp 𝕄) : sProp 𝕄 := wp frame (wpE (defs₀ (F := F)) 𝒱₀ (c : Thread nD τ) none) Set.univ K Q

/-- The place of a buffer on device `c`. -/
abbrev lo (c : Dev nD) (b : Ref sig .tc) : Loc nD τ sig := (c : Thread nD τ).loc b

/-- Elements of a buffer, holding anything. -/
def any (ℓ : Loc nD τ sig) (I : Finset (Idx ℓ)) : sProp 𝕄 := iprop(∃ f, ℓ ↦[I]{fullShare} f)

theorem any_intro (ℓ : Loc nD τ sig) {I : Finset (Idx ℓ)} {f : Buf (Elt F) ℓ} : (ℓ ↦[I]{fullShare} f : sProp 𝕄) ⊢ any ℓ I := by
  unfold any; iintro H; iexists f; iexact H

theorem any_union {ℓ : Loc nD τ sig} {I J U : Finset (Idx ℓ)} (hU : I ∪ J = U) (hd : Disjoint I J) :
    (any ℓ U : sProp 𝕄) ⊣⊢ iprop(any ℓ I ∗ any ℓ J) := by
  subst hU
  constructor
  · unfold any
    iintro ⟨%f, H⟩
    ihave ⟨H1, H2⟩ := (pointsTo_union hd).1 $$ H
    isplitl [H1]
    · iexists f; iexact H1
    · iexists f; iexact H2
  · unfold any
    iintro ⟨⟨%f, H1⟩, %g, H2⟩
    iexists _
    iapply (pointsTo_join hd)
    isplitl [H1] <;> iassumption

/-- Writing what a view reads of other contents gives those contents. -/
theorem View.write_read_univ {sp : Space} {s : Shape} {e : EltTy} {v : View sig .tc sp s e} {f g : v.ty.Contents (Elt F)} {i : v.ref.ty.shape.Idx}
    (hi : i ∈ v.set) : v.write (Elt F) f (v.read (Elt F) g) Finset.univ i = g i := by
  obtain ⟨x, -, rfl⟩ := Finset.mem_map.mp hi
  rw [View.write_emb_of_mem _ _ (Finset.mem_univ x), View.read_apply, cast_cast, cast_eq]

/-- A rectangle is loaded from any share of elements that include it. -/
theorem ld {c : Dev nD} {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    (w : r.shape.Idx → Elt F e) (hS : (m.access r).set ⊆ S) (hw : (m.access r).read (Elt F) f = w) {k : (r.shape.Idx → Elt F e) → TP F} {Q : PUnit → sProp 𝕄} :
    ((m.access r).loc (c : Thread nD τ) ↦[S]{q} f : sProp 𝕄)
      ⊢ iprop((((m.access r).loc (c : Thread nD τ) ↦[S]{q} f) -∗ WP c (k w) Q) -∗ WP c (.op (.load m r.toLoadRect hl) k) Q) := by
  subst hw
  exact wp_load_rect 𝒱₀ (c : Thread nD τ) none Set.univ hS

/-- A load whose value is not used, from anything. -/
theorem ld_any {c : Dev nD} {cs : CoreSpace} {s : Shape} {e : EltTy} {m : Memref sig .tc cs s e} {r : Rect s} {hl : m.view.LoadsAt r.toLoadRect}
    {S : Finset (Idx ((m.access r).loc (c : Thread nD τ)))}
    (hS : (m.access r).set ⊆ S) {K : TP F} {Q : PUnit → sProp 𝕄} :
    (any ((m.access r).loc (c : Thread nD τ)) S : sProp 𝕄)
      ⊢ iprop((any ((m.access r).loc (c : Thread nD τ)) S -∗ WP c K Q) -∗ WP c (.op (.load m r.toLoadRect hl) fun _ => K) Q) := by
  unfold any
  iintro ⟨%f, H⟩ Hk
  iapply (ld _ hS rfl) $$ H
  iintro H
  iapply Hk
  iexists f; iexact H

/-- A rectangle held whole is overwritten. -/
theorem sto {c : Dev nD} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} (g : Buf (Elt F) ((m.access r).loc (c : Thread nD τ)))
    (hS : (m.access r).set = S) (hw : (m.access r).read (Elt F) g = w) {K : TP F} {Q : PUnit → sProp 𝕄} :
    (any ((m.access r).loc (c : Thread nD τ)) S : sProp 𝕄)
      ⊢ iprop((((m.access r).loc (c : Thread nD τ) ↦[S]{fullShare} g) -∗ WP c K Q)
        -∗ WP c (.op (.store m r w Finset.univ hx hm) fun _ => K) Q) := by
  subst hw hS
  unfold any
  iintro ⟨%f, H⟩ Hk
  iapply (wp_store 𝒱₀ (c : Thread nD τ) none Set.univ (m := m) (r := r) (Mk := Finset.univ) (S := (m.access r).set) (f := f) (Finset.Subset.refl _)) $$ H
  iintro H
  iapply Hk
  ihave H' := (Entails.of_eq (pointsTo_congr (g := g) (fun i hi => View.write_read_univ hi))) $$ H
  iexact H'

/-- What a copy leaves at its destination. -/
theorem landed {c d : Dev nD} {sp sp' : Space} {s : Shape} {e : EltTy} {v : View sig .tc sp s e} {v' : View sig .tc sp' s e}
    {f : Buf (Elt F) (v.loc (c : Thread nD τ))} {f' g : Buf (Elt F) (v'.loc (d : Thread nD τ))} (h : v'.read (Elt F) g = v.read (Elt F) f) :
    (v'.loc (d : Thread nD τ) ↦[v'.set]{fullShare} (v'.write (Elt F) f' (v.read (Elt F) f) Finset.univ) : sProp 𝕄)
      = (v'.loc (d : Thread nD τ) ↦[v'.set]{fullShare} g) := by
  rw [← h]
  exact pointsTo_congr fun i hi => View.write_read_univ hi

end Cert.Proof.RS

end
-- ==== Proof.RS.Proto.lean ====
/- The protocol: what each payment hands over, and the rules for waiting, signalling and copying under it. -/
module

public import proofs.«01_k».proof.Proof.RS.Mem

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers of a device -/

abbrev accL (c : Dev nD) : Loc nD τ sig := lo c cc0_scratch0
abbrev recvL (c : Dev nD) : Loc nD τ sig := lo c cc0_scratch1
abbrev sbL (c : Dev nD) : Loc nD τ sig := lo c cc0_scratch2
abbrev epL (c : Dev nD) : Loc nD τ sig := lo c cc0_scratch3
abbrev agL (c : Dev nD) : Loc nD τ sig := lo c cc0_scratch4
abbrev cvL (c : Dev nD) : Loc nD τ sig := lo c cc0_scratch5
abbrev outL (c : Dev nD) : Loc nD τ sig := lo c main_v1

/-- Part `i`, rows from `r`, of a buffer 512 high. -/
abbrev b512 (r h : ℕ) (i : Fin 6) : Finset S512x8192.Idx := bx (A := 512) (B := 8192) r h i
/-- Stage `k` of part `i` in the landing and sending buffers. -/
abbrev bst (k : Fin 3) (i : Fin 6) : Finset S448x8192.Idx := bx (A := 448) (B := 8192) (roff k) (half k) i
/-- Part `i` of the epilogue's buffer. -/
abbrev b64 (i : Fin 6) : Finset S64x8192.Idx := bx (A := 64) (B := 8192) 0 64 i
/-- Part `i`, rows from `r`, of the result. -/
abbrev b4096 (r h : ℕ) (i : Fin 6) : Finset S4096x8192.Idx := bx (A := 4096) (B := 8192) r h i

/-- Half of a share. -/
abbrev lft : PosShare TreeShare := fullShare.left
abbrev rgt : PosShare TreeShare := fullShare.right

/-! ## Positions and tokens -/

def Rch (c : Dev nD) (x : Own) (n : ℕ) : sProp 𝕄 := reached ER (cell c (some x)) n
def At (c : Dev nD) (x : Own) (n : ℕ) : sProp 𝕄 := atPos ER (cell c (some x)) n ∅ 0
def tok (c : Dev nD) (x : Own) (n : ℕ) : sProp 𝕄 := dutyTok ER (cell (tgt c (some x)) (some x)) n 0
def cr (c : Dev nD) (x : Own) (n : ℕ) : sProp 𝕄 := cred (tallyAt (cell c (some x)) n (amt (some x) n))
/-- What device `c` owes before place `m`. -/
def Ow (c : Dev nD) (m : ℕ) : sProp 𝕄 := iprop(∃ W, owes (c : Thread nD τ) (debt c m) W)
/-- The tokens for the payments from round `n` on. -/
def Tx (c : Dev nD) (x : Own) (n : ℕ) : sProp 𝕄 := bigSep (Finset.Ico n (rounds (some x))) (tok c x)
/-- A semaphore paid by a neighbour, before round `n`. -/
def Rx (c : Dev nD) (x : Own) (n : ℕ) : sProp 𝕄 := iprop(At c x n ∗ Rch c x n ∗ bigSep (Finset.Ico n (rounds (some x))) (cr c x))
/-- A semaphore the device itself pays, before round `n`. -/
def Lx (c : Dev nD) (x : Own) (n : ℕ) : sProp 𝕄 := iprop(At c x n ∗ Rch c x n ∗ Tx c x n)
/-- The same with round `n` started. -/
def Fx (c : Dev nD) (x : Own) (n : ℕ) : sProp 𝕄 := iprop(At c x n ∗ cr c x n ∗ Tx c x (n + 1))

instance Rch_persistent (c : Dev nD) (x : Own) (n : ℕ) : BI.Persistent (Rch (F := F) c x n) := by unfold Rch; infer_instance

theorem Tx_step {c : Dev nD} {x : Own} {n : ℕ} (h : n < rounds (some x)) : (Tx (F := F) c x n) ⊣⊢ iprop(tok c x n ∗ Tx c x (n + 1)) := by
  unfold Tx
  rw [← Finset.insert_Ico_add_one_left_eq_Ico h, bigSep_insert (by simp)]
  exact ⟨BI.Entails.refl _, BI.Entails.refl _⟩

theorem Tx_end {c : Dev nD} {x : Own} {n : ℕ} (h : rounds (some x) ≤ n) : (Tx (F := F) c x n) = iprop(emp) := by
  unfold Tx; rw [Finset.Ico_eq_empty (by omega), bigSep_empty]; rfl

theorem Rx_rch {c : Dev nD} {x : Own} {n : ℕ} : (Rx (F := F) c x n) ⊢ iprop(Rx c x n ∗ Rch c x n) := by
  unfold Rx
  iintro ⟨H1, #H2, H3⟩
  isplitl [H1 H3]
  · isplitl [H1]; · iexact H1
    isplitr; · iexact H2
    iexact H3
  iexact H2

theorem Rx_step {c : Dev nD} {x : Own} {n : ℕ} (h : n < rounds (some x)) :
    (Rx (F := F) c x n) ⊢ iprop(At c x n ∗ cr c x n ∗ bigSep (Finset.Ico (n + 1) (rounds (some x))) (cr c x)) := by
  unfold Rx
  rw [← Finset.insert_Ico_add_one_left_eq_Ico h, bigSep_insert (by simp)]
  iintro ⟨H1, -, H3⟩
  isplitl [H1]; · iexact H1
  iexact H3

/-! ## The payments -/

variable (D : Inp F)

/-- What a device lends its neighbour before the first round of stage `k` of part `i`: where that stage lands; for the first stage,
    also where the last stage of the gathering does. -/
def lend (q : Dev nD) (i : Fin 6) (k : Fin 3) : sProp 𝕄 :=
  iprop(any (recvL q) (bst k i) ∗ if k = 0 then any (agL q) (b512 (gt q i 2) 256 i) else emp)

/-- The rows a landing of the reduction lends back for the gathering. -/
def back (q : Dev nD) (i : Fin 6) (k : Fin 3) : sProp 𝕄 :=
  if k = 0 then iprop(emp) else any (agL q) (b512 (gt q i (mir k)) (ln (mir k)) i)

/-- The rows a permission of the gathering lends. -/
def back2 (q : Dev nD) (i : Fin 6) (k : Fin 3) : sProp 𝕄 :=
  if k = 2 then any (agL q) (b512 (gt q i 2) 256 i) else iprop(emp)

/-- What a payment to semaphore `x` of `d` by `q` hands over in round `n`. -/
def payF (q d : Dev nD) : Own → ℕ → sProp 𝕄
  | .s0 i, _ => any (sbL d) (bst 0 i)
  | .s i, n => if n % 5 = 0 then any (sbL d) (bst 1 i) else if n % 5 = 1 then any (sbL d) (bst 2 i)
      else (agL d ↦[b512 (hd d i (f3 (n % 5 - 2))) (ln (f3 (n % 5 - 2))) i]{lft} buf (AG D (n / 5)))
  | .r i k, n => iprop((recvL d ↦[bst k i]{fullShare} buf (RV D d n)) ∗ Rch q (.rc i k) n ∗ back q i k)
  | .rc i k, n => iprop(any (recvL q) (bst k i) ∗ Rch q (.r i k) (n + 1))
  | .a i k, n => iprop((agL d ↦[b512 (gt d i k) (ln k) i]{fullShare} buf (AG D n)) ∗ Rch q (.ac i k) n)
  | .ac i k, n => iprop(Rch q (.a i k) (n + 1) ∗ back2 q i k)
  | .c i, n => iprop((outL d ↦[b4096 (512 * n + kp d i 2) 64 i]{fullShare} buf (OUT D d)) ∗ any (epL d) (b64 i))
  | .v s, n => iprop((outL d ↦[b4096 (512 * (n / 9) + gt d (vi s (n % 9)) (vk (n % 9))) (ln (vk (n % 9))) (vi s (n % 9))]{fullShare} buf (OUT D d))
      ∗ any (cvL d) (cvR s (vi s (n % 9)) (vk (n % 9))).set)

/-- What a device hands over along dimension `d` at the start. -/
def barF (q : Dev nD) (d : Fin 3) : sProp 𝕄 :=
  bigSep (Finset.univ.filter fun p : Fin 6 × Fin 3 => dim p.1 p.2 = d) fun p => lend q p.1 p.2

/-- The rounds of the kernel's semaphores. -/
def Rd : Rounds.Schedule (GSem nD τ sig) (Fin 3) 𝕄 where
  duties g n := match kind g.2 with
    | some x => if n < rounds x then (if x = none then Finset.univ else {0}) else ∅
    | none => ∅
  unitless _ := False
  amount g n _ := match kind g.2 with | some x => amt x n | none => 1
  payload g n d := match kind g.2 with
    | some (some x) => payF D (tgt g.1.1 (some x)) g.1.1 x n
    | some none => barF (nb g.1.1 d) d
    | none => iprop(emp)
  amount_pos g n _ _ := by
    cases kind g.2 with
    | none => exact Nat.one_pos
    | some x => exact amt_pos x n

instance any_storable (ℓ : Loc nD τ sig) (I : Finset (Idx ℓ)) : BI.Storable (upEmb : UEmb _ 𝕄) (any (F := F) ℓ I) := by
  unfold any; infer_instance
instance Rch_storable (c : Dev nD) (x : Own) (n : ℕ) : BI.Storable (upEmb : UEmb _ 𝕄) (Rch (F := F) c x n) := by
  unfold Rch; infer_instance
instance lend_storable (c : Dev nD) (i : Fin 6) (k : Fin 3) : BI.Storable (upEmb : UEmb _ 𝕄) (lend (F := F) c i k) := by
  unfold lend; split <;> infer_instance
instance back_storable (c : Dev nD) (i : Fin 6) (k : Fin 3) : BI.Storable (upEmb : UEmb _ 𝕄) (back (F := F) c i k) := by
  unfold back; split <;> infer_instance
instance back2_storable (c : Dev nD) (i : Fin 6) (k : Fin 3) : BI.Storable (upEmb : UEmb _ 𝕄) (back2 (F := F) c i k) := by
  unfold back2; split <;> infer_instance
instance payF_storable (q d : Dev nD) (x : Own) (n : ℕ) : BI.Storable (upEmb : UEmb _ 𝕄) (payF D q d x n) := by
  cases x <;> unfold payF <;> (repeat' split) <;> infer_instance
instance barF_storable (q : Dev nD) (d : Fin 3) : BI.Storable (upEmb : UEmb _ 𝕄) (barF (F := F) q d) := by unfold barF; infer_instance
instance Rd_storable (g : GSem nD τ sig) (n : ℕ) (d : Fin 3) : BI.Storable (upEmb : UEmb _ 𝕄) ((Rd D).payload g n d) := by
  show BI.Storable upEmb (match kind g.2 with
    | some (some x) => payF D (tgt g.1.1 (some x)) g.1.1 x n
    | some none => barF (nb g.1.1 d) d
    | none => iprop(emp))
  split <;> infer_instance

theorem duties_own (c : Dev nD) {x : Own} {n : ℕ} (h : n < rounds (some x)) : (Rd D).duties (cell c (some x)) n = {0} := by
  dsimp only [Rd]; rw [kind_csem]; dsimp only; rw [if_pos h, if_neg (by simp)]
theorem duties_bar (c : Dev nD) : (Rd D).duties (cell c none) 0 = Finset.univ := by
  dsimp only [Rd]; rw [kind_csem]; rfl
theorem duties_later (c : Dev nD) (x : Cell) (n : ℕ) (h : rounds x ≤ n) : (Rd D).duties (cell c x) n = ∅ := by
  dsimp only [Rd]; rw [kind_csem]; dsimp only; rw [if_neg (by omega)]
theorem amount_cell (c : Dev nD) (x : Cell) (n : ℕ) (d : Fin 3) : (Rd D).amount (cell c x) n d = amt x n := by
  dsimp only [Rd]; rw [kind_csem]
theorem payload_own (c : Dev nD) (x : Own) (n : ℕ) (d : Fin 3) : (Rd D).payload (cell c (some x)) n d = payF D (tgt c (some x)) c x n := by
  dsimp only [Rd]; rw [kind_csem]
theorem payload_tgt (c : Dev nD) (x : Own) (n : ℕ) (d : Fin 3) :
    (Rd D).payload (cell (tgt c (some x)) (some x)) n d = payF D c (tgt c (some x)) x n := by
  rw [payload_own, tgt_tgt]
theorem payload_bar (c : Dev nD) (n : ℕ) (d : Fin 3) : (Rd D).payload (cell c none) n d = barF (nb c d) d := by
  dsimp only [Rd]; rw [kind_csem]
theorem expect_own (c : Dev nD) {x : Own} {n : ℕ} (h : n < rounds (some x)) : (Rd D).expect (cell c (some x)) n = amt (some x) n := by
  unfold Rounds.Schedule.expect Rounds.Schedule.amountOf; rw [duties_own D c h, Finset.sum_singleton, amount_cell]
theorem expect_bar (c : Dev nD) : (Rd D).expect (cell c none) 0 = 3 := by
  unfold Rounds.Schedule.expect Rounds.Schedule.amountOf
  rw [duties_bar, Finset.sum_congr rfl (fun d _ => amount_cell D c none 0 d)]; rfl

/-! ## The context -/

/-- One of many. -/
theorem big_at {I : Type} [Fintype I] [DecidableEq I] (Φ : I → sProp 𝕄) (i : I) : (bigSep Finset.univ Φ : sProp 𝕄) ⊢ Φ i := bigSep_elim (Finset.mem_univ i)

/-- What every device knows. -/
def ctx (K : Dev nD × Cell → ℕ) : sProp 𝕄 :=
  iprop((bigSep Finset.univ fun p : Dev nD × Cell => cellInv ER (Rd D) (K p) (cell p.1 p.2))
    ∗ (bigSep Finset.univ fun p : Dev nD × Cell => reached ER (cell p.1 p.2) 0) ∗ levAts L lv)

instance ctx_persistent (K : Dev nD × Cell → ℕ) : BI.Persistent (ctx D K) := by unfold ctx; infer_instance

theorem ctx_inv (K : Dev nD × Cell → ℕ) (c : Dev nD) (x : Cell) : ctx D K ⊢ cellInv ER (Rd D) (K (c, x)) (cell c x) := by
  unfold ctx; iintro ⟨H, -, -⟩
  iapply (big_at (fun p : Dev nD × Cell => cellInv ER (Rd D) (K p) (cell p.1 p.2)) (c, x)); iexact H
theorem ctx_rch (K : Dev nD × Cell → ℕ) (c : Dev nD) (x : Own) : ctx D K ⊢ Rch c x 0 := by
  unfold ctx Rch; iintro ⟨-, H, -⟩
  iapply (big_at (fun p : Dev nD × Cell => reached ER (cell p.1 p.2) 0) (c, some x)); iexact H
theorem ctx_lev (K : Dev nD × Cell → ℕ) : ctx D K ⊢ levAts L lv := by unfold ctx; iintro ⟨-, -, H⟩; iexact H

/-- A device may wait for a round of a semaphore that others pay before what it itself still owes. -/
theorem mayWait (c : Dev nD) (x : Cell) {n m : ℕ} (hn : n < rounds x) (hl : lvOf x n < m) :
    (levAts L lv : sProp 𝕄) ⊢ MayWait (c : Thread nD τ) (csem x) n (debt c m) :=
  MayOwe.of_cut (L := L) (lev := lv) (lvOf x n)
    (fun p hp => by rw [Finset.mem_singleton.mp hp, L_tc, Finset.mem_range]; exact hn.trans (rounds_lt x))
    (fun g u hg => (debt_pos hg).2)
    (fun p hp => by rw [Finset.mem_singleton.mp hp]; exact (lv_cell c x n).le)
    (fun g u hg => hl.trans_le (debt_pos hg).1)

/-! ## Steps with their resources -/

/-- A step turns `P` into `P'`. -/
def tri (c : Dev nD) (P : sProp 𝕄) (f : TP F → TP F) (P' : sProp 𝕄) : Prop :=
  ∀ (K : Dev nD × Cell → ℕ) (k : TP F) (Q : PUnit → sProp 𝕄), iprop(ctx D K ∗ P) ⊢ iprop((P' -∗ WP c k Q) -∗ WP c (f k) Q)

/-- Waiting for a round. -/
theorem t_wait {c : Dev nD} (x : Own) (n m : ℕ) (hn : n < rounds (some x)) (hl : lvOf (some x) n < m)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem (some x)) (amt (some x) n) Kt) :
    tri D c iprop(At c x n ∗ cr c x n ∗ Ow c m) (fun k => .op w fun _ => k)
      iprop(At c x (n + 1) ∗ Rch c x (n + 1) ∗ Ow c m ∗ payF D (tgt c (some x)) c x n) := by
  intro K k Q
  unfold At cr Ow Rch
  iintro ⟨#Hc, Ha, Hcr, %W, HO⟩ Hk
  iapply (Rounds.wp_wait_rest_token 𝒱₀ ER (Rd D) (c : Thread nD τ) none (κ := K (c, some x)) hw (Set.mem_univ _) n
    (O := debt c m) (W := W) (R := n) (m := 0) (T := ∅) (by rw [expect_own D c hn, Nat.zero_add])) $$ [Ha Hcr HO]
  · isplitr; · iapply (ctx_inv D K c (some x)); iexact Hc
    isplitl [Hcr]; · iexact Hcr
    isplitl [HO]; · iexact HO
    isplitr; · iapply (mayWait c (some x) hn hl); iapply (ctx_lev D K); iexact Hc
    iexact Ha
  iintro ⟨HO, Ha, Hr, Hp⟩
  iapply Hk
  isplitl [Ha]; · iexact Ha
  isplitl [Hr]; · iexact Hr
  isplitl [HO]; · iexists _; iexact HO
  ihave Hp' := (Entails.of_eq (show bigSep ((Rd D).duties (cell c (some x)) n \ ∅) (fun d => (Rd D).payload (cell c (some x)) n d)
    = payF D (tgt c (some x)) c x n by rw [duties_own D c hn, Finset.sdiff_empty, bigSep_singleton, payload_own])) $$ Hp
  iexact Hp'

/-- Waiting for a neighbour's payment. -/
theorem t_rx {c : Dev nD} (x : Own) (n m : ℕ) (hn : n < rounds (some x)) (hl : lvOf (some x) n < m)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem (some x)) (amt (some x) n) Kt) :
    tri D c iprop(Rx c x n ∗ Ow c m) (fun k => .op w fun _ => k) iprop(Rx c x (n + 1) ∗ Ow c m ∗ payF D (tgt c (some x)) c x n) := by
  intro K k Q
  iintro ⟨#Hc, Hx, HO⟩ Hk
  ihave ⟨Ha, Hcr, Hx⟩ := (Rx_step hn) $$ Hx
  iapply (t_wait D x n m hn hl hw K k Q) $$ [Ha Hcr HO]
  · isplitr; · iexact Hc
    iframe
  iintro ⟨Ha, Hr, HO, Hp⟩
  iapply Hk
  unfold Rx
  iframe

/-- Waiting for the device's own payment. -/
theorem t_fx {c : Dev nD} (x : Own) (n m : ℕ) (hn : n < rounds (some x)) (hl : lvOf (some x) n < m) (ht : tgt c (some x) = c)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem (some x)) (amt (some x) n) Kt) :
    tri D c iprop(Fx c x n ∗ Ow c m) (fun k => .op w fun _ => k) iprop(Lx c x (n + 1) ∗ Ow c m ∗ payF D c c x n) := by
  intro K k Q
  unfold Fx
  iintro ⟨#Hc, ⟨Ha, Hcr, Ht⟩, HO⟩ Hk
  iapply (t_wait D x n m hn hl hw K k Q) $$ [Ha Hcr HO]
  · isplitr; · iexact Hc
    iframe
  rw [ht]
  iintro ⟨Ha, Hr, HO, Hp⟩
  iapply Hk
  unfold Lx
  iframe

/-- The debt before a payment. -/
theorem debt_at (c : Dev nD) {x : Own} {n : ℕ} (hx : far x = true) (hn : n < rounds (some x)) :
    debt c (lvOf (some x) n) = debt c (lvOf (some x) n + 1) + tallyAt (cell (tgt c (some x)) (some x)) n (amt (some x) n) := by
  rw [debt_step c (lvOf_lt hx hn), ev_far c hx hn]

/-- Paying a neighbour by a signal. -/
theorem t_sig {c : Dev nD} (x : Own) (n : ℕ) (hx : far x = true) (hn : n < rounds (some x)) {sm : Sem sig} (hsm : csem (some x) = .reg sm)
    (ha : amt (some x) n = 1) :
    tri D c iprop(Tx c x n ∗ Ow c (lvOf (some x) n) ∗ payF D c (tgt c (some x)) x n ∗ Rch (tgt c (some x)) x n)
      (fun k => .op (.semSignal ((tgt c (some x) : Dev nD) : Thread nD τ) sm 1) fun _ => k)
      iprop(Tx c x (n + 1) ∗ Ow c (lvOf (some x) n + 1)) := by
  intro K k Q
  unfold Ow Rch
  iintro ⟨#Hc, HT, ⟨%W, HO⟩, Hp, #Hr⟩ Hk
  ihave ⟨Ht, HT⟩ := (Tx_step hn).1 $$ HT
  have hg : cell (tgt c (some x)) (some x) = ((tgt c (some x) : Thread nD τ), .reg sm) := by rw [← hsm]
  iapply (Rounds.wp_signal 𝒱₀ ER (Rd D) (c : Thread nD τ) none (dst := ((tgt c (some x) : Dev nD) : Thread nD τ)) (κ := K (tgt c (some x), some x)) (r := n) (d := 0)
    (by rw [← hg, duties_own D _ hn]; exact Finset.mem_singleton_self _) (k' := 1) (by rw [← hg, amount_cell, ha]) n
    (O₀ := debt c (lvOf (some x) n)) (debt c (lvOf (some x) n + 1)) (by rw [debt_at c hx hn, ha, hg])) $$ [HO Ht Hp]
  · rw [← hg]
    isplitr; · iapply (ctx_inv D K _ _); iexact Hc
    isplitl [HO]; · iexact HO
    isplitl [Ht]; · unfold tok; iexact Ht
    isplitl [Hp]; · rw [payload_tgt]; iexact Hp
    iexact Hr
  iintro HO
  iapply Hk
  isplitl [HT]; · iexact HT
  iexists _; iexact HO

/-- Paying a neighbour by a copy. -/
theorem t_send {c : Dev nD} (x : Own) (n : ℕ) (hx : far x = true) (hn : n < rounds (some x)) (y : Own) (n' : ℕ) (hn' : n' < rounds (some y))
    (hy : tgt c (some y) = c) (hyx : amt (some y) n' = amt (some x) n)
    {sp sp' : Space} {s : Shape} {e : EltTy} {src : Memref sig .tc sp s e} {dst : Memref sig .tc sp' s e} {sx sy : DmaSem sig}
    (hsx : csem (some x) = .dma sx) (hsy : csem (some y) = .dma sy)
    {hsc : dst.view.ref.isScScratch = false} {hsrc : src.view.WordExact} {hdst : dst.view.WordExact}
    {hsem : DmaTarget.Typed sp (.dma sx) (.remote ((tgt c (some x) : Dev nD) : Thread nD τ) dst (.dma sy) hsc)}
    (hN : dst.view.amount (.dma sx) = amt (some x) n) {q : PosShare TreeShare} {fs : Buf (Elt F) (src.view.loc (c : Thread nD τ))}
    {R : sProp 𝕄}
    (hp₁ : (src.view.loc (c : Thread nD τ) ↦[src.view.set]{q} fs) ⊢ payF D c c y n')
    (hp₂ : ∀ fd, iprop((dst.view.loc ((tgt c (some x) : Dev nD) : Thread nD τ) ↦[dst.view.set]{fullShare} (dst.view.write (Elt F) fd (src.view.read (Elt F) fs) Finset.univ)) ∗ R)
      ⊢ payF D c (tgt c (some x)) x n) :
    tri D c iprop(Lx c y n' ∗ Tx c x n ∗ Ow c (lvOf (some x) n) ∗ Rch (tgt c (some x)) x n ∗ (src.view.loc (c : Thread nD τ) ↦[src.view.set]{q} fs)
        ∗ any (dst.view.loc ((tgt c (some x) : Dev nD) : Thread nD τ)) dst.view.set ∗ R)
      (fun k => .op (.enqueueDma src (.remote ((tgt c (some x) : Dev nD) : Thread nD τ) dst (.dma sy) hsc) (.dma sx) hsrc hdst hsem) fun _ => k)
      iprop(Fx c y n' ∗ Tx c x (n + 1) ∗ Ow c (lvOf (some x) n + 1)) := by
  intro K k Q
  unfold Lx Fx Ow any Rch
  iintro ⟨#Hc, ⟨Ha, #Hr', HY⟩, HT, ⟨%W, HO⟩, #Hr, Hs, ⟨%fd, Hd⟩, HR⟩ Hk
  ihave ⟨Ht, HT⟩ := (Tx_step hn).1 $$ HT
  ihave ⟨Ht', HY⟩ := (Tx_step hn').1 $$ HY
  have hg : cell (tgt c (some x)) (some x) = ((tgt c (some x) : Thread nD τ), .dma sx) := by rw [← hsx]
  have hg' : cell c (some y) = ((c : Thread nD τ), .dma sy) := by rw [← hsy]
  iapply (Rounds.wp_send_pointsTo_with 𝒱₀ ER (Rd D) (c : Thread nD τ) none (κ₁ := K (c, some y)) (κ₂ := K (tgt c (some x), some x)) (r₁ := n') (r₂ := n)
    (d₁ := 0) (d₂ := 0) (fd := fd) (F := R) (fs := fs) (q := q)
    (by rw [← hg', duties_own D _ hn']; exact Finset.mem_singleton_self _) (by rw [← hg, duties_own D _ hn]; exact Finset.mem_singleton_self _)
    n n' (amt (some x) n) hN (by rw [← hg', amount_cell, hyx]) (by rw [← hg, amount_cell])
    (O₀ := debt c (lvOf (some x) n)) (debt c (lvOf (some x) n + 1)) (by rw [debt_at c hx hn, hg])
    (W := W) (by rw [← hg', payload_own, hy]; exact hp₁) (by rw [← hg, payload_tgt]; exact hp₂ fd)) $$ [HO Ht Ht' Hs Hd HR]
  · rw [← hg, ← hg']
    isplitr; · iapply (ctx_inv D K c (some y)); iexact Hc
    isplitr; · iapply (ctx_inv D K _ _); iexact Hc
    isplitl [Hs]; · iexact Hs
    isplitl [Hd HR]
    · isplitl [Hd]; · iexact Hd
      iexact HR
    isplitl [HO]; · iexact HO
    isplitl [Ht']; · unfold tok; rw [hy]; iexact Ht'
    isplitr; · iexact Hr'
    isplitl [Ht]; · unfold tok; iexact Ht
    iexact Hr
  iintro ⟨Hcr, HO⟩
  iapply Hk
  isplitl [Ha Hcr HY]
  · isplitl [Ha]; · iexact Ha
    isplitl [Hcr]; · unfold cr; rw [hyx, hg']; iexact Hcr
    iexact HY
  isplitl [HT]; · iexact HT
  iexists _; iexact HO

/-- A copy on the device itself. -/
theorem t_copy {c : Dev nD} (y : Own) (n : ℕ) (hn : n < rounds (some y)) (hy : tgt c (some y) = c)
    {sp sp' : Space} {s : Shape} {e : EltTy} {src : Memref sig .tc sp s e} {dst : Memref sig .tc sp' s e} {sy : DmaSem sig} (hsy : csem (some y) = .dma sy)
    {hsrc : src.view.WordExact} {hdst : dst.view.WordExact} {hsem : DmaTarget.Typed sp (.dma sy) (DmaTarget.here (nD := nD) (p := (c : Thread nD τ).2) dst)}
    (hN : dst.view.amount (.dma sy) = amt (some y) n) {fs : Buf (Elt F) (src.view.loc (c : Thread nD τ))}
    (hp : ∀ fd, iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ payF D c c y n) :
    tri D c iprop(Lx c y n ∗ (src.view.loc (c : Thread nD τ) ↦[src.view.set]{fullShare} fs) ∗ any (dst.view.loc (c : Thread nD τ)) dst.view.set)
      (fun k => .op (.enqueueDma src (.here dst) (.dma sy) hsrc hdst hsem) fun _ => k) (Fx c y n) := by
  intro K k Q
  unfold Lx Fx any Rch
  iintro ⟨#Hc, ⟨Ha, #Hr, HY⟩, Hs, %fd, Hd⟩ Hk
  ihave ⟨Ht, HY⟩ := (Tx_step hn).1 $$ HY
  have hg : cell c (some y) = ((c : Thread nD τ), .dma sy) := by rw [← hsy]
  iapply (Rounds.wp_copy_pointsTo 𝒱₀ ER (Rd D) (c : Thread nD τ) none (κ := K (c, some y)) (r := n) (d := 0) (fd := fd) (fs := fs) (q := fullShare)
    (by rw [← hg, duties_own D _ hn]; exact Finset.mem_singleton_self _) n (amt (some y) n) hN (by rw [← hg, amount_cell])
    (by rw [← hg, payload_own, hy]; exact hp fd)) $$ [Ht Hs Hd]
  · rw [← hg]
    isplitr; · iapply (ctx_inv D K _ _); iexact Hc
    isplitl [Hs]; · iexact Hs
    isplitl [Hd]; · iexact Hd
    isplitl [Ht]; · unfold tok; rw [hy]; iexact Ht
    iexact Hr
  iintro Hcr
  iapply Hk
  isplitl [Ha]; · iexact Ha
  isplitl [Hcr]; · unfold cr; rw [hg]; iexact Hcr
  iexact HY

end Cert.Proof.RS

end
-- ==== Proof.RS.Steps.lean ====
/- The steps of the kernel with their resources: what each needs and what it leaves. -/
module

public import proofs.«01_k».proof.Proof.RS.Proto

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Conditions -/

theorem when_yes {b : BitVec 1} (h : b = 1#1) (f k : TP F) : when b f k = Prog.bind f fun _ => k := by
  unfold when; rw [dif_pos h]
theorem when_no {b : BitVec 1} (h : ¬ b = 1#1) (f k : TP F) : when b f k = k := by
  unfold when; rw [dif_neg h]; rfl

/-- Resources owed only until the last round. -/
def upTo (n m : ℕ) (P : sProp 𝕄) : sProp 𝕄 := if n = m then P else iprop(emp)
theorem upTo_yes {n m : ℕ} (h : n = m) (P : sProp 𝕄) : upTo n m P = P := if_pos h
theorem upTo_no {n m : ℕ} (h : n ≠ m) (P : sProp 𝕄) : upTo n m P = iprop(emp) := if_neg h

/-! ## Boxes that rectangles and views cover -/

theorem rd_buf {α : Type} {A B h w : ℕ} {off : Fin 2 → ℕ} {inb} (g : ℕ → ℕ → α) (y : (sh h w).Idx) :
    (buf g : (sh A B).Idx → α) ((Rect.unit (s := sh A B) off (sh h w).size inb).emb y) = g (off 0 + (y 0 : ℕ)) (off 1 + (y 1 : ℕ)) := by
  show g (off 0 + 1 * (y 0 : ℕ)) (off 1 + 1 * (y 1 : ℕ)) = _
  rw [Nat.one_mul, Nat.one_mul]

theorem keep_set (c : Dev nD) (i : Fin 6) (k : Fin 3) : (accM.access (keepR c i k)).set = b512 (kp c i k) (half k) i :=
  (View.set_slice_whole _ _).trans (rect_bx rfl)
theorem sent_set (c : Dev nD) (i : Fin 6) (k : Fin 3) : (accM.access (sentR c i k)).set = b512 (st c i k) (half k) i :=
  (View.set_slice_whole _ _).trans (rect_bx rfl)
theorem recv_set (i : Fin 6) (k : Fin 3) : (recvM.access (stageR i k)).set = bst k i := (View.set_slice_whole _ _).trans (rect_bx rfl)
theorem sb_set (i : Fin 6) (k : Fin 3) : (sbM.access (stageR i k)).set = bst k i := (View.set_slice_whole _ _).trans (rect_bx rfl)
theorem ownAcc_set (c : Dev nD) (i : Fin 6) : (accM.access (ownR c i)).set = b512 (kp c i 2) 64 i := (View.set_slice_whole _ _).trans (rect_bx rfl)
theorem ownAg_set (c : Dev nD) (i : Fin 6) : (agM.access (ownR c i)).set = b512 (kp c i 2) 64 i := (View.set_slice_whole _ _).trans (rect_bx rfl)
theorem hold_set (c : Dev nD) (i : Fin 6) (k : Fin 3) : (agM.access (holdR c i k)).set = b512 (hd c i k) (ln k) i :=
  (View.set_slice_whole _ _).trans (rect_bx rfl)
theorem got_set (c : Dev nD) (i : Fin 6) (k : Fin 3) : (agM.access (gotR c i k)).set = b512 (gt c i k) (ln k) i :=
  (View.set_slice_whole _ _).trans (rect_bx rfl)
theorem ep_set (i : Fin 6) : (epM.access (epR i)).set = b64 i := (View.set_slice_whole _ _).trans (rect_bx rfl)
theorem acc_set (i : Fin 6) : (accM.access (accR i)).set = b512 0 512 i := (View.set_slice_whole _ _).trans (rect_bx rfl)
theorem out_set (c : Dev nD) (t : Fin k0_t1_loop.trips) (i : Fin 6) :
    (outM.access (outR c t i)).set = b4096 (512 * (t : ℕ) + kp c i 2) 64 i :=
  (View.set_slice_whole _ _).trans (rect_bx (by unfold outOff; rw [outRow_eq]))
theorem outGot_set (c : Dev nD) (t : Fin k0_t1_loop.trips) (i : Fin 6) (k : Fin 3) :
    (outM.access (outGotR c t i k)).set = b4096 (512 * (t : ℕ) + gt c i k) (ln k) i :=
  (View.set_slice_whole _ _).trans (rect_bx (by unfold outGotOff; rw [outGotRow_eq]))

variable (D : Inp F)

/-! ## Payments that are not made -/

theorem evAt_over {x : Own} {n : ℕ} (hx : far x = true) (hn : rounds (some x) ≤ n) : evAt (lvOf (some x) n) = none := by
  obtain ⟨p, b, i, hp, hb, hpaid, hl⟩ := lv_form hx
  rw [hl, evIn_pos hp hb, evIn, hpaid]
  dsimp only
  rw [if_neg (by omega)]
theorem debt_skip (c : Dev nD) {m : ℕ} (h3 : 3 ≤ m) (h : evAt m = none) : debt c m = debt c (m + 1) := by
  by_cases hm : m < endPos
  · rw [debt_step c hm]
    have : ev c m = 0 := by unfold ev; rw [dif_neg (by omega), h]
    rw [this, add_zero]
  · unfold debt; rw [Finset.Ico_eq_empty (by omega), Finset.Ico_eq_empty (by omega)]
/-- A place without a payment is passed. -/
theorem Ow_skip {c : Dev nD} {m : ℕ} (h3 : 3 ≤ m) (h : evAt m = none) : (Ow (F := F) c m) ⊢ Ow c (m + 1) := by
  unfold Ow; rw [debt_skip c h3 h]
/-- Places without payments are passed. -/
theorem Ow_skips {c : Dev nD} {m : ℕ} (n : ℕ) (h3 : 3 ≤ m) (h : ∀ j < n, evAt (m + j) = none) : (Ow (F := F) c m) ⊢ Ow c (m + n) := by
  induction n with
  | zero => exact Entails.refl _
  | succ n ih => exact (ih fun j hj => h j (by omega)).trans (Ow_skip (by omega) (h n (by omega)))
/-- A payment after the last round is none. -/
theorem pay_over {c : Dev nD} {x : Own} {n : ℕ} (hx : far x = true) (hn : rounds (some x) ≤ n) :
    iprop(Tx c x n ∗ Ow (F := F) c (lvOf (some x) n)) ⊢ iprop(Tx c x (n + 1) ∗ Ow c (lvOf (some x) n + 1)) := by
  rw [Tx_end hn, Tx_end (show rounds (some x) ≤ n + 1 by omega)]
  have h3 : 3 ≤ lvOf (some x) n := by
    obtain ⟨p, b, i, -, -, -, hl⟩ := lv_form hx
    rw [hl]; simp only [pos]; omega
  iintro ⟨-, HO⟩
  isplitr; · iclose
  iapply (Ow_skip h3 (evAt_over hx hn)); iexact HO

/-! ## The reduction -/

/-- The semaphore of a stage's send, and the round in trip `t`. -/
def snd : Fin 3 → Fin 6 → Own | 0, i => .s0 i | 1, i => .s i | 2, i => .s i
def sr : Fin 3 → ℕ → ℕ | 0, t => t | 1, t => 5 * t | 2, t => 5 * t + 1

theorem snd_tgt (c : Dev nD) (k : Fin 3) (i : Fin 6) : tgt c (some (snd k i)) = c := by fin_cases k <;> rfl
theorem snd_sem (k : Fin 3) (i : Fin 6) : csem (some (snd k i)) = .dma (semSnd k i) := by fin_cases k <;> rfl
theorem snd_lv (k : Fin 3) (i : Fin 6) (n : ℕ) : lvOf (some (snd k i)) n = 0 := by fin_cases k <;> rfl
theorem snd_rounds (k : Fin 3) (i : Fin 6) {t : ℕ} (ht : t < 8) : sr k t < rounds (some (snd k i)) := by
  fin_cases k <;> simp [sr, snd, rounds] <;> omega
theorem snd_amt (k : Fin 3) (i : Fin 6) (t : ℕ) : amt (some (snd k i)) (sr k t) = amtR i k := by
  fin_cases k
  · rfl
  · exact if_pos (by show 5 * t % 5 = 0; omega)
  · refine (if_neg (by show ¬ (5 * t + 1) % 5 = 0; omega)).trans (if_pos (by show (5 * t + 1) % 5 = 1; omega))
theorem snd_pay (c : Dev nD) (k : Fin 3) (i : Fin 6) (t : ℕ) : payF D c c (snd k i) (sr k t) = any (sbL c) (bst k i) := by
  fin_cases k
  · rfl
  · exact if_pos (by show 5 * t % 5 = 0; omega)
  · refine (if_neg (by show ¬ (5 * t + 1) % 5 = 0; omega)).trans (if_pos (by show (5 * t + 1) % 5 = 1; omega))

/-- The rows stage `k` of the reduction has landed. -/
abbrev recvd (c : Dev nD) (t : ℕ) (k : Fin 3) (i : Fin 6) : sProp 𝕄 := recvL c ↦[bst k i]{fullShare} buf (RV D c t)
/-- Rows of the accumulator before stage `k`. -/
abbrev accd (c : Dev nD) (t k r h : ℕ) (i : Fin 6) : sProp 𝕄 := accL c ↦[b512 r h i]{fullShare} buf (S D c t k)

theorem waitRS_tri {c : Dev nD} {k : Fin 3} {i : Fin 6} {t m : ℕ} (ht : t < 8) (hm : lvOf (some (.r i k)) t < m) :
    tri D c iprop(Fx c (snd k i) (sr k t) ∗ Rx c (.r i k) t ∗ Ow c m) (waitRS semSnd k i)
      iprop(Lx c (snd k i) (sr k t + 1) ∗ any (sbL c) (bst k i) ∗ Rx c (.r i k) (t + 1) ∗ recvd D c t k i
        ∗ Rch (prt c i k) (.rc i k) t ∗ back (prt c i k) i k ∗ Ow c m) := by
  intro K Kt Q
  unfold waitRS
  iintro ⟨#Hc, HF, HR, HO⟩ Hk
  iapply (t_fx D (snd k i) (sr k t) m (snd_rounds k i ht) (by rw [snd_lv]; omega) (snd_tgt c k i)
    (fun Kt => (wpE_waitDma2_eq 𝒱₀ (c : Thread nD τ) none Set.univ Kt).trans (by rw [snd_sem, snd_amt]; rfl)) K _ Q) $$ [HF HO]
  · isplitr; · iexact Hc
    iframe
  iintro ⟨HL, HO, Hs⟩
  iapply (t_rx D (.r i k) t m (by simpa [rounds] using ht) hm
    (fun Kt => wpE_waitDma2_eq 𝒱₀ (c : Thread nD τ) none Set.univ Kt) K _ Q) $$ [HR HO]
  · isplitr; · iexact Hc
    iframe
  iintro ⟨HR, HO, Hp⟩
  ihave ⟨H1, H2, H3⟩ := (Entails.of_eq (show payF D (tgt c (some (.r i k))) c (.r i k) t
    = iprop(recvd D c t k i ∗ Rch (prt c i k) (.rc i k) t ∗ back (prt c i k) i k) from rfl)) $$ Hp
  iapply Hk
  isplitl [HL]; · iexact HL
  ihave Hs := (Entails.of_eq (snd_pay D c k i t)) $$ Hs
  isplitl [Hs]; · iexact Hs
  iframe

theorem addRS_tri {c : Dev nD} {k : Fin 3} {i : Fin 6} {t : ℕ} :
    tri D c iprop(accd D c t k (kp c i k) (half k) i ∗ recvd D c t k i) (addRS c k i)
      iprop(accd D c t (k + 1) (kp c i k) (half k) i ∗ recvd D c t k i) := by
  intro K Kt Q
  unfold addRS
  iintro ⟨#Hc, HA, HR⟩ Hk
  iapply (ld (m := accM) (r := keepR c i k) (f := buf (S D c t k)) (fun y => S D c t k (kp c i k + (y 0 : ℕ)) (co i + (y 1 : ℕ))) (keep_set c i k).le
    (funext fun y => rd_buf (off := keepOff c i k) (inb := keep_inb c i k) (S D c t k) y)) $$ HA
  iintro HA
  iapply (ld (m := recvM) (r := stageR i k) (f := buf (RV D c t)) (fun y => RV D c t (roff k + (y 0 : ℕ)) (co i + (y 1 : ℕ))) (recv_set i k).le
    (funext fun y => rd_buf (off := ![roff k, co i]) (inb := stage_inb i k) (RV D c t) y)) $$ HR
  iintro HR
  ihave HA := (any_intro (accL c)) $$ HA
  iapply (ld_any (m := accM) (r := keepR c i k) (keep_set c i k).le) $$ HA
  iintro HA
  iapply (sto (m := accM) (r := keepR c i k) (buf (S D c t (k + 1))) (keep_set c i k) (funext fun y => by
    refine (rd_buf (off := keepOff c i k) (inb := keep_inb c i k) (S D c t (k + 1)) y).trans ?_
    have hy : (y 0 : ℕ) < half k := (y 0).isLt
    have hc : (y 1 : ℕ) < cn i := (y 1).isLt
    rw [addPay_apply, S_succ, RV_at D c t (i := i) hy (by omega) (by omega)]
    show FloatOps.addf (S D c t k (kp c i k + (y 0 : ℕ)) (co i + (y 1 : ℕ))) (ex (tr (S D (prt c (part (co i + (y 1 : ℕ))) k) t k _ _))) = _
    rw [part_eq (i := i) (by omega) (by omega)]; rfl)) $$ HA
  iintro HA
  iapply Hk
  iframe

/-- Permission for the next round of a stage, or, after the last, its rows. -/
theorem creditRS_tri {c : Dev nD} {k : Fin 3} {i : Fin 6} {t : Fin k0_t1_loop.trips} {m : ℕ} (hm : lvOf (some (.rc i k)) t = m) :
    tri D c iprop(Tx c (.rc i k) t ∗ any (recvL c) (bst k i) ∗ Rch c (.r i k) ((t : ℕ) + 1) ∗ Rch (prt c i k) (.rc i k) t ∗ Ow c m) (creditRS c t k i)
      iprop(Tx c (.rc i k) ((t : ℕ) + 1) ∗ upTo ((t : ℕ) + 1) 8 (any (recvL c) (bst k i)) ∗ Ow c (m + 1)) := by
  subst hm
  intro K Kt Q
  unfold creditRS
  by_cases ht : (t : ℕ) < 7
  · rw [when_yes ((ltC_iff t).mpr ht), upTo_no (by omega)]
    iintro ⟨#Hc, HT, Hr, #H1, #H2, HO⟩ Hk
    iapply (t_sig D (.rc i k) t rfl (by simpa [rounds] using ht) (sm := semRC i k) rfl rfl K Kt Q) $$ [HT Hr HO]
    · isplitr; · iexact Hc
      isplitl [HT]; · iexact HT
      isplitl [HO]; · iexact HO
      isplitl [Hr]
      · unfold payF
        isplitl [Hr]; · iexact Hr
        iexact H1
      iexact H2
    iintro ⟨HT, HO⟩
    iapply Hk
    isplitl [HT]; · iexact HT
    isplitr; · iclose
    iexact HO
  · rw [when_no (by rw [ltC_iff]; exact ht), upTo_yes (by have := t_lt t; omega)]
    iintro ⟨-, HT, Hr, -, -, HO⟩ Hk
    ihave ⟨HT, HO⟩ := (pay_over (c := c) (x := .rc i k) (n := t) rfl (by simpa [rounds] using ht)) $$ [HT HO]
    · iframe
    iapply Hk
    iframe

/-- The permission for a stage's next send: before the first round it is lent, later it is a neighbour's signal. -/
def Gr (c : Dev nD) (i : Fin 6) (k : Fin 3) (t : ℕ) : sProp 𝕄 :=
  iprop(Rx c (.rc i k) (t - 1) ∗ upTo t 0 (any (recvL (prt c i k)) (bst k i)))

theorem takeRC_tri {c : Dev nD} {k : Fin 3} {i : Fin 6} {n m : ℕ} (hn : n < 7) (hm : lvOf (some (.rc i k)) n < m) :
    tri D c iprop(Rx c (.rc i k) n ∗ Ow c m) (fun K => .op (.semWait (semRC i k) (1#32 : BitVec 32).toInt) fun _ => K)
      iprop(Rx c (.rc i k) (n + 1) ∗ Rch c (.rc i k) (n + 1) ∗ any (recvL (prt c i k)) (bst k i) ∗ Rch (prt c i k) (.r i k) (n + 1) ∗ Ow c m) := by
  intro K Kt Q
  iintro ⟨#Hc, HR, HO⟩ Hk
  iapply (t_rx D (.rc i k) n m (by simpa [rounds] using hn) hm
    (fun Kt => wpE_semWait_eq 𝒱₀ (c : Thread nD τ) none Set.univ Kt) K Kt Q) $$ [HR HO]
  · isplitr; · iexact Hc
    iframe
  iintro ⟨HR, HO, Hp⟩
  ihave ⟨H1, H2⟩ := (Entails.of_eq (show payF D (tgt c (some (.rc i k))) c (.rc i k) n
    = iprop(any (recvL (prt c i k)) (bst k i) ∗ Rch (prt c i k) (.r i k) (n + 1)) from rfl)) $$ Hp
  ihave ⟨HR, H3⟩ := Rx_rch $$ HR
  iapply Hk
  iframe

theorem awaitRS_tri {c : Dev nD} {k : Fin 3} {i : Fin 6} {t : Fin k0_t1_loop.trips} {m : ℕ} (hm : 0 < (t : ℕ) → lvOf (some (.rc i k)) ((t : ℕ) - 1) < m) :
    tri D c iprop(Gr c i k t ∗ Ow c m) (awaitRS t k i)
      iprop(Rx c (.rc i k) t ∗ Rch c (.rc i k) t ∗ any (recvL (prt c i k)) (bst k i) ∗ Rch (prt c i k) (.r i k) t ∗ Ow c m) := by
  intro K Kt Q
  unfold awaitRS Gr
  have h8 := t_lt t
  by_cases ht : 0 < (t : ℕ)
  · rw [when_yes ((gtC_iff t).mpr ht), upTo_no (by omega)]
    obtain ⟨n, hn⟩ : ∃ n, (t : ℕ) = n + 1 := ⟨(t : ℕ) - 1, by omega⟩
    have hm' := hm ht
    rw [hn, Nat.add_sub_cancel] at hm' ⊢
    iintro ⟨#Hc, ⟨HR, -⟩, HO⟩ Hk
    iapply (takeRC_tri D (by omega) hm' K Kt Q) $$ [HR HO]
    · isplitr; · iexact Hc
      iframe
    iexact Hk
  · have h0 : (t : ℕ) = 0 := by omega
    rw [when_no (by rw [gtC_iff]; exact ht), upTo_yes h0, h0]
    iintro ⟨#Hc, ⟨HR, Ha⟩, HO⟩ Hk
    ihave H1 := (ctx_rch D K (prt c i k) (.r i k)) $$ Hc
    ihave ⟨HR, H2⟩ := Rx_rch $$ HR
    iapply Hk
    iframe
    iexact H1

/-- Part `i` of the sending buffer at stage `k`. -/
abbrev sbd (c : Dev nD) (t : ℕ) (k : Fin 3) (i : Fin 6) : sProp 𝕄 := sbL c ↦[bst k i]{fullShare} buf (SB D c t)

theorem stageRS_tri {c : Dev nD} {k : Fin 3} {i : Fin 6} {t : ℕ} :
    tri D c iprop(accd D c t k (st c i k) (half k) i ∗ any (sbL c) (bst k i)) (stageRS c k i)
      iprop(accd D c t k (st c i k) (half k) i ∗ sbd D c t k i) := by
  intro K Kt Q
  unfold stageRS
  iintro ⟨#Hc, HA, HR⟩ Hk
  iapply (ld (m := accM) (r := sentR c i k) (f := buf (S D c t k)) (fun y => S D c t k (st c i k + (y 0 : ℕ)) (co i + (y 1 : ℕ))) (sent_set c i k).le
    (funext fun y => rd_buf (off := sentOff c i k) (inb := sent_inb c i k) (S D c t k) y)) $$ HA
  iintro HA
  iapply (ld_any (m := sbM) (r := stageR i k) (sb_set i k).le) $$ HR
  iintro HR
  iapply (sto (m := sbM) (r := stageR i k) (buf (SB D c t)) (sb_set i k) (funext fun y => by
    refine (rd_buf (off := ![roff k, co i]) (inb := stage_inb i k) (SB D c t) y).trans ?_
    have hy : (y 0 : ℕ) < half k := (y 0).isLt
    have hc : (y 1 : ℕ) < cn i := (y 1).isLt
    rw [sendPay_apply]
    exact SB_at D c t (i := i) (k := k) (R := (y 0 : ℕ)) (C := co i + (y 1 : ℕ)) hy (Nat.le_add_right _ _) (by omega))) $$ HR
  iintro HR
  iapply Hk
  iframe

theorem sendRS_tri {c : Dev nD} {k : Fin 3} {i : Fin 6} {t m : ℕ} (ht : t < 8) (hm : lvOf (some (.r i k)) t = m) :
    tri D c iprop(sbd D c t k i ∗ Lx c (snd k i) (sr k t) ∗ Tx c (.r i k) t ∗ Rch (prt c i k) (.r i k) t ∗ Rch c (.rc i k) t
        ∗ any (recvL (prt c i k)) (bst k i) ∗ back c i k ∗ Ow c m) (sendRS c k i)
      iprop(Fx c (snd k i) (sr k t) ∗ Tx c (.r i k) (t + 1) ∗ Ow c (m + 1)) := by
  subst hm
  intro K Kt Q
  unfold sendRS
  iintro ⟨#Hc, Hs, HL, HT, H1, H2, Hd, Hb, HO⟩ Hk
  have hset : (recvV i k).view.set = bst k i := recv_set i k
  have hset' : (sbV i k).view.set = bst k i := sb_set i k
  iapply (t_send D (c := c) (.r i k) t rfl (by simpa [rounds] using ht) (snd k i) (sr k t) (snd_rounds k i ht) (snd_tgt c k i)
    (by rw [snd_amt]; rfl) (src := sbV i k) (dst := recvV i k) (sx := semR i k) (sy := semSnd k i) rfl (snd_sem k i) rfl (q := fullShare) (fs := buf (SB D c t))
    (R := iprop(Rch c (.rc i k) t ∗ back c i k))
    (by rw [hset', snd_pay]; exact any_intro (sbL c))
    (fun fd => by
      refine BI.sep_mono (Entails.of_eq ((landed (c := c) (v := (sbV i k).view) (v' := (recvV i k).view)
        (g := buf (RV D (prt c i k) t)) (funext fun y => ?_)).trans (by rw [hset]; rfl))) (Entails.refl _)
      have hy : (y 0 : ℕ) < half k := (y 0).isLt
      have hc : (y 1 : ℕ) < cn i := (y 1).isLt
      refine (rd_buf (off := ![roff k, co i]) (inb := stage_inb i k) (RV D (prt c i k) t) y).trans
        (Eq.trans ?_ (rd_buf (off := ![roff k, co i]) (inb := stage_inb i k) (SB D c t) y).symm)
      exact RV_prt D c t (i := i) (k := k) (Nat.le_add_right _ _) (by show roff k + (y 0 : ℕ) < _; omega)
        (Nat.le_add_right _ _) (by show co i + (y 1 : ℕ) < _; omega)) K Kt Q) $$ [Hs HL HT H1 H2 Hd Hb HO]
  · rw [hset, hset']
    isplitr; · iexact Hc
    isplitl [HL]; · iexact HL
    isplitl [HT]; · iexact HT
    isplitl [HO]; · iexact HO
    isplitl [H1]; · iexact H1
    isplitl [Hs]; · iexact Hs
    isplitl [Hd]; · iexact Hd
    isplitl [H2]; · iexact H2
    iexact Hb
  iintro ⟨HF, HT, HO⟩
  iapply Hk
  iframe

theorem startRS_tri {c : Dev nD} {k : Fin 3} {i : Fin 6} {t : Fin k0_t1_loop.trips} {m : ℕ}
    (hm' : 0 < (t : ℕ) → lvOf (some (.rc i k)) ((t : ℕ) - 1) < m) (hm : lvOf (some (.r i k)) t = m) :
    tri D c iprop(Gr c i k t ∗ accd D c t k (st c i k) (half k) i ∗ any (sbL c) (bst k i) ∗ Lx c (snd k i) (sr k t) ∗ Tx c (.r i k) t ∗ back c i k ∗ Ow c m)
      (startRS c t k i)
      iprop(Rx c (.rc i k) t ∗ accd D c t k (st c i k) (half k) i ∗ Fx c (snd k i) (sr k t) ∗ Tx c (.r i k) ((t : ℕ) + 1) ∗ Ow c (m + 1)) := by
  intro K Kt Q
  unfold startRS
  iintro ⟨#Hc, HG, HA, Hs, HL, HT, Hb, HO⟩ Hk
  iapply (awaitRS_tri D hm' K _ Q) $$ [HG HO]
  · isplitr; · iexact Hc
    iframe
  iintro ⟨HR, H1, Hd, H2, HO⟩
  iapply (stageRS_tri D K _ Q) $$ [HA Hs]
  · isplitr; · iexact Hc
    iframe
  iintro ⟨HA, Hs⟩
  iapply (sendRS_tri D (t_lt t) hm K _ Q) $$ [HL HT Hb HO H1 H2 Hd Hs]
  · isplitr; · iexact Hc
    iframe
  iintro ⟨HF, HT, HO⟩
  iapply Hk
  iframe

end Cert.Proof.RS

end
-- ==== Proof.RS.Gather.lean ====
/- The steps of the epilogue, the gathering and the copies to the result with their resources. -/
module

public import proofs.«01_k».proof.Proof.RS.Steps

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## The device's own rows -/

theorem gt_kp (c : Dev nD) (i : Fin 6) (k : Fin 3) : gt c i k + ln k ≤ kp c i 2 ∨ kp c i 2 + 64 ≤ gt c i k := by revert c i k; decide +kernel

/-- The result at a device's own rows. -/
theorem OUT_own (c : Dev nD) (t : ℕ) {i : Fin 6} {R C : ℕ} (hR : kp c i 2 ≤ R) (hR' : R < kp c i 2 + 64) (hC : co i ≤ C) (hC' : C < co i + cn i) :
    OUT D c (512 * t + R) C = EP D c t R C := by
  have h5 : kp c i 2 + 64 ≤ 512 := (kp_le c i 2).1
  have e1 : (512 * t + R) % 512 = R := by omega
  have e2 : (512 * t + R) / 512 = t := by omega
  unfold OUT
  rw [part_eq hC hC', e1, e2, if_pos ((own_spec i R c (by omega)).mpr ⟨hR, hR'⟩)]
/-- What the gathering passes on of a device's own rows. -/
theorem AG_own (c : Dev nD) (t : ℕ) {i : Fin 6} {R C : ℕ} (hR : kp c i 2 ≤ R) (hR' : R < kp c i 2 + 64) (hC : co i ≤ C) (hC' : C < co i + cn i) :
    AG D t R C = tr (EP D c t R C) := by
  have h5 : kp c i 2 + 64 ≤ 512 := (kp_le c i 2).1
  unfold AG
  rw [part_eq hC hC', (own_spec i R c (by omega)).mpr ⟨hR, hR'⟩]
/-- The result at rows the gathering brings. -/
theorem OUT_got (c : Dev nD) (t : ℕ) {i : Fin 6} {k : Fin 3} {R C : ℕ} (hR : gt c i k ≤ R) (hR' : R < gt c i k + ln k) (hC : co i ≤ C) (hC' : C < co i + cn i) :
    OUT D c (512 * t + R) C = ex (AG D t R C) := by
  have h5 := (hd_le c i k).2
  have h6 := gt_kp c i k
  have e1 : (512 * t + R) % 512 = R := by omega
  have e2 : (512 * t + R) / 512 = t := by omega
  unfold OUT
  rw [part_eq hC hC', e1, e2, if_neg (fun h => by have := (own_spec i R c (by omega)).mp h; omega)]

/-- Rows gathered. -/
abbrev agd (c : Dev nD) (t r h : ℕ) (i : Fin 6) (q : PosShare TreeShare) : sProp 𝕄 := agL c ↦[b512 r h i]{q} buf (AG D t)
/-- A device's own rows of the result. -/
abbrev outO (c : Dev nD) (t : ℕ) (i : Fin 6) : sProp 𝕄 := outL c ↦[b4096 (512 * t + kp c i 2) 64 i]{fullShare} buf (OUT D c)

theorem epilogue_tri {c : Dev nD} {i : Fin 6} {t : Fin k0_t1_loop.trips} :
    tri D c iprop(accd D c t 3 (kp c i 2) 64 i ∗ any (epL c) (b64 i) ∗ any (agL c) (b512 (kp c i 2) 64 i)
        ∗ any (outL c) (b4096 (512 * (t : ℕ) + kp c i 2) 64 i) ∗ Lx c (.c i) t) (epilogue c (D.s c) t i)
      iprop(accd D c t 3 (kp c i 2) 64 i ∗ agd D c t (kp c i 2) 64 i fullShare ∗ Fx c (.c i) t) := by
  intro K Kt Q
  unfold epilogue
  iintro ⟨#Hc, HA, HE, HG, HO, HL⟩ Hk
  have hb0 : ∀ y : (sh 64 (cn i)).Idx, (y 0 : ℕ) < 64 := fun y => (y 0).isLt
  have hb1 : ∀ y : (sh 64 (cn i)).Idx, (y 1 : ℕ) < cn i := fun y => (y 1).isLt
  iapply (ld (m := accM) (r := ownR c i) (f := buf (S D c t 3)) (fun y => S D c t 3 (kp c i 2 + (y 0 : ℕ)) (co i + (y 1 : ℕ))) (ownAcc_set c i).le
    (funext fun y => rd_buf (off := keepOff c i 2) (inb := own_inb c i) (S D c t 3) y)) $$ HA
  iintro HA
  iapply (ld_any (m := epM) (r := epR i) (ep_set i).le) $$ HE
  iintro HE
  iapply (sto (m := epM) (r := epR i) (buf fun R C => EP D c t (kp c i 2 + R) C) (ep_set i) (funext fun y => by
    refine (rd_buf (off := ![0, co i]) (inb := ep_inb i) (fun R C => EP D c t (kp c i 2 + R) C) y).trans ?_
    rw [epPay_apply]
    show EP D c t (kp c i 2 + (0 + (y 0 : ℕ))) (co i + (y 1 : ℕ)) = _
    rw [Nat.zero_add]; rfl)) $$ HE
  iintro HE
  iapply (ld (m := epM) (r := epR i) (f := buf fun R C => EP D c t (kp c i 2 + R) C) (fun y => EP D c t (kp c i 2 + (y 0 : ℕ)) (co i + (y 1 : ℕ))) (ep_set i).le
    (funext fun y => by
      refine (rd_buf (off := ![0, co i]) (inb := ep_inb i) (fun R C => EP D c t (kp c i 2 + R) C) y).trans ?_
      show EP D c t (kp c i 2 + (0 + (y 0 : ℕ))) (co i + (y 1 : ℕ)) = _
      rw [Nat.zero_add])) $$ HE
  iintro HE
  iapply (ld_any (m := agM) (r := ownR c i) (ownAg_set c i).le) $$ HG
  iintro HG
  iapply (sto (m := agM) (r := ownR c i) (buf (AG D t)) (ownAg_set c i) (funext fun y => by
    refine (rd_buf (off := keepOff c i 2) (inb := own_inb c i) (AG D t) y).trans ?_
    rw [sendPay_apply]
    exact AG_own D c t (i := i) (R := kp c i 2 + (y 0 : ℕ)) (C := co i + (y 1 : ℕ)) (Nat.le_add_right _ _) (by have := hb0 y; omega) (Nat.le_add_right _ _)
      (by have := hb1 y; omega))) $$ HG
  iintro HG
  have hs : (epV i).view.set = b64 i := ep_set i
  have hd : (outV c t i).view.set = b4096 (512 * (t : ℕ) + kp c i 2) 64 i := out_set c t i
  iapply (t_copy D (c := c) (.c i) t (by simpa [rounds] using t_lt t) rfl (src := epV i) (dst := outV c t i) (sy := semC i) rfl rfl
    (fs := buf fun R C => EP D c t (kp c i 2 + R) C)
    (fun fd => by
      rw [hs]
      refine BI.sep_mono (Entails.of_eq ((landed (c := c) (d := c) (v := (epV i).view) (v' := (outV c t i).view)
        (g := buf (OUT D c)) (funext fun y => ?_)).trans (by rw [hd]))) (any_intro (epL c))
      refine (rd_buf (off := outOff c t i) (inb := out_inb c t i) (OUT D c) y).trans
        (Eq.trans ?_ (rd_buf (off := ![0, co i]) (inb := ep_inb i) (fun R C => EP D c t (kp c i 2 + R) C) y).symm)
      have e : outOff c t i 0 = 512 * (t : ℕ) + kp c i 2 := outRow_eq c t i
      rw [e, Nat.add_assoc]
      refine (OUT_own D c t (i := i) (R := kp c i 2 + (y 0 : ℕ)) (C := co i + (y 1 : ℕ)) (Nat.le_add_right _ _) (by have := hb0 y; omega) (Nat.le_add_right _ _)
        (by have := hb1 y; omega)).trans ?_
      show _ = EP D c t (kp c i 2 + (0 + (y 0 : ℕ))) (co i + (y 1 : ℕ))
      rw [Nat.zero_add]) K _ Q) $$ [HL HE HO]
  · rw [hs, hd]
    isplitr; · iexact Hc
    iframe
  iintro HF
  iapply Hk
  iframe

/-! ## The gathering -/

/-- The permission for a stage of the gathering. -/
def GrA (c : Dev nD) (i : Fin 6) (k : Fin 3) (t : ℕ) : sProp 𝕄 :=
  iprop(Rx c (.ac i k) (t - 1) ∗ upTo t 0 (back2 (prt c i (mir k)) i k))

theorem awaitAG_tri {c : Dev nD} {k : Fin 3} {i : Fin 6} {t : Fin k0_t1_loop.trips} {m : ℕ} (hm : 0 < (t : ℕ) → lvOf (some (.ac i k)) ((t : ℕ) - 1) < m) :
    tri D c iprop(GrA c i k t ∗ Ow c m) (awaitAG t k i)
      iprop(Rx c (.ac i k) t ∗ Rch c (.ac i k) t ∗ back2 (prt c i (mir k)) i k ∗ Rch (prt c i (mir k)) (.a i k) t ∗ Ow c m) := by
  intro K Kt Q
  unfold awaitAG GrA
  have h8 := t_lt t
  by_cases ht : 0 < (t : ℕ)
  · rw [when_yes ((gtC_iff t).mpr ht), upTo_no (by omega)]
    obtain ⟨n, hn⟩ : ∃ n, (t : ℕ) = n + 1 := ⟨(t : ℕ) - 1, by omega⟩
    have hm' := hm ht
    rw [hn, Nat.add_sub_cancel] at hm' ⊢
    iintro ⟨#Hc, ⟨HR, -⟩, HO⟩ Hk
    iapply (t_rx D (.ac i k) n m (by show n < 7; omega) hm'
      (fun Kt => wpE_semWait_eq 𝒱₀ (c : Thread nD τ) none Set.univ Kt) K Kt Q) $$ [HR HO]
    · isplitr; · iexact Hc
      iframe
    iintro ⟨HR, HO, Hp⟩
    ihave ⟨H1, H2⟩ := (Entails.of_eq (show payF D (tgt c (some (.ac i k))) c (.ac i k) n
      = iprop(Rch (prt c i (mir k)) (.a i k) (n + 1) ∗ back2 (prt c i (mir k)) i k) from rfl)) $$ Hp
    ihave ⟨HR, H3⟩ := Rx_rch $$ HR
    iapply Hk
    iframe
  · have h0 : (t : ℕ) = 0 := by omega
    rw [when_no (by rw [gtC_iff]; exact ht), upTo_yes h0, h0]
    iintro ⟨#Hc, ⟨HR, Ha⟩, HO⟩ Hk
    ihave H1 := (ctx_rch D K (prt c i (mir k)) (.a i k)) $$ Hc
    ihave ⟨HR, H2⟩ := Rx_rch $$ HR
    iapply Hk
    iframe
    iexact H1

theorem sA_mod (t : ℕ) (k : Fin 3) : (5 * t + 2 + k) % 5 = 2 + k ∧ (5 * t + 2 + k) / 5 = t := by have := k.isLt; omega
theorem sA_amt (i : Fin 6) (t : ℕ) (k : Fin 3) : amt (some (.s i)) (5 * t + 2 + k) = amtA i k := by
  show (if _ then _ else if _ then _ else _) = _
  rw [(sA_mod t k).1, if_neg (by omega), if_neg (by omega), Nat.add_sub_cancel_left, f3_val]
theorem sA_pay (c : Dev nD) (i : Fin 6) (t : ℕ) (k : Fin 3) : payF D c c (.s i) (5 * t + 2 + k) = agd D c t (hd c i k) (ln k) i lft := by
  show (if _ then _ else if _ then _ else _) = _
  rw [(sA_mod t k).1, (sA_mod t k).2, if_neg (by omega), if_neg (by omega), Nat.add_sub_cancel_left, f3_val]
theorem sA_rounds {i : Fin 6} {t : ℕ} {k : Fin 3} (ht : t < 8) : 5 * t + 2 + k < rounds (some (.s i)) := by
  show _ < 40; omega

theorem sendAG_tri {c : Dev nD} {k : Fin 3} {i : Fin 6} {t m : ℕ} (ht : t < 8) (hm : lvOf (some (.a i k)) t = m) :
    tri D c iprop(agd D c t (hd c i k) (ln k) i fullShare ∗ Lx c (.s i) (5 * t + 2 + k) ∗ Tx c (.a i k) t ∗ Rch (prt c i (mir k)) (.a i k) t
        ∗ Rch c (.ac i k) t ∗ any (agL (prt c i (mir k))) (b512 (gt (prt c i (mir k)) i k) (ln k) i) ∗ Ow c m) (sendAG c k i)
      iprop(agd D c t (hd c i k) (ln k) i rgt ∗ Fx c (.s i) (5 * t + 2 + k) ∗ Tx c (.a i k) (t + 1) ∗ Ow c (m + 1)) := by
  subst hm
  intro K Kt Q
  unfold sendAG
  iintro ⟨#Hc, Hs, HL, HT, H1, H2, Hd, HO⟩ Hk
  ihave ⟨Hs, Hs'⟩ := (pointsTo_share (PosShare.mem_left_op_right fullShare)).1 $$ Hs
  have hset : (agV c i k).view.set = b512 (hd c i k) (ln k) i := hold_set c i k
  have hpay : ((agV c i k).view.loc (c : Thread nD τ) ↦[(agV c i k).view.set]{lft} (buf (AG D t) : Buf (Elt F) (agL c)) : sProp 𝕄) ⊢ payF D c c (.s i) (5 * t + 2 + k) := by
    rw [hset, sA_pay]
  have hpay' : iprop((agL (prt c i (mir k)) ↦[b512 (hd c i k) (ln k) i]{fullShare} buf (AG D t)) ∗ Rch c (.ac i k) t) ⊢ payF D c (prt c i (mir k)) (.a i k) t := by
    have e : payF D c (prt c i (mir k)) (.a i k) t
      = iprop((agL (prt c i (mir k)) ↦[b512 (gt (prt c i (mir k)) i k) (ln k) i]{fullShare} buf (AG D t)) ∗ Rch c (.ac i k) t) := rfl
    rw [e, gt_prt]
  iapply (t_send D (c := c) (.a i k) t rfl (by simpa [rounds] using ht) (.s i) (5 * t + 2 + k) (sA_rounds ht) rfl
    (sA_amt i t k) (src := agV c i k) (dst := agV c i k) (sx := semA i k) (sy := semS i) rfl rfl rfl (q := lft) (fs := (buf (AG D t) : Buf (Elt F) (agL c)))
    (R := Rch c (.ac i k) t)
    hpay
    (fun fd => by
      refine BI.Entails.trans (BI.sep_mono (Entails.of_eq (landed (c := c) (v := (agV c i k).view) (v' := (agV c i k).view)
        (f := (buf (AG D t) : Buf (Elt F) (agL c))) (g := (buf (AG D t) : Buf (Elt F) (agL (prt c i (mir k))))) rfl)) (Entails.refl _)) ?_
      rw [hset]
      exact hpay') K Kt Q) $$ [Hs HL HT H1 H2 Hd HO]
  · rw [hset]
    isplitr; · iexact Hc
    isplitl [HL]; · iexact HL
    isplitl [HT]; · iexact HT
    isplitl [HO]; · iexact HO
    isplitl [H1]; · iexact H1
    isplitl [Hs]; · iexact Hs
    isplitl [Hd]
    · ihave Hd := (Entails.of_eq (show any (agL (prt c i (mir k))) (b512 (gt (prt c i (mir k)) i k) (ln k) i)
        = any (agL (prt c i (mir k))) (b512 (hd c i k) (ln k) i) by rw [gt_prt])) $$ Hd
      iexact Hd
    iexact H2
  iintro ⟨HF, HT, HO⟩
  iapply Hk
  iframe

theorem waitAG_tri {c : Dev nD} {k : Fin 3} {i : Fin 6} {t m : ℕ} (ht : t < 8) (hm : lvOf (some (.a i k)) t < m) :
    tri D c iprop(Fx c (.s i) (5 * t + 2 + k) ∗ agd D c t (hd c i k) (ln k) i rgt ∗ Rx c (.a i k) t ∗ Ow c m) (waitAG c k i)
      iprop(Lx c (.s i) (5 * t + 2 + k + 1) ∗ agd D c t (hd c i k) (ln k) i fullShare ∗ agd D c t (gt c i k) (ln k) i fullShare
        ∗ Rx c (.a i k) (t + 1) ∗ Rch (prt c i (mir k)) (.ac i k) t ∗ Ow c m) := by
  intro K Kt Q
  unfold waitAG
  iintro ⟨#Hc, HF, Hs', HR, HO⟩ Hk
  iapply (t_fx D (.s i) (5 * t + 2 + k) m (sA_rounds ht) (show 0 < m by omega) rfl
    (fun Kt => (wpE_waitDma2_eq 𝒱₀ (c : Thread nD τ) none Set.univ (sem := semS i) (src := agV c i k) (dst := agV c i k) (hsrc := ag_exact c i k) (hdst := ag_exact c i k) Kt).trans
      (by rw [sA_amt]; rfl)) K _ Q) $$ [HF HO]
  · isplitr; · iexact Hc
    iframe
  iintro ⟨HL, HO, Hs⟩
  ihave Hs := (Entails.of_eq (sA_pay D c i t k)) $$ Hs
  ihave Hs := (pointsTo_share (PosShare.mem_left_op_right fullShare)).2 $$ [Hs Hs']
  · isplitl [Hs] <;> iassumption
  iapply (t_rx D (.a i k) t m (by simpa [rounds] using ht) hm
    (fun Kt => wpE_waitDma2_eq 𝒱₀ (c : Thread nD τ) none Set.univ (sem := semA i k) (src := agV c i k) (dst := agV c i k) (hsrc := ag_exact c i k) (hdst := ag_exact c i k) Kt) K _ Q) $$ [HR HO]
  · isplitr; · iexact Hc
    iframe
  iintro ⟨HR, HO, Hp⟩
  ihave ⟨H1, H2⟩ := (Entails.of_eq (show payF D (tgt c (some (.a i k))) c (.a i k) t
    = iprop(agd D c t (gt c i k) (ln k) i fullShare ∗ Rch (prt c i (mir k)) (.ac i k) t) from rfl)) $$ Hp
  iapply Hk
  iframe

theorem creditAG_tri {c : Dev nD} {k : Fin 3} {i : Fin 6} {t : Fin k0_t1_loop.trips} {m : ℕ} (hm : lvOf (some (.ac i k)) t = m) :
    tri D c iprop(Tx c (.ac i k) t ∗ back2 c i k ∗ Rch c (.a i k) ((t : ℕ) + 1) ∗ Rch (prt c i (mir k)) (.ac i k) t ∗ Ow c m) (creditAG c t k i)
      iprop(Tx c (.ac i k) ((t : ℕ) + 1) ∗ upTo ((t : ℕ) + 1) 8 (back2 c i k) ∗ Ow c (m + 1)) := by
  subst hm
  intro K Kt Q
  unfold creditAG
  by_cases ht : (t : ℕ) < 7
  · rw [when_yes ((ltC_iff t).mpr ht), upTo_no (by omega)]
    iintro ⟨#Hc, HT, Hr, #H1, #H2, HO⟩ Hk
    iapply (t_sig D (.ac i k) t rfl (by simpa [rounds] using ht) (sm := semAC i k) rfl rfl K Kt Q) $$ [HT Hr HO]
    · isplitr; · iexact Hc
      isplitl [HT]; · iexact HT
      isplitl [HO]; · iexact HO
      isplitl [Hr]
      · unfold payF
        isplitr; · iexact H1
        iexact Hr
      iexact H2
    iintro ⟨HT, HO⟩
    iapply Hk
    isplitl [HT]; · iexact HT
    isplitr; · iclose
    iexact HO
  · rw [when_no (by rw [ltC_iff]; exact ht), upTo_yes (by have := t_lt t; omega)]
    iintro ⟨-, HT, Hr, -, -, HO⟩ Hk
    ihave ⟨HT, HO⟩ := (pay_over (c := c) (x := .ac i k) (n := t) rfl (by simpa [rounds] using ht)) $$ [HT HO]
    · iframe
    iapply Hk
    iframe

/-! ## The copies of received rows -/

/-- The rows of the result that use `n` of slot `s` copies. -/
abbrev outP (c : Dev nD) (s : Fin 2) (n : ℕ) : sProp 𝕄 :=
  outL c ↦[b4096 (512 * (n / 9) + gt c (vi s (n % 9)) (vk (n % 9))) (ln (vk (n % 9))) (vi s (n % 9))]{fullShare} buf (OUT D c)
/-- The rows copied so far. -/
def outs (c : Dev nD) (s : Fin 2) (u : ℕ) : sProp 𝕄 := bigSep (Finset.range u) (outP D c s)
theorem outs_succ (c : Dev nD) (s : Fin 2) (u : ℕ) : outs D c s (u + 1) = iprop(outP D c s u ∗ outs D c s u) := by
  unfold outs; rw [Finset.range_add_one, bigSep_insert (by simp)]; rfl
/-- A slot free before use `u`. -/
def Vf (c : Dev nD) (s : Fin 2) (u : ℕ) : sProp 𝕄 := iprop(Lx c (.v s) u ∗ any (cvL c) (slotBox s) ∗ outs D c s u)
/-- A slot whose use `u` is under way. -/
def Vb (c : Dev nD) (s : Fin 2) (u : ℕ) : sProp 𝕄 :=
  iprop(Fx c (.v s) u ∗ any (cvL c) (slotBox s \ (cvR s (vi s (u % 9)) (vk (u % 9))).set) ∗ outs D c s u)

theorem v_mod {t w : ℕ} (hw : w < 9) : (9 * t + w) % 9 = w ∧ (9 * t + w) / 9 = t := by omega
theorem v_amt (s : Fin 2) {t w : ℕ} (hw : w < 9) : amt (some (.v s)) (9 * t + w) = amtV (vi s w) (vk w) := by
  show amtV (vi s ((9 * t + w) % 9)) (vk ((9 * t + w) % 9)) = _
  rw [(v_mod hw).1]
theorem v_pay (c : Dev nD) (s : Fin 2) {t w : ℕ} (hw : w < 9) : payF D c c (.v s) (9 * t + w)
    = iprop((outL c ↦[b4096 (512 * t + gt c (vi s w) (vk w)) (ln (vk w)) (vi s w)]{fullShare} buf (OUT D c)) ∗ any (cvL c) (cvR s (vi s w) (vk w)).set) := by
  show iprop((outL c ↦[b4096 (512 * ((9 * t + w) / 9) + gt c (vi s ((9 * t + w) % 9)) (vk ((9 * t + w) % 9))) (ln (vk ((9 * t + w) % 9))) (vi s ((9 * t + w) % 9))]{fullShare} buf (OUT D c))
    ∗ any (cvL c) (cvR s (vi s ((9 * t + w) % 9)) (vk ((9 * t + w) % 9))).set) = _
  rw [(v_mod hw).1, (v_mod hw).2]

theorem waitV_tri {c : Dev nD} {s : Fin 2} {t : Fin k0_t1_loop.trips} {w m : ℕ} (hw : w < 9) (hm : 0 < m) :
    tri D c iprop(Vb D c s (9 * (t : ℕ) + w) ∗ Ow c m)
      (fun K => .op (.waitDma2 (semV s) (cvV s (vi s w) (vk w)) (outGotV c t (vi s w) (vk w)) ((View.wordExact_bits rfl).reshape _ _) (View.wordExact_bits rfl)) fun _ => K)
      iprop(Vf D c s (9 * (t : ℕ) + w + 1) ∗ Ow c m) := by
  intro K Kt Q
  unfold Vf Vb
  have h8 := t_lt t
  iintro ⟨#Hc, ⟨HF, Ha, Hout⟩, HO⟩ Hk
  iapply (t_fx D (.v s) (9 * (t : ℕ) + w) m (by show _ < 72; omega) (show 0 < m by omega) rfl
    (fun Kt => (wpE_waitDma2_eq 𝒱₀ (c : Thread nD τ) none Set.univ (sem := semV s) (src := cvV s (vi s w) (vk w)) (dst := outGotV c t (vi s w) (vk w))
      (hsrc := (View.wordExact_bits rfl).reshape _ _) (hdst := View.wordExact_bits rfl) Kt).trans (by rw [v_amt s hw]; rfl)) K Kt Q) $$ [HF HO]
  · isplitr; · iexact Hc
    iframe
  iintro ⟨HL, HO, Hp⟩
  iapply Hk
  isplitr [HO]
  · isplitl [HL]; · iexact HL
    rw [outs_succ]
    ihave ⟨H1, H2⟩ := (Entails.of_eq (show payF D c c (.v s) (9 * (t : ℕ) + w) = iprop(outP D c s (9 * (t : ℕ) + w)
      ∗ any (cvL c) (cvR s (vi s ((9 * (t : ℕ) + w) % 9)) (vk ((9 * (t : ℕ) + w) % 9))).set) from rfl)) $$ Hp
    isplitl [H2 Ha]
    · iapply (any_union (Finset.union_sdiff_of_subset (cvR_sub s _ _)) (Finset.disjoint_sdiff)).2
      isplitl [H2] <;> iassumption
    isplitl [H1] <;> iassumption
  iexact HO

/-- An index of a slot's rectangle without its first coordinate. -/
def tl {a b : ℕ} (y : (sh1 a b).Idx) : (sh a b).Idx := fun j => y (Fin.succ j)
theorem drop_unit {a b : ℕ} (h : (sh a b).numel = (sh1 a b).numel) (y : (sh1 a b).Idx) : Shape.reshapeEquiv h.symm y = tl y := by
  have e : Shape.reshapeEquiv h (tl y) = y := by
    refine (Shape.reshapeEquiv_cons_one h _).trans ?_
    funext j
    refine Fin.cases ?_ (fun j => rfl) j
    exact Fin.ext (by have : (y 0 : ℕ) < 1 := (y 0).isLt; show 0 = (y 0 : ℕ); omega)
  calc Shape.reshapeEquiv h.symm y = Shape.reshapeEquiv h.symm (Shape.reshapeEquiv h (tl y)) := by rw [e]
    _ = tl y := by rw [Shape.reshapeEquiv_reshapeEquiv, Shape.reshapeEquiv_self]
theorem add_unit {a b : ℕ} (h : (sh a b).numel = (sh1 a b).numel) (y : (sh a b).Idx) : tl (Shape.reshapeEquiv h y) = y := by
  rw [← drop_unit h, Shape.reshapeEquiv_reshapeEquiv, Shape.reshapeEquiv_self]

/-- What a slot holds. -/
def cvB (c : Dev nD) (t : ℕ) (i : Fin 6) (k : Fin 3) : S2x256x1408.Idx → F .f32 :=
  fun x => ex (AG D t (gt c i k + (x 1 : ℕ)) (co i + (x 2 : ℕ)))

theorem cvB_read (c : Dev nD) (t : ℕ) (i : Fin 6) (k : Fin 3) (s : Fin 2) (y : (sh1 (ln k) (cn i)).Idx) :
    cvB D c t i k ((cvR s i k).emb y) = ex (AG D t (gt c i k + (y 1 : ℕ)) (co i + (y 2 : ℕ))) := by
  show ex (AG D t (gt c i k + (0 + 1 * (y 1 : ℕ))) (co i + (0 + 1 * (y 2 : ℕ)))) = _
  rw [Nat.one_mul, Nat.one_mul, Nat.zero_add, Nat.zero_add]

theorem putCV_tri {c : Dev nD} {k : Fin 3} {i : Fin 6} {t : Fin k0_t1_loop.trips} {w : ℕ} (hw : w < 9) (hi : vi (slot i) w = i) (hk : vk w = k)
    {U : Finset S512x8192.Idx} {q : PosShare TreeShare} (hU : b512 (gt c i k) (ln k) i ⊆ U) :
    tri D c iprop(Vf D c (slot i) (9 * (t : ℕ) + w) ∗ any (outL c) (b4096 (512 * (t : ℕ) + gt c i k) (ln k) i) ∗ (agL c ↦[U]{q} buf (AG D t)))
      (putCV c t k i) iprop(Vb D c (slot i) (9 * (t : ℕ) + w) ∗ (agL c ↦[U]{q} buf (AG D t))) := by
  intro K Kt Q
  unfold putCV Vf Vb
  have h8 := t_lt t
  iintro ⟨#Hc, ⟨HL, Ha, Hout⟩, Hd, HG⟩ Hk
  iapply (ld (m := agM) (r := gotR c i k) (f := buf (AG D t)) (fun y => AG D t (gt c i k + (y 0 : ℕ)) (co i + (y 1 : ℕ))) ((got_set c i k).trans_subset hU)
    (funext fun y => rd_buf (off := gotOff c i k) (inb := got_inb c i k) (AG D t) y)) $$ HG
  iintro HG
  have hcs : (cvM.access (cvR (slot i) i k)).set = (cvR (slot i) i k).set := View.set_slice_whole _ _
  ihave ⟨H1, H2⟩ := (any_union (ℓ := cvL c) (Finset.union_sdiff_of_subset (cvR_sub (slot i) i k)) (Finset.disjoint_sdiff)).1 $$ Ha
  iapply (ld_any (m := cvM) (r := cvR (slot i) i k) hcs.le) $$ H1
  iintro H1
  iapply (sto (m := cvM) (r := cvR (slot i) i k) (cvB D c t i k) hcs (funext fun y => by
    refine (cvB_read D c t i k (slot i) y).trans ?_
    show _ = ex (AG D t (gt c i k + ((Shape.reshapeEquiv (cv_casts i k) y) 0 : ℕ)) (co i + ((Shape.reshapeEquiv (cv_casts i k) y) 1 : ℕ)))
    have e : Shape.reshapeEquiv (cv_casts i k) y = tl y := drop_unit (sq_cv i k).numel_eq y
    rw [e]; rfl)) $$ H1
  iintro H1
  have hs : (cvV (slot i) i k).view.set = (cvR (slot i) i k).set := (View.set_reshape _ _).trans hcs
  have hd : (outGotV c t i k).view.set = b4096 (512 * (t : ℕ) + gt c i k) (ln k) i := outGot_set c t i k
  have hpay := v_pay D c (slot i) (t := (t : ℕ)) hw
  rw [hi, hk] at hpay
  have hamt := v_amt (slot i) (t := (t : ℕ)) hw
  rw [hi, hk] at hamt
  have hb0 : ∀ y : (sh (ln k) (cn i)).Idx, (y 0 : ℕ) < ln k := fun y => (y 0).isLt
  have hb1 : ∀ y : (sh (ln k) (cn i)).Idx, (y 1 : ℕ) < cn i := fun y => (y 1).isLt
  iapply (t_copy D (c := c) (.v (slot i)) (9 * (t : ℕ) + w) (by show _ < 72; omega) rfl (src := cvV (slot i) i k) (dst := outGotV c t i k)
    (sy := semV (slot i)) rfl (by rw [hamt]; rfl) (fs := cvB D c t i k)
    (fun fd => by
      rw [hs, hpay]
      refine BI.sep_mono (Entails.of_eq ((landed (c := c) (d := c) (v := (cvV (slot i) i k).view) (v' := (outGotV c t i k).view)
        (g := buf (OUT D c)) (funext fun y => ?_)).trans (by rw [hd]))) (any_intro (cvL c))
      refine (rd_buf (off := outGotOff c t i k) (inb := outGot_inb c t i k) (OUT D c) y).trans
        (Eq.trans ?_ (cvB_read D c t i k (slot i) (Shape.reshapeEquiv (sq_cv i k).numel_eq y)).symm)
      have e : outGotOff c t i k 0 = 512 * (t : ℕ) + gt c i k := outGotRow_eq c t i k
      rw [e, Nat.add_assoc]
      refine (OUT_got D c t (i := i) (k := k) (R := gt c i k + (y 0 : ℕ)) (C := co i + (y 1 : ℕ)) (Nat.le_add_right _ _) (by have := hb0 y; omega) (Nat.le_add_right _ _)
        (by have := hb1 y; omega)).trans ?_
      have e' : tl (Shape.reshapeEquiv (sq_cv i k).numel_eq y) = y := add_unit (sq_cv i k).numel_eq y
      conv_lhs => rw [← e']
      rfl) K _ Q) $$ [HL H1 Hd]
  · rw [hs, hd]
    isplitr; · iexact Hc
    iframe
  iintro HF
  iapply Hk
  isplitr [HG]
  · isplitl [HF]; · iexact HF
    isplitl [H2]
    · rw [(v_mod hw).1, hi, hk]; iexact H2
    iexact Hout
  iexact HG

/-- A slot after `w` uses in trip `t`. -/
def VS (c : Dev nD) (s : Fin 2) (t w : ℕ) : sProp 𝕄 := if w = 0 then Vf D c s (9 * t) else Vb D c s (9 * t + (w - 1))

theorem use_at (i : Fin 6) (k : Fin 3) : vi (slot i) (3 * k + i / 2) = i ∧ vk (3 * (k : ℕ) + i / 2) = k ∧ 3 * (k : ℕ) + i / 2 < 9 := by revert i k; decide

theorem waitCV_tri {c : Dev nD} {k : Fin 3} {i : Fin 6} {t : Fin k0_t1_loop.trips} {w m : ℕ} (hw : w < 9) (hi : vi (slot i) w = i) (hk : vk w = k) (hm : 0 < m) :
    tri D c iprop(Vb D c (slot i) (9 * (t : ℕ) + w) ∗ Ow c m) (waitCV c t k i) iprop(Vf D c (slot i) (9 * (t : ℕ) + w + 1) ∗ Ow c m) := by
  have h := waitV_tri D (c := c) (s := slot i) (t := t) hw hm
  rw [hi, hk] at h
  exact h

theorem clear_eq (c : Dev nD) (t : Fin k0_t1_loop.trips) (k : Fin 3) (i : Fin 6) (K : TP F) : clearCV c t k i K
    = if 3 * (k : ℕ) + i / 2 = 0 then K else waitCV c t (vk (3 * (k : ℕ) + i / 2 - 1)) (vi (slot i) (3 * (k : ℕ) + i / 2 - 1)) K := by
  fin_cases i <;> fin_cases k <;> rfl
theorem prev_at (i : Fin 6) (k : Fin 3) : slot (vi (slot i) (3 * (k : ℕ) + i / 2 - 1)) = slot i ∧ 3 * (k : ℕ) + i / 2 - 1 < 9 := by revert i k; decide

theorem clearCV_tri {c : Dev nD} {k : Fin 3} {i : Fin 6} {t : Fin k0_t1_loop.trips} {m : ℕ} (hm : 0 < m) :
    tri D c iprop(VS D c (slot i) t (3 * (k : ℕ) + i / 2) ∗ Ow c m) (clearCV c t k i) iprop(Vf D c (slot i) (9 * (t : ℕ) + (3 * (k : ℕ) + i / 2)) ∗ Ow c m) := by
  intro K Kt Q
  rw [clear_eq]
  unfold VS
  obtain ⟨hs, hw⟩ := prev_at i k
  generalize hu : 3 * (k : ℕ) + i / 2 = u at hs hw ⊢
  by_cases h0 : u = 0
  · rw [if_pos h0, if_pos h0, h0]
    iintro ⟨-, H⟩ Hk
    iapply Hk
    iexact H
  · rw [if_neg h0, if_neg h0]
    have h := waitCV_tri D (c := c) (t := t) (i := vi (slot i) (u - 1)) (k := vk (u - 1)) (w := u - 1) (m := m) hw (by rw [hs]) rfl hm
    rw [hs, show 9 * (t : ℕ) + (u - 1) + 1 = 9 * (t : ℕ) + u by omega] at h
    exact h K Kt Q

theorem VS_at (c : Dev nD) (t : ℕ) (k : Fin 3) (i : Fin 6) :
    iprop(VS D c 0 t (3 * (k : ℕ) + (i + 1) / 2) ∗ VS D c 1 t (3 * (k : ℕ) + i / 2)) ⊢ iprop(VS D c (slot i) t (3 * (k : ℕ) + i / 2)
      ∗ (VS D c (slot i) t (3 * (k : ℕ) + i / 2 + 1) -∗ (VS D c 0 t (3 * (k : ℕ) + (i + 1 + 1) / 2) ∗ VS D c 1 t (3 * (k : ℕ) + (i + 1) / 2)))) := by
  have even : ∀ a b a' b' : ℕ, a = b → a' = b + 1 → b' = b → iprop(VS D c 0 t a ∗ VS D c 1 t b) ⊢ iprop(VS D c 0 t b ∗ (VS D c 0 t (b + 1) -∗ (VS D c 0 t a' ∗ VS D c 1 t b'))) := by
    rintro a b a' b' rfl rfl rfl
    iintro ⟨H0, H1⟩
    isplitl [H0]; · iexact H0
    iintro H0
    isplitl [H0] <;> iassumption
  have odd : ∀ a b a' b' : ℕ, a' = a → b' = b + 1 → iprop(VS D c 0 t a ∗ VS D c 1 t b) ⊢ iprop(VS D c 1 t b ∗ (VS D c 1 t (b + 1) -∗ (VS D c 0 t a' ∗ VS D c 1 t b'))) := by
    rintro a b a' b' rfl rfl
    iintro ⟨H0, H1⟩
    isplitl [H1]; · iexact H1
    iintro H1
    isplitl [H0] <;> iassumption
  fin_cases i
  · exact even _ _ _ _ rfl rfl rfl
  · exact odd _ _ _ _ rfl rfl
  · exact even _ _ _ _ rfl rfl rfl
  · exact odd _ _ _ _ rfl rfl
  · exact even _ _ _ _ rfl rfl rfl
  · exact odd _ _ _ _ rfl rfl

/-- Moving received rows through their slot. -/
theorem moveCV_tri {c : Dev nD} {k : Fin 3} {i : Fin 6} {t : Fin k0_t1_loop.trips} {m : ℕ} (hm : 0 < m)
    {U : Finset S512x8192.Idx} {q : PosShare TreeShare} (hU : b512 (gt c i k) (ln k) i ⊆ U) :
    tri D c iprop((VS D c 0 t (3 * (k : ℕ) + (i + 1) / 2) ∗ VS D c 1 t (3 * (k : ℕ) + i / 2)) ∗ any (outL c) (b4096 (512 * (t : ℕ) + gt c i k) (ln k) i)
        ∗ (agL c ↦[U]{q} buf (AG D t)) ∗ Ow c m) (fun K => clearCV c t k i (putCV c t k i K))
      iprop((VS D c 0 t (3 * (k : ℕ) + (i + 1 + 1) / 2) ∗ VS D c 1 t (3 * (k : ℕ) + (i + 1) / 2)) ∗ (agL c ↦[U]{q} buf (AG D t)) ∗ Ow c m) := by
  intro K Kt Q
  iintro ⟨#Hc, HV, Hd, HG, HO⟩ Hk
  ihave ⟨HV, Hback⟩ := (VS_at D c t k i) $$ HV
  iapply (clearCV_tri D hm K _ Q) $$ [HV HO]
  · isplitr; · iexact Hc
    iframe
  iintro ⟨HV, HO⟩
  obtain ⟨hi, hk, hw⟩ := use_at i k
  iapply (putCV_tri D hw hi hk hU K _ Q) $$ [HV Hd HG]
  · isplitr; · iexact Hc
    iframe
  iintro ⟨HV, HG⟩
  iapply Hk
  isplitl [HV Hback]
  · iapply Hback
    unfold VS
    rw [if_neg (Nat.succ_ne_zero _), Nat.add_sub_cancel]
    iexact HV
  isplitl [HG] <;> iassumption

end Cert.Proof.RS

end
-- ==== Proof.RS.Phases.lean ====
/- The phases of a round: what each needs of a part and what it leaves. -/
module

public import proofs.«01_k».proof.Proof.RS.Gather

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## Composition -/

/-- All parts' resources. -/
abbrev all (P : Fin 6 → sProp 𝕄) : sProp 𝕄 := bigSep Finset.univ P

theorem all_split (P Q : Fin 6 → sProp 𝕄) : all (fun i => iprop(P i ∗ Q i)) ⊣⊢ iprop(all P ∗ all Q) := by
  have e : all (fun i => iprop(P i ∗ Q i)) = iprop(all P ∗ all Q) := bigSep_sep' ..
  rw [e]
theorem all_mono {P Q : Fin 6 → sProp 𝕄} (h : ∀ i, P i ⊢ Q i) : all P ⊢ all Q := bigSep_mono fun i _ => h i
theorem all_six (P : Fin 6 → sProp 𝕄) : all P ⊣⊢ iprop(P 0 ∗ P 1 ∗ P 2 ∗ P 3 ∗ P 4 ∗ P 5) := by
  have e : all P = iprop(P 0 ∗ P 1 ∗ P 2 ∗ P 3 ∗ P 4 ∗ P 5) := (bigSep_univ_eq_bigSepL [0, 1, 2, 3, 4, 5] (by decide) (by decide) P).trans rfl
  rw [e]

/-- A step of each part, a resource threaded through. -/
theorem tri_each {c : Dev nD} (T : ℕ → sProp 𝕄) (P P' : Fin 6 → sProp 𝕄) (f : Fin 6 → TP F → TP F)
    (h : ∀ i : Fin 6, tri D c iprop(T i ∗ P i) (f i) iprop(T ((i : ℕ) + 1) ∗ P' i)) : tri D c iprop(T 0 ∗ all P) (each f) iprop(T 6 ∗ all P') := by
  have h0 : tri D c iprop(T 0 ∗ P 0) (f 0) iprop(T 1 ∗ P' 0) := h 0
  have h1 : tri D c iprop(T 1 ∗ P 1) (f 1) iprop(T 2 ∗ P' 1) := h 1
  have h2 : tri D c iprop(T 2 ∗ P 2) (f 2) iprop(T 3 ∗ P' 2) := h 2
  have h3 : tri D c iprop(T 3 ∗ P 3) (f 3) iprop(T 4 ∗ P' 3) := h 3
  have h4 : tri D c iprop(T 4 ∗ P 4) (f 4) iprop(T 5 ∗ P' 4) := h 4
  have h5 : tri D c iprop(T 5 ∗ P 5) (f 5) iprop(T 6 ∗ P' 5) := h 5
  intro K Kt Q
  unfold each
  iintro ⟨#Hc, HT, HP⟩ Hk
  ihave ⟨H0, H1, H2, H3, H4, H5⟩ := (all_six P).1 $$ HP
  iapply (h0 K _ Q) $$ [HT H0]
  · isplitr; · iexact Hc
    isplitl [HT]; · iexact HT
    iexact H0
  iintro ⟨HT, H0⟩
  iapply (h1 K _ Q) $$ [HT H1]
  · isplitr; · iexact Hc
    isplitl [HT]; · iexact HT
    iexact H1
  iintro ⟨HT, H1⟩
  iapply (h2 K _ Q) $$ [HT H2]
  · isplitr; · iexact Hc
    isplitl [HT]; · iexact HT
    iexact H2
  iintro ⟨HT, H2⟩
  iapply (h3 K _ Q) $$ [HT H3]
  · isplitr; · iexact Hc
    isplitl [HT]; · iexact HT
    iexact H3
  iintro ⟨HT, H3⟩
  iapply (h4 K _ Q) $$ [HT H4]
  · isplitr; · iexact Hc
    isplitl [HT]; · iexact HT
    iexact H4
  iintro ⟨HT, H4⟩
  iapply (h5 K _ Q) $$ [HT H5]
  · isplitr; · iexact Hc
    isplitl [HT]; · iexact HT
    iexact H5
  iintro ⟨HT, H5⟩
  iapply Hk
  isplitl [HT]; · iexact HT
  iapply (all_six P').2
  iframe

/-! ## Rows split and joined -/

/-- The rows of a stage: those kept and those sent. -/
theorem accd_split (c : Dev nD) (t n : ℕ) (i : Fin 6) (k : Fin 3) : accd D c t n (kb c i k) (kl k) i
    ⊣⊢ iprop(accd D c t n (kp c i k) (half k) i ∗ accd D c t n (st c i k) (half k) i) := by
  obtain ⟨hl, hs⟩ := kp_st c i k
  have hu : (b512 (kp c i k) (half k) i ∪ b512 (st c i k) (half k) i : Finset S512x8192.Idx) = b512 (kb c i k) (kl k) i := bx_union hs hl
  have hd : Disjoint (b512 (kp c i k) (half k) i : Finset S512x8192.Idx) (b512 (st c i k) (half k) i) := bx_disj (by omega)
  have h (I J U : Finset S512x8192.Idx) (e : I ∪ J = U) (hd : Disjoint I J) : (accL c ↦[U]{fullShare} buf (S D c t n) : sProp 𝕄)
      ⊣⊢ iprop((accL c ↦[I]{fullShare} buf (S D c t n)) ∗ accL c ↦[J]{fullShare} buf (S D c t n)) := by
    subst e; exact pointsTo_union hd
  exact h _ _ _ hu hd
theorem acc_split (c : Dev nD) (i : Fin 6) (k : Fin 3) : any (F := F) (accL c) (b512 (kb c i k) (kl k) i)
    ⊣⊢ iprop(any (accL c) (b512 (kp c i k) (half k) i) ∗ any (accL c) (b512 (st c i k) (half k) i)) := by
  obtain ⟨hl, hs⟩ := kp_st c i k
  exact any_union (bx_union hs hl) (bx_disj (by omega))
/-- The rows held after a stage of the gathering: those held before and those received. -/
theorem agd_join (c : Dev nD) (t : ℕ) (i : Fin 6) (k : Fin 3) {r l : ℕ} (hr : hb c i k = r) (hl : l = ln k + ln k) (q : PosShare TreeShare) :
    agd D c t r l i q ⊣⊢ iprop(agd D c t (hd c i k) (ln k) i q ∗ agd D c t (gt c i k) (ln k) i q) := by
  have hs := hd_gt c i k
  rw [hr] at hs
  have hu : (b512 (hd c i k) (ln k) i ∪ b512 (gt c i k) (ln k) i : Finset S512x8192.Idx) = b512 r l i := bx_union hs hl
  have hd : Disjoint (b512 (hd c i k) (ln k) i : Finset S512x8192.Idx) (b512 (gt c i k) (ln k) i) := bx_disj (by omega)
  have h (I J U : Finset S512x8192.Idx) (e : I ∪ J = U) (hd : Disjoint I J) : (agL c ↦[U]{q} buf (AG D t) : sProp 𝕄)
      ⊣⊢ iprop((agL c ↦[I]{q} buf (AG D t)) ∗ agL c ↦[J]{q} buf (AG D t)) := by
    subst e; exact pointsTo_union hd
  exact h _ _ _ hu hd
theorem gt_sub (c : Dev nD) (i : Fin 6) (k : Fin 3) {r l : ℕ} (hr : hb c i k = r) (hl : l = ln k + ln k) :
    (b512 (gt c i k) (ln k) i : Finset S512x8192.Idx) ⊆ b512 r l i := by
  have hs := hd_gt c i k
  exact bx_sub (by omega)

/-! ## What is lent at each stage -/

theorem back_one (q : Dev nD) (i : Fin 6) : back (F := F) q i 1 = any (agL q) (b512 (gt q i 1) 128 i) := rfl
theorem back_two (q : Dev nD) (i : Fin 6) : back (F := F) q i 2 = any (agL q) (b512 (gt q i 0) 64 i) := rfl
theorem back2_zero (q : Dev nD) (i : Fin 6) : back2 (F := F) q i 0 = iprop(emp) := rfl
theorem back2_one (q : Dev nD) (i : Fin 6) : back2 (F := F) q i 1 = iprop(emp) := rfl
theorem back2_two (q : Dev nD) (i : Fin 6) : back2 (F := F) q i 2 = any (agL q) (b512 (gt q i 2) 256 i) := rfl

/-! ## The reduction -/

/-- A wait of the reduction and the next stage's start. -/
theorem ab_tri {c : Dev nD} {k k' : Fin 3} {i : Fin 6} {t : Fin k0_t1_loop.trips} {m : ℕ} {X Y : sProp 𝕄} (hkk : (k : ℕ) + 1 = k')
    (hkb : kb c i k' = kp c i k) (hkl : kl k' = half k) (hw : lvOf (some (.r i k)) t < m) (hm : lvOf (some (.rc i k)) t = m)
    (hg : 0 < (t : ℕ) → lvOf (some (.rc i k')) ((t : ℕ) - 1) < m + 1) (hm' : lvOf (some (.r i k')) t = m + 1)
    (hL : iprop(Lx c (snd k i) (sr k t + 1) ∗ X) ⊢ iprop(Lx c (snd k' i) (sr k' t) ∗ Y)) :
    tri D c iprop(Ow c m ∗ (Fx c (snd k i) (sr k t) ∗ accd D c t k (kp c i k) (half k) i ∗ X) ∗ Rx c (.r i k) t ∗ Tx c (.rc i k) t ∗ Gr c i k' t
        ∗ any (sbL c) (bst k' i) ∗ Tx c (.r i k') t ∗ back c i k')
      (fun K => waitRS semSnd k i (addRS c k i (creditRS c t k i (startRS c t k' i K))))
      iprop(Ow c (m + 2) ∗ (Fx c (snd k' i) (sr k' t) ∗ accd D c t k' (kp c i k') (half k') i) ∗ Y ∗ any (sbL c) (bst k i) ∗ Rx c (.r i k) ((t : ℕ) + 1)
        ∗ Tx c (.rc i k) ((t : ℕ) + 1) ∗ upTo ((t : ℕ) + 1) 8 (any (recvL c) (bst k i)) ∗ Rx c (.rc i k') t ∗ any (accL c) (b512 (st c i k') (half k') i)
        ∗ Tx c (.r i k') ((t : ℕ) + 1) ∗ back (prt c i k) i k) := by
  intro K Kt Q
  iintro ⟨#Hc, HO, ⟨HF, HA, HX⟩, HR, HT, HG, Hs, HT', Hb⟩ Hk
  iapply (waitRS_tri D (t_lt t) hw K _ Q) $$ [HF HR HO]
  · isplitr; · iexact Hc
    iframe
  iintro ⟨HL, Hs0, HR, Hrv, Hrch, Hbk, HO⟩
  iapply (addRS_tri D K _ Q) $$ [HA Hrv]
  · isplitr; · iexact Hc
    iframe
  iintro ⟨HA, Hrv⟩
  ihave ⟨HR, HRr⟩ := Rx_rch $$ HR
  ihave Hrv := (any_intro (recvL c)) $$ Hrv
  iapply (creditRS_tri D hm K _ Q) $$ [HT Hrv HRr Hrch HO]
  · isplitr; · iexact Hc
    iframe
  iintro ⟨HT, Hup, HO⟩
  ihave ⟨HL, HY⟩ := hL $$ [HL HX]
  · iframe
  ihave ⟨HA, HA'⟩ := (Entails.of_eq (show accd D c t ((k : ℕ) + 1) (kp c i k) (half k) i = accd D c t k' (kb c i k') (kl k') i by rw [hkk, hkb, hkl])).trans
    (accd_split D c t k' i k').1 $$ HA
  iapply (startRS_tri D hg hm' K _ Q) $$ [HG HA' Hs HL HT' Hb HO]
  · isplitr; · iexact Hc
    iframe
  iintro ⟨HG, HA', HF, HT', HO⟩
  ihave HA' := (any_intro (accL c)) $$ HA'
  iapply Hk
  isplitl [HO]; · iexact HO
  iframe

/-- What the first phase needs of a part. -/
def XA (c : Dev nD) (t : ℕ) (i : Fin 6) : sProp 𝕄 := iprop((Fx c (.s0 i) t ∗ accd D c t 0 (kp c i 0) 256 i ∗ Lx c (.s i) (5 * t)) ∗ Rx c (.r i 0) t
  ∗ Tx c (.rc i 0) t ∗ Gr c i 1 t ∗ any (sbL c) (bst 1 i) ∗ Tx c (.r i 1) t ∗ any (agL c) (b512 (gt c i 1) 128 i))
/-- What it passes to the second. -/
def LA (c : Dev nD) (t : ℕ) (i : Fin 6) : sProp 𝕄 := iprop(Fx c (.s i) (5 * t) ∗ accd D c t 1 (kp c i 1) 128 i)
/-- What else it leaves. -/
def YA (c : Dev nD) (t : ℕ) (i : Fin 6) : sProp 𝕄 := iprop(Lx c (.s0 i) (t + 1) ∗ any (sbL c) (bst 0 i) ∗ Rx c (.r i 0) (t + 1) ∗ Tx c (.rc i 0) (t + 1)
  ∗ upTo (t + 1) 8 (any (recvL c) (bst 0 i)) ∗ Rx c (.rc i 1) t ∗ any (accL c) (b512 (st c i 1) 128 i) ∗ Tx c (.r i 1) (t + 1))

theorem phaseA_tri {c : Dev nD} {i : Fin 6} {t : Fin k0_t1_loop.trips} :
    tri D c iprop(Ow c (pos ((t : ℕ) + 1) 0 i 0) ∗ XA D c t i) (phaseA c t i) iprop(Ow c (pos ((t : ℕ) + 1) 0 ((i : ℕ) + 1) 0) ∗ (LA D c t i ∗ YA c t i)) := by
  intro K Kt Q
  unfold XA LA YA phaseA
  have hi := i.isLt
  iintro ⟨#Hc, HO, HF, HR, HT, HG, Hs, HT', Hb⟩ Hk
  iapply (ab_tri D (c := c) (k := 0) (k' := 1) (i := i) (t := t) (m := pos ((t : ℕ) + 1) 0 i 0) (X := Lx c (.s i) (5 * (t : ℕ))) (Y := Lx c (.s0 i) ((t : ℕ) + 1)) rfl rfl rfl
    (show pos (t : ℕ) 5 i 0 < _ by simp only [pos]; omega) rfl (fun h => show pos ((t : ℕ) - 1 + 1) 1 i 0 < _ by simp only [pos]; omega) rfl
    (by iintro ⟨H1, H2⟩; isplitl [H2]; · iexact H2
        iexact H1) K Kt Q) $$ [HO HF HR HT HG Hs HT' Hb]
  · isplitr; · iexact Hc
    isplitl [HO]; · iexact HO
    isplitl [HF]; · iexact HF
    isplitl [HR]; · iexact HR
    isplitl [HT]; · iexact HT
    isplitl [HG]; · iexact HG
    isplitl [Hs]; · iexact Hs
    isplitl [HT']; · iexact HT'
    rw [back_one]; iexact Hb
  iintro ⟨HO, ⟨HF, HA⟩, HY, Hs, HR, HT, Hu, HG, HA', HT', -⟩
  iapply Hk
  isplitl [HO]
  · rw [show pos ((t : ℕ) + 1) 0 ((i : ℕ) + 1) 0 = pos ((t : ℕ) + 1) 0 i 0 + 2 by simp only [pos]; omega]; iexact HO
  isplitl [HF HA]
  · isplitl [HF]; · iexact HF
    iexact HA
  isplitl [HY]; · iexact HY
  isplitl [Hs]; · iexact Hs
  isplitl [HR]; · iexact HR
  isplitl [HT]; · iexact HT
  isplitl [Hu]; · iexact Hu
  isplitl [HG]; · iexact HG
  isplitl [HA']; · iexact HA'
  iexact HT'

/-- What the second phase needs of a part. -/
def XB (c : Dev nD) (t : ℕ) (i : Fin 6) : sProp 𝕄 := iprop(Rx c (.r i 1) t ∗ Tx c (.rc i 1) t ∗ Gr c i 2 t ∗ any (sbL c) (bst 2 i) ∗ Tx c (.r i 2) t
  ∗ any (agL c) (b512 (gt c i 0) 64 i))
/-- What it passes to the third. -/
def LB (c : Dev nD) (t : ℕ) (i : Fin 6) : sProp 𝕄 := iprop(Fx c (.s i) (5 * t + 1) ∗ accd D c t 2 (kp c i 2) 64 i)
/-- The neighbour's rows, for the fourth. -/
def ZB (c : Dev nD) (i : Fin 6) : sProp 𝕄 := any (agL (prt c i 1)) (b512 (gt (prt c i 1) i 1) 128 i)
/-- What else it leaves. -/
def YB (c : Dev nD) (t : ℕ) (i : Fin 6) : sProp 𝕄 := iprop(any (sbL c) (bst 1 i) ∗ Rx c (.r i 1) (t + 1) ∗ Tx c (.rc i 1) (t + 1)
  ∗ upTo (t + 1) 8 (any (recvL c) (bst 1 i)) ∗ Rx c (.rc i 2) t ∗ any (accL c) (b512 (st c i 2) 64 i) ∗ Tx c (.r i 2) (t + 1))

theorem phaseB_tri {c : Dev nD} {i : Fin 6} {t : Fin k0_t1_loop.trips} :
    tri D c iprop(Ow c (pos ((t : ℕ) + 1) 1 i 0) ∗ (LA D c t i ∗ XB c t i)) (phaseB c t i)
      iprop(Ow c (pos ((t : ℕ) + 1) 1 ((i : ℕ) + 1) 0) ∗ (LB D c t i ∗ ZB c i ∗ YB c t i)) := by
  intro K Kt Q
  unfold XB LA LB YB ZB phaseB
  have hi := i.isLt
  iintro ⟨#Hc, HO, ⟨HF, HA⟩, HR, HT, HG, Hs, HT', Hb⟩ Hk
  iapply (ab_tri D (c := c) (k := 1) (k' := 2) (i := i) (t := t) (m := pos ((t : ℕ) + 1) 1 i 0) (X := iprop(emp)) (Y := iprop(emp)) rfl rfl rfl
    (show pos ((t : ℕ) + 1) 0 i 1 < _ by simp only [pos]; omega) rfl (fun h => show pos ((t : ℕ) - 1 + 1) 2 i 0 < _ by simp only [pos]; omega) rfl
    (Entails.refl _) K Kt Q) $$ [HO HF HA HR HT HG Hs HT' Hb]
  · isplitr; · iexact Hc
    isplitl [HO]; · iexact HO
    isplitl [HF HA]
    · isplitl [HF]; · iexact HF
      isplitl [HA]; · iexact HA
      iclose
    isplitl [HR]; · iexact HR
    isplitl [HT]; · iexact HT
    isplitl [HG]; · iexact HG
    isplitl [Hs]; · iexact Hs
    isplitl [HT']; · iexact HT'
    rw [back_two]; iexact Hb
  iintro ⟨HO, ⟨HF, HA⟩, -, Hs, HR, HT, Hu, HG, HA', HT', Hb⟩
  iapply Hk
  isplitl [HO]
  · rw [show pos ((t : ℕ) + 1) 1 ((i : ℕ) + 1) 0 = pos ((t : ℕ) + 1) 1 i 0 + 2 by simp only [pos]; omega]; iexact HO
  isplitl [HF HA]
  · isplitl [HF]; · iexact HF
    iexact HA
  isplitl [Hb]; · rw [← back_one]; iexact Hb
  isplitl [Hs]; · iexact Hs
  isplitl [HR]; · iexact HR
  isplitl [HT]; · iexact HT
  isplitl [Hu]; · iexact Hu
  isplitl [HG]; · iexact HG
  isplitl [HA']; · iexact HA'
  iexact HT'

/-- What the third phase needs of a part. -/
def XC (c : Dev nD) (t : ℕ) (i : Fin 6) : sProp 𝕄 := iprop(Rx c (.r i 2) t ∗ Tx c (.rc i 2) t ∗ any (epL c) (b64 i) ∗ any (agL c) (b512 (kp c i 2) 64 i)
  ∗ any (outL c) (b4096 (512 * t + kp c i 2) 64 i) ∗ Lx c (.c i) t ∗ GrA c i 0 t ∗ Tx c (.a i 0) t)
/-- What it passes to the fourth. -/
def LC (c : Dev nD) (t : ℕ) (i : Fin 6) : sProp 𝕄 := iprop(Fx c (.s i) (5 * t + 2) ∗ agd D c t (hd c i 0) 64 i rgt)
/-- What else it leaves. -/
def YC (c : Dev nD) (t : ℕ) (i : Fin 6) : sProp 𝕄 := iprop(any (sbL c) (bst 2 i) ∗ Rx c (.r i 2) (t + 1) ∗ Tx c (.rc i 2) (t + 1)
  ∗ upTo (t + 1) 8 (any (recvL c) (bst 2 i)) ∗ any (accL c) (b512 (kp c i 2) 64 i) ∗ Rx c (.ac i 0) t ∗ Tx c (.a i 0) (t + 1))

theorem phaseC_tri {c : Dev nD} {i : Fin 6} {t : Fin k0_t1_loop.trips} :
    tri D c iprop(Ow c (pos ((t : ℕ) + 1) 2 i 0) ∗ (LB D c t i ∗ XC c t i)) (phaseC c (D.s c) t i)
      iprop(Ow c (pos ((t : ℕ) + 1) 2 ((i : ℕ) + 1) 0) ∗ (LC D c t i ∗ Fx c (.c i) t ∗ YC c t i)) := by
  intro K Kt Q
  unfold XC LB LC YC phaseC
  have hi := i.isLt
  iintro ⟨#Hc, HO, ⟨HF, HA⟩, HR, HT, HE, HG, Hout, HL, HGr, HT'⟩ Hk
  iapply (waitRS_tri D (k := 2) (t_lt t) (show pos ((t : ℕ) + 1) 1 i 1 < pos ((t : ℕ) + 1) 2 i 0 by simp only [pos]; omega) K _ Q) $$ [HF HR HO]
  · isplitr; · iexact Hc
    isplitl [HF]; · iexact HF
    iframe
  iintro ⟨HS, Hs0, HR, Hrv, Hrch, Hbk, HO⟩
  iapply (addRS_tri D (k := 2) K _ Q) $$ [HA Hrv]
  · isplitr; · iexact Hc
    isplitl [HA]; · iexact HA
    iexact Hrv
  iintro ⟨HA, Hrv⟩
  ihave ⟨HR, HRr⟩ := Rx_rch $$ HR
  ihave Hrv := (any_intro (recvL c)) $$ Hrv
  iapply (creditRS_tri D (k := 2) (m := pos ((t : ℕ) + 1) 2 i 0) rfl K _ Q) $$ [HT Hrv HRr Hrch HO]
  · isplitr; · iexact Hc
    iframe
  iintro ⟨HT, Hup, HO⟩
  iapply (epilogue_tri D K _ Q) $$ [HA HE HG Hout HL]
  · isplitr; · iexact Hc
    isplitl [HA]; · iexact HA
    iframe
  iintro ⟨HA, HG, HL⟩
  iapply (awaitAG_tri D (k := 0) (m := pos ((t : ℕ) + 1) 2 i 0 + 1) (fun h => show pos ((t : ℕ) - 1 + 1) 4 i 1 < _ by simp only [pos]; omega) K _ Q) $$ [HGr HO]
  · isplitr; · iexact Hc
    iframe
  iintro ⟨HGr, H1, -, H2, HO⟩
  iapply (sendAG_tri D (k := 0) (m := pos ((t : ℕ) + 1) 2 i 0 + 1) (t_lt t) rfl K _ Q) $$ [HG HS HT' H1 H2 Hbk HO]
  · isplitr; · iexact Hc
    isplitl [HG]; · iexact HG
    isplitl [HS]; · iexact HS
    isplitl [HT']; · iexact HT'
    isplitl [H2]; · iexact H2
    isplitl [H1]; · iexact H1
    isplitl [Hbk]
    · ihave Hbk := (Entails.of_eq (back_two (prt c i 2) i)) $$ Hbk
      iexact Hbk
    iexact HO
  iintro ⟨HG, HS, HT', HO⟩
  ihave HA := (any_intro (accL c)) $$ HA
  iapply Hk
  isplitl [HO]
  · rw [show pos ((t : ℕ) + 1) 2 ((i : ℕ) + 1) 0 = pos ((t : ℕ) + 1) 2 i 0 + 1 + 1 by simp only [pos]; omega]; iexact HO
  isplitl [HS HG]
  · isplitl [HS]; · iexact HS
    iexact HG
  iframe

/-! ## The gathering -/

/-- The two slots before part `n` of stage `k`. -/
abbrev VV (c : Dev nD) (t k n : ℕ) : sProp 𝕄 := iprop(VS D c 0 t (3 * k + (n + 1) / 2) ∗ VS D c 1 t (3 * k + n / 2))

/-- What the fourth phase needs of a part. -/
def XD (c : Dev nD) (t : ℕ) (i : Fin 6) : sProp 𝕄 := iprop(Rx c (.a i 0) t ∗ GrA c i 1 t ∗ Tx c (.a i 1) t ∗ any (outL c) (b4096 (512 * t + gt c i 0) 64 i))
/-- What it passes to the fifth. -/
def LD (c : Dev nD) (t : ℕ) (i : Fin 6) : sProp 𝕄 := iprop(Fx c (.s i) (5 * t + 3) ∗ agd D c t (hd c i 1) 128 i rgt ∗ Rch (prt c i 2) (.ac i 0) t ∗ Rch c (.a i 0) (t + 1))
/-- What else it leaves. -/
def YD (c : Dev nD) (t : ℕ) (i : Fin 6) : sProp 𝕄 := iprop(Rx c (.a i 0) (t + 1) ∗ Rx c (.ac i 1) t ∗ Tx c (.a i 1) (t + 1))

/-- A wait of the gathering and the next stage's start. -/
theorem de_tri {c : Dev nD} {k k' : Fin 3} {i : Fin 6} {t : Fin k0_t1_loop.trips} {m : ℕ} (hkk : (k : ℕ) + 1 = k')
    (hhb : hb c i k = hd c i k') (hln : ln k' = ln k + ln k) (hw : lvOf (some (.a i k)) t < m)
    (hg : 0 < (t : ℕ) → lvOf (some (.ac i k')) ((t : ℕ) - 1) < m) (hm' : lvOf (some (.a i k')) t = m) {B : sProp 𝕄}
    (hB : iprop(B ∗ back2 (prt c i (mir k')) i k') ⊢ any (agL (prt c i (mir k'))) (b512 (gt (prt c i (mir k')) i k') (ln k') i)) :
    tri D c iprop(Ow c m ∗ (Fx c (.s i) (5 * (t : ℕ) + 2 + k) ∗ agd D c t (hd c i k) (ln k) i rgt) ∗ B ∗ Rx c (.a i k) t ∗ GrA c i k' t ∗ Tx c (.a i k') t)
      (fun K => waitAG c k i (awaitAG t k' i (sendAG c k' i K)))
      iprop(Ow c (m + 1) ∗ (Fx c (.s i) (5 * (t : ℕ) + 2 + k') ∗ agd D c t (hd c i k') (ln k') i rgt) ∗ Rch (prt c i (mir k)) (.ac i k) t
        ∗ Rch c (.a i k) ((t : ℕ) + 1) ∗ Rx c (.a i k) ((t : ℕ) + 1) ∗ Rx c (.ac i k') t ∗ Tx c (.a i k') ((t : ℕ) + 1)) := by
  intro K Kt Q
  iintro ⟨#Hc, HO, ⟨HF, HA⟩, HB, HR, HGr, HT⟩ Hk
  iapply (waitAG_tri D (t_lt t) hw K _ Q) $$ [HF HA HR HO]
  · isplitr; · iexact Hc
    iframe
  iintro ⟨HS, HA, HA', HR, Hrch, HO⟩
  ihave ⟨HR, HRr⟩ := Rx_rch $$ HR
  ihave HA := (agd_join D c t i k hhb hln fullShare).2 $$ [HA HA']
  · isplitl [HA] <;> iassumption
  iapply (awaitAG_tri D hg K _ Q) $$ [HGr HO]
  · isplitr; · iexact Hc
    iframe
  iintro ⟨HGr, H1, Hb2, H2, HO⟩
  ihave HB := hB $$ [HB Hb2]
  · isplitl [HB] <;> iassumption
  iapply (sendAG_tri D (k := k') (t_lt t) hm' K _ Q) $$ [HA HS HT H1 H2 HB HO]
  · isplitr; · iexact Hc
    isplitl [HA]; · iexact HA
    isplitl [HS]; · rw [← hkk, ← Nat.add_assoc]; iexact HS
    isplitl [HT]; · iexact HT
    isplitl [H2]; · iexact H2
    isplitl [H1]; · iexact H1
    isplitl [HB]; · iexact HB
    iexact HO
  iintro ⟨HA, HS, HT, HO⟩
  iapply Hk
  iframe

theorem phaseD_tri {c : Dev nD} {i : Fin 6} {t : Fin k0_t1_loop.trips} :
    tri D c iprop((Ow c (pos ((t : ℕ) + 1) 3 i 0) ∗ VV D c t 0 i) ∗ (LC D c t i ∗ ZB c i ∗ XD c t i)) (phaseD c t i)
      iprop((Ow c (pos ((t : ℕ) + 1) 3 ((i : ℕ) + 1) 0) ∗ VV D c t 0 ((i : ℕ) + 1)) ∗ (LD D c t i ∗ YD c t i)) := by
  intro K Kt Q
  unfold LC ZB XD LD YD phaseD
  have hi := i.isLt
  iintro ⟨#Hc, ⟨HO, HV⟩, ⟨HF, HA⟩, HB, HR, HGr, HT, Hout⟩ Hk
  iapply (de_tri D (k := 0) (k' := 1) (m := pos ((t : ℕ) + 1) 3 i 0) rfl rfl rfl (show pos ((t : ℕ) + 1) 2 i 1 < _ by simp only [pos]; omega)
    (fun h => show pos ((t : ℕ) - 1 + 1) 6 i 0 < _ by simp only [pos]; omega) rfl (B := any (agL (prt c i 1)) (b512 (gt (prt c i 1) i 1) 128 i))
    (by iintro ⟨H, -⟩; iexact H) K _ Q) $$ [HO HF HA HB HR HGr HT]
  · isplitr; · iexact Hc
    isplitl [HO]; · iexact HO
    isplitl [HF HA]
    · isplitl [HF]; · iexact HF
      iexact HA
    iframe
  iintro ⟨HO, ⟨HF, HA⟩, H1, H2, HR, HG, HT⟩
  iapply (moveCV_tri D (k := 0) (m := pos ((t : ℕ) + 1) 3 i 0 + 1) (by omega) (U := b512 (hd c i 1) 128 i) (gt_sub c i 0 rfl rfl) K _ Q) $$ [HV Hout HA HO]
  · isplitr; · iexact Hc
    isplitl [HV]; · iexact HV
    isplitl [Hout]; · iexact Hout
    isplitl [HA]; · iexact HA
    iexact HO
  iintro ⟨HV, HA, HO⟩
  ihave HO := (Ow_skip (m := pos ((t : ℕ) + 1) 3 i 1) (by simp only [pos]; omega) (evIn_pos (by decide) (by decide))) $$ HO
  iapply Hk
  isplitl [HO HV]
  · isplitl [HO]
    · rw [show pos ((t : ℕ) + 1) 3 ((i : ℕ) + 1) 0 = pos ((t : ℕ) + 1) 3 i 1 + 1 by simp only [pos]; omega]; iexact HO
    iexact HV
  isplitl [HF HA H1 H2]
  · isplitl [HF]; · iexact HF
    isplitl [HA]; · iexact HA
    isplitl [H1]; · iexact H1
    iexact H2
  iframe

/-- What the fifth phase needs of a part. -/
def XE (c : Dev nD) (t : ℕ) (i : Fin 6) : sProp 𝕄 := iprop(Rx c (.a i 1) t ∗ GrA c i 2 t ∗ Tx c (.a i 2) t ∗ Tx c (.ac i 0) t
  ∗ any (outL c) (b4096 (512 * t + gt c i 1) 128 i))
/-- What it passes to the last. -/
def LE (c : Dev nD) (t : ℕ) (i : Fin 6) : sProp 𝕄 := iprop(Fx c (.s i) (5 * t + 4) ∗ agd D c t (hd c i 2) 256 i rgt ∗ Rch (prt c i 1) (.ac i 1) t ∗ Rch c (.a i 1) (t + 1))
/-- What else it leaves. -/
def YE (c : Dev nD) (t : ℕ) (i : Fin 6) : sProp 𝕄 := iprop(Rx c (.a i 1) (t + 1) ∗ Rx c (.ac i 2) t ∗ Tx c (.a i 2) (t + 1) ∗ Tx c (.ac i 0) (t + 1))

theorem phaseE_tri {c : Dev nD} {i : Fin 6} {t : Fin k0_t1_loop.trips} :
    tri D c iprop((Ow c (pos ((t : ℕ) + 1) 4 i 0) ∗ VV D c t 1 i) ∗ (LD D c t i ∗ XE c t i)) (phaseE c t i)
      iprop((Ow c (pos ((t : ℕ) + 1) 4 ((i : ℕ) + 1) 0) ∗ VV D c t 1 ((i : ℕ) + 1)) ∗ (LE D c t i ∗ YE c t i)) := by
  intro K Kt Q
  unfold LD XE LE YE phaseE
  have hi := i.isLt
  iintro ⟨#Hc, ⟨HO, HV⟩, ⟨HF, HA, Hp, Hq⟩, HR, HGr, HT, HT', Hout⟩ Hk
  iapply (de_tri D (k := 1) (k' := 2) (m := pos ((t : ℕ) + 1) 4 i 0) rfl rfl rfl (show pos ((t : ℕ) + 1) 3 i 0 < _ by simp only [pos]; omega)
    (fun h => show pos ((t : ℕ) - 1 + 1) 6 i 1 < _ by simp only [pos]; omega) rfl (B := iprop(emp))
    (by iintro ⟨-, H⟩; iapply (Entails.of_eq (back2_two (prt c i 0) i)); iexact H) K _ Q) $$ [HO HF HA HR HGr HT]
  · isplitr; · iexact Hc
    isplitl [HO]; · iexact HO
    isplitl [HF HA]
    · isplitl [HF]; · iexact HF
      iexact HA
    isplitr; · iclose
    iframe
  iintro ⟨HO, ⟨HF, HA⟩, H1, H2, HR, HG, HT⟩
  iapply (creditAG_tri D (k := 0) (m := pos ((t : ℕ) + 1) 4 i 0 + 1) rfl K _ Q) $$ [HT' Hp Hq HO]
  · isplitr; · iexact Hc
    isplitl [HT']; · iexact HT'
    isplitr; · rw [back2_zero]; iclose
    isplitl [Hq]; · iexact Hq
    isplitl [Hp]; · iexact Hp
    iexact HO
  iintro ⟨HT', -, HO⟩
  iapply (moveCV_tri D (k := 1) (m := pos ((t : ℕ) + 1) 4 i 0 + 1 + 1) (by omega) (U := b512 (hd c i 2) 256 i) (gt_sub c i 1 rfl rfl) K _ Q) $$ [HV Hout HA HO]
  · isplitr; · iexact Hc
    isplitl [HV]; · iexact HV
    isplitl [Hout]; · iexact Hout
    isplitl [HA]; · iexact HA
    iexact HO
  iintro ⟨HV, HA, HO⟩
  iapply Hk
  isplitl [HO HV]
  · isplitl [HO]
    · rw [show pos ((t : ℕ) + 1) 4 ((i : ℕ) + 1) 0 = pos ((t : ℕ) + 1) 4 i 0 + 1 + 1 by simp only [pos]; omega]; iexact HO
    iexact HV
  isplitl [HF HA H1 H2]
  · isplitl [HF]; · iexact HF
    isplitl [HA]; · iexact HA
    isplitl [H1]; · iexact H1
    iexact H2
  iframe

/-- What the last phase of the gathering needs of a part. -/
def XG (c : Dev nD) (t : ℕ) (i : Fin 6) : sProp 𝕄 := iprop(Rx c (.a i 2) t ∗ Tx c (.ac i 1) t ∗ Tx c (.ac i 2) t ∗ any (outL c) (b4096 (512 * t + gt c i 2) 256 i))
/-- What it leaves. -/
def YG (c : Dev nD) (t : ℕ) (i : Fin 6) : sProp 𝕄 := iprop(Lx c (.s i) (5 * (t + 1)) ∗ any (agL c) (b512 (kp c i 2) 64 i) ∗ any (agL c) (b512 (gt c i 0) 64 i)
  ∗ any (agL c) (b512 (gt c i 1) 128 i) ∗ Rx c (.a i 2) (t + 1) ∗ Tx c (.ac i 1) (t + 1) ∗ Tx c (.ac i 2) (t + 1)
  ∗ upTo (t + 1) 8 (any (agL c) (b512 (gt c i 2) 256 i)))

theorem phaseG_tri {c : Dev nD} {i : Fin 6} {t : Fin k0_t1_loop.trips} :
    tri D c iprop((Ow c (pos ((t : ℕ) + 1) 6 i 0) ∗ VV D c t 2 i) ∗ (LE D c t i ∗ XG c t i)) (phaseG c t i)
      iprop((Ow c (pos ((t : ℕ) + 1) 6 ((i : ℕ) + 1) 0) ∗ VV D c t 2 ((i : ℕ) + 1)) ∗ YG c t i) := by
  intro K Kt Q
  unfold LE XG YG phaseG
  have hi := i.isLt
  iintro ⟨#Hc, ⟨HO, HV⟩, ⟨HF, HA, Hp, Hq⟩, HR, HT, HT', Hout⟩ Hk
  iapply (waitAG_tri D (k := 2) (t_lt t) (show pos ((t : ℕ) + 1) 4 i 0 < pos ((t : ℕ) + 1) 6 i 0 by simp only [pos]; omega) K _ Q) $$ [HF HA HR HO]
  · isplitr; · iexact Hc
    isplitl [HF]; · iexact HF
    isplitl [HA]; · iexact HA
    iframe
  iintro ⟨HS, HA, HA', HR, Hrch, HO⟩
  ihave ⟨HR, HRr⟩ := Rx_rch $$ HR
  iapply (creditAG_tri D (k := 1) (m := pos ((t : ℕ) + 1) 6 i 0) rfl K _ Q) $$ [HT Hp Hq HO]
  · isplitr; · iexact Hc
    isplitl [HT]; · iexact HT
    isplitr; · rw [back2_one]; iclose
    isplitl [Hq]; · iexact Hq
    isplitl [Hp]; · iexact Hp
    iexact HO
  iintro ⟨HT, -, HO⟩
  iapply (moveCV_tri D (k := 2) (m := pos ((t : ℕ) + 1) 6 i 0 + 1) (by omega) (U := b512 (gt c i 2) 256 i) (Finset.Subset.refl _) K _ Q) $$ [HV Hout HA' HO]
  · isplitr; · iexact Hc
    isplitl [HV]; · iexact HV
    isplitl [Hout]; · iexact Hout
    isplitl [HA']; · iexact HA'
    iexact HO
  iintro ⟨HV, HA', HO⟩
  ihave HA' := (any_intro (agL c)) $$ HA'
  iapply (creditAG_tri D (k := 2) (m := pos ((t : ℕ) + 1) 6 i 0 + 1) rfl K _ Q) $$ [HT' HA' Hrch HRr HO]
  · isplitr; · iexact Hc
    isplitl [HT']; · iexact HT'
    isplitl [HA']; · rw [back2_two]; iexact HA'
    iframe
  iintro ⟨HT', Hup, HO⟩
  ihave ⟨HA, HA1⟩ := (agd_join D c t i 1 (show hb c i 1 = hd c i 2 from rfl) (show ln 2 = ln 1 + ln 1 from rfl) fullShare).1 $$ HA
  ihave ⟨HA, HA0⟩ := (agd_join D c t i 0 (show hb c i 0 = hd c i 1 from rfl) (show ln 1 = ln 0 + ln 0 from rfl) fullShare).1 $$ HA
  ihave HA := (any_intro (agL c)) $$ HA
  ihave HA0 := (any_intro (agL c)) $$ HA0
  ihave HA1 := (any_intro (agL c)) $$ HA1
  iapply Hk
  isplitl [HO HV]
  · isplitl [HO]
    · rw [show pos ((t : ℕ) + 1) 6 ((i : ℕ) + 1) 0 = pos ((t : ℕ) + 1) 6 i 0 + 1 + 1 by simp only [pos]; omega]; iexact HO
    iexact HV
  isplitl [HS]; · iexact HS
  isplitl [HA]; · iexact HA
  isplitl [HA0]; · iexact HA0
  isplitl [HA1]; · iexact HA1
  isplitl [HR]; · iexact HR
  isplitl [HT]; · iexact HT
  isplitl [HT']; · iexact HT'
  iexact Hup

theorem phaseH_tri {c : Dev nD} {i : Fin 6} {t : Fin k0_t1_loop.trips} :
    tri D c iprop(Ow c (pos ((t : ℕ) + 1) 7 i 0) ∗ Fx c (.c i) t) (phaseH c t i)
      iprop(Ow c (pos ((t : ℕ) + 1) 7 ((i : ℕ) + 1) 0) ∗ (Lx c (.c i) ((t : ℕ) + 1) ∗ outO D c t i ∗ any (epL c) (b64 i))) := by
  intro K Kt Q
  unfold phaseH
  have hi := i.isLt
  iintro ⟨#Hc, HO, HF⟩ Hk
  iapply (t_fx D (.c i) t (pos ((t : ℕ) + 1) 7 i 0) (by simpa [rounds] using t_lt t) (show 0 < _ by simp only [pos]; omega) rfl
    (fun Kt => wpE_waitDma2_eq 𝒱₀ (c : Thread nD τ) none Set.univ (sem := semC i) (src := epV i) (dst := outV c t i)
      (hsrc := View.wordExact_bits rfl) (hdst := View.wordExact_bits rfl) Kt) K _ Q) $$ [HF HO]
  · isplitr; · iexact Hc
    iframe
  iintro ⟨HL, HO, Hp⟩
  ihave ⟨H1, H2⟩ := (Entails.of_eq (show payF D c c (.c i) t = iprop(outO D c t i ∗ any (epL c) (b64 i)) from rfl)) $$ Hp
  ihave HO := (Ow_skips (m := pos ((t : ℕ) + 1) 7 i 0) 2 (by simp only [pos]; omega) (fun j hj => by
    have : pos ((t : ℕ) + 1) 7 i 0 + j = pos ((t : ℕ) + 1) 7 i j := by simp only [pos]; omega
    rw [this, evIn_pos (by decide) hj]
    rfl)) $$ HO
  iapply Hk
  isplitl [HO]
  · rw [show pos ((t : ℕ) + 1) 7 ((i : ℕ) + 1) 0 = pos ((t : ℕ) + 1) 7 i 0 + 2 by simp only [pos]; omega]; iexact HO
  iframe

end Cert.Proof.RS

end
-- ==== Proof.RS.Trip.lean ====
/- A round of the kernel, and what it keeps between rounds. -/
module

public import proofs.«01_k».proof.Proof.RS.Phases

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## The products of the next round -/

theorem bind_eq (c : Dev nD) (f Kt : TP F) (Q : PUnit → sProp 𝕄) : WP c (Prog.bind f fun _ => Kt) Q = WP c f fun _ => WP c Kt Q := wp_bind _ _ _ f (fun _ => Kt) Q
theorem pos_six (t1 p : ℕ) : pos t1 p 6 0 = pos t1 (p + 1) 0 0 := by simp only [pos]; omega
theorem Ow_six (c : Dev nD) (t1 p : ℕ) : Ow (F := F) c (pos t1 p 6 0) ⊢ Ow c (pos t1 (p + 1) 0 0) := Entails.of_eq (congrArg (Ow c) (pos_six t1 p))
theorem VS_nine (c : Dev nD) (s : Fin 2) (t : ℕ) : VS D c s t 9 ⊢ Vb D c s (9 * t + 8) := Entails.of_eq (if_neg (by decide))

abbrev xL (c : Dev nD) : Loc nD τ sig := xM.view.loc (c : Thread nD τ)
abbrev wL (c : Dev nD) : Loc nD τ sig := wM.view.loc (c : Thread nD τ)

/-- A device's part of the matrix and of the weights, read only. -/
def xw (c : Dev nD) : sProp 𝕄 := iprop((xL c ↦[Finset.univ]{fullShare} D.X c) ∗ (wL c ↦[Finset.univ]{fullShare} D.W c))

theorem dotStep_tri {c : Dev nD} {i : Fin 6} {r : ℕ} :
    tri D c iprop((wL c ↦[Finset.univ]{fullShare} D.W c) ∗ any (accL c) (b512 0 512 i)) (dotStep (xrow D c r) i)
      iprop((wL c ↦[Finset.univ]{fullShare} D.W c) ∗ accd D c r 0 0 512 i) := by
  intro K Kt Q
  unfold dotStep
  iintro ⟨#Hc, HW, HA⟩ Hk
  iapply (ld (m := wM) (r := accR i) (f := D.W c) (wcol D c i) (Finset.subset_univ _) rfl) $$ HW
  iintro HW
  iapply (ld_any (m := accM) (r := accR i) (acc_set i).le) $$ HA
  iintro HA
  iapply (sto (m := accM) (r := accR i) (buf (S D c r 0)) (acc_set i) (funext fun y => by
    refine (rd_buf (off := ![0, co i]) (S D c r 0) y).trans ?_
    show S D c r 0 (0 + (y 0 : ℕ)) (co i + (y 1 : ℕ)) = _
    rw [Nat.zero_add]
    exact S_zero D c r y)) $$ HA
  iintro HA
  iapply Hk
  iframe

/-- The copies of the first stage, once permitted. -/
theorem first_tri {c : Dev nD} {i : Fin 6} {n : ℕ} (hn : n < 8) :
    tri D c iprop(Ow c (pos n 5 i 0) ∗ Rch c (.rc i 0) n ∗ any (recvL (prt c i 0)) (bst 0 i) ∗ Rch (prt c i 0) (.r i 0) n
        ∗ accd D c n 0 0 512 i ∗ any (sbL c) (bst 0 i) ∗ Lx c (.s0 i) n ∗ Tx c (.r i 0) n)
      (fun K => stageRS c 0 i (sendRS c 0 i K))
      iprop(Ow c (pos n 5 ((i : ℕ) + 1) 0) ∗ (Fx c (.s0 i) n ∗ accd D c n 0 (kp c i 0) 256 i ∗ any (accL c) (b512 (st c i 0) 256 i)) ∗ Tx c (.r i 0) (n + 1)) := by
  intro K Kt Q
  iintro ⟨#Hc, HO, H1, Hd, H2, HA, Hs, HL, HT⟩ Hk
  ihave ⟨HA, HA'⟩ := ((Entails.of_eq (show accd D c n 0 0 512 i = accd D c n 0 (kb c i 0) (kl 0) i from rfl)).trans (accd_split D c n 0 i 0).1) $$ HA
  iapply (stageRS_tri D (k := 0) (t := n) K _ Q) $$ [HA' Hs]
  · isplitr; · iexact Hc
    isplitl [HA']; · iexact HA'
    iexact Hs
  iintro ⟨HA', Hs⟩
  iapply (sendRS_tri D (k := 0) (t := n) (m := pos n 5 i 0) hn rfl K _ Q) $$ [HO H1 Hd H2 Hs HL HT]
  · isplitr; · iexact Hc
    isplitl [Hs]; · iexact Hs
    isplitl [HL]; · iexact HL
    isplitl [HT]; · iexact HT
    isplitl [H2]; · iexact H2
    isplitl [H1]; · iexact H1
    isplitl [Hd]; · iexact Hd
    isplitr; · rw [show back (F := F) c i 0 = iprop(emp) from rfl]; iclose
    iexact HO
  iintro ⟨HF, HT, HO⟩
  ihave HA' := (any_intro (accL c)) $$ HA'
  ihave HO := (Ow_skip (m := pos n 5 i 1) (by simp only [pos]; omega) (evIn_pos (by decide) (by decide))) $$ HO
  iapply Hk
  isplitl [HO]
  · rw [show pos n 5 ((i : ℕ) + 1) 0 = pos n 5 i 1 + 1 by simp only [pos]; omega]; iexact HO
  isplitl [HF HA HA']
  · isplitl [HF]; · iexact HF
    isplitl [HA]; · iexact HA
    iexact HA'
  iexact HT

theorem nextRS_tri {c : Dev nD} {i : Fin 6} {t : ℕ} (ht : t < 7) :
    tri D c iprop(Ow c (pos (t + 1) 5 i 0) ∗ accd D c (t + 1) 0 0 512 i ∗ Rx c (.rc i 0) t ∗ any (sbL c) (bst 0 i) ∗ Lx c (.s0 i) (t + 1) ∗ Tx c (.r i 0) (t + 1))
      (nextRS c i)
      iprop(Ow c (pos (t + 1) 5 ((i : ℕ) + 1) 0) ∗ (Fx c (.s0 i) (t + 1) ∗ accd D c (t + 1) 0 (kp c i 0) 256 i ∗ any (accL c) (b512 (st c i 0) 256 i))
        ∗ Tx c (.r i 0) (t + 1 + 1) ∗ Rx c (.rc i 0) (t + 1)) := by
  intro K Kt Q
  unfold nextRS
  iintro ⟨#Hc, HO, HA, HR, Hs, HL, HT⟩ Hk
  iapply (takeRC_tri D (c := c) (k := 0) (i := i) (n := t) (m := pos (t + 1) 5 i 0) ht (show pos (t + 1) 0 i 0 < _ by simp only [pos]; omega) K _ Q) $$ [HR HO]
  · isplitr; · iexact Hc
    iframe
  iintro ⟨HR, H1, Hd, H2, HO⟩
  iapply (first_tri D (i := i) (n := t + 1) (by omega) K Kt Q) $$ [HO H1 Hd H2 HA Hs HL HT]
  · isplitr; · iexact Hc
    isplitl [HO]; · iexact HO
    iframe
  iintro ⟨HO, HF, HT⟩
  iapply Hk
  iframe

/-- The first stage of round `n`: under way, or after the last round idle. -/
def stF (c : Dev nD) (n : ℕ) (i : Fin 6) : sProp 𝕄 :=
  if n < 8 then iprop(Fx c (.s0 i) n ∗ accd D c n 0 (kp c i 0) 256 i ∗ any (accL c) (b512 (st c i 0) 256 i))
  else iprop(Lx c (.s0 i) n ∗ any (sbL c) (bst 0 i) ∗ any (accL c) (b512 0 512 i))

/-- What the products need of a part. -/
def XF (c : Dev nD) (t : ℕ) (i : Fin 6) : sProp 𝕄 := iprop(any (accL c) (b512 0 512 i) ∗ Rx c (.rc i 0) (min t 7) ∗ any (sbL c) (bst 0 i)
  ∗ Lx c (.s0 i) (t + 1) ∗ Tx c (.r i 0) (t + 1))
/-- What they leave. -/
def YF (c : Dev nD) (t : ℕ) (i : Fin 6) : sProp 𝕄 := iprop(stF D c (t + 1) i ∗ Rx c (.rc i 0) (min (t + 1) 7) ∗ Tx c (.r i 0) (t + 1 + 1))

theorem next_read (c : Dev nD) (t : Fin k0_t1_loop.trips) (h : (t : ℕ) < 7) : (xM.access (nextR t)).read (Elt F) (D.X c) = xrow D c ((t : ℕ) + 1) :=
  funext fun y => by
    show D.X c ((nextR t).emb y) = D.X c _
    have h0 : (y 0 : ℕ) < 512 := (y 0).isLt
    have h1 : (y 1 : ℕ) < 512 := (y 1).isLt
    congr 1
    funext a
    match a with
    | 0 => exact Fin.ext (by
        show (nextW t).toNat + 1 * (y 0 : ℕ) = (512 * ((t : ℕ) + 1) + (y 0 : ℕ)) % 4096
        rw [nextW_eq t h]; omega)
    | 1 => exact Fin.ext (by
        show 0 + 1 * (y 1 : ℕ) = (y 1 : ℕ) % 512
        omega)

theorem phaseF_tri {c : Dev nD} {t : Fin k0_t1_loop.trips} :
    tri D c iprop((Ow c (pos ((t : ℕ) + 1) 5 0 0) ∗ xw D c) ∗ all (XF c t)) (phaseF c t) iprop((Ow c (pos ((t : ℕ) + 1) 6 0 0) ∗ xw D c) ∗ all (YF D c t)) := by
  intro K Kt Q
  unfold phaseF
  have h8 := t_lt t
  by_cases ht : (t : ℕ) < 7
  · rw [when_yes ((ltC_iff t).mpr ht), bind_eq]
    unfold xw
    iintro ⟨#Hc, ⟨HO, HX, HW⟩, HP⟩ Hk
    iapply (ld (m := xM) (r := nextR t) (f := D.X c) (xrow D c ((t : ℕ) + 1)) (Finset.subset_univ _) (next_read D c t ht)) $$ HX
    iintro HX
    ihave ⟨HA, HP⟩ := (all_split (fun i => any (accL c) (b512 0 512 i)) (fun i => iprop(Rx c (.rc i 0) (min (t : ℕ) 7) ∗ any (sbL c) (bst 0 i)
        ∗ Lx c (.s0 i) ((t : ℕ) + 1) ∗ Tx c (.r i 0) ((t : ℕ) + 1)))).1 $$ [HP]
    · iapply (all_mono fun i => (Entails.of_eq (show XF (F := F) c t i = _ from rfl))) $$ HP
    iapply (tri_each D (fun _ => iprop(wL c ↦[Finset.univ]{fullShare} D.W c)) _ (fun i => accd D c ((t : ℕ) + 1) 0 0 512 i) (dotStep (xrow D c ((t : ℕ) + 1)))
      (fun i => dotStep_tri D) K _ _) $$ [HW HA]
    · isplitr; · iexact Hc
      isplitl [HW]; · iexact HW
      iexact HA
    iintro ⟨HW, HA⟩
    ihave HP := (all_split _ _).2 $$ [HA HP]
    · isplitl [HA]; · iexact HA
      iexact HP
    iapply (tri_each D (fun n => Ow c (pos ((t : ℕ) + 1) 5 n 0)) (fun i => iprop(accd D c ((t : ℕ) + 1) 0 0 512 i ∗ Rx c (.rc i 0) (min (t : ℕ) 7) ∗ any (sbL c) (bst 0 i)
        ∗ Lx c (.s0 i) ((t : ℕ) + 1) ∗ Tx c (.r i 0) ((t : ℕ) + 1))) (YF D c t) (nextRS c) (fun i => by
      intro K Kt Q
      unfold YF stF
      rw [if_pos (by omega), Nat.min_eq_left (show (t : ℕ) ≤ 7 by omega), Nat.min_eq_left (show (t : ℕ) + 1 ≤ 7 by omega)]
      iintro ⟨#Hc, HO, HA, HR, Hs, HL, HT⟩ Hk
      iapply (nextRS_tri D ht K Kt Q) $$ [HO HA HR Hs HL HT]
      · isplitr; · iexact Hc
        iframe
      iintro ⟨HO, HF, HT, HR⟩
      iapply Hk
      iframe) K _ _) $$ [HO HP]
    · isplitr; · iexact Hc
      isplitl [HO]; · iexact HO
      iexact HP
    iintro ⟨HO, HP⟩
    ihave HO := (Ow_six c ((t : ℕ) + 1) 5) $$ HO
    iapply (le_wp_ret _ _)
    iapply Hk
    isplitl [HO HX HW]
    · isplitl [HO]; · iexact HO
      iframe
    iexact HP
  · rw [when_no (fun h => ht ((ltC_iff t).mp h))]
    have h7 : (t : ℕ) = 7 := by omega
    rw [h7]
    iintro ⟨#Hc, ⟨HO, HX⟩, HP⟩ Hk
    ihave HO := (Ow_skips (m := pos 8 5 0 0) 12 (by decide) (by decide)) $$ HO
    iapply Hk
    isplitl [HO HX]
    · isplitl [HO]; · iexact HO
      iexact HX
    iapply (all_mono fun i => (show XF (F := F) c 7 i ⊢ YF D c 7 i by
      unfold XF YF stF
      rw [show min (7 + 1) 7 = min 7 7 from rfl, if_neg (by omega), Tx_end (x := .r i 0) (n := 7 + 1) (by simp [rounds]), Tx_end (x := .r i 0) (n := 7 + 1 + 1) (by simp [rounds])]
      iintro ⟨HA, HR, Hs, HL, HT⟩
      iframe))
    iexact HP

/-! ## Between rounds -/

/-- The rows of the result a part fills in round `r`, holding anything. -/
def outK (c : Dev nD) (i : Fin 6) (r : ℕ) : sProp 𝕄 := iprop(any (outL c) (b4096 (512 * r + kp c i 2) 64 i) ∗ any (outL c) (b4096 (512 * r + gt c i 0) 64 i)
  ∗ any (outL c) (b4096 (512 * r + gt c i 1) 128 i) ∗ any (outL c) (b4096 (512 * r + gt c i 2) 256 i))

/-- What a part keeps apart from the first stage and what the products use, before round `t`. -/
def PM (c : Dev nD) (t : ℕ) (i : Fin 6) : sProp 𝕄 := iprop(Rx c (.r i 0) t ∗ Tx c (.rc i 0) t ∗ upTo t 8 (any (recvL c) (bst 0 i)) ∗ Gr c i 1 t ∗ Tx c (.r i 1) t
  ∗ any (sbL c) (bst 1 i) ∗ Rx c (.r i 1) t ∗ Tx c (.rc i 1) t ∗ upTo t 8 (any (recvL c) (bst 1 i)) ∗ Gr c i 2 t ∗ Tx c (.r i 2) t
  ∗ any (sbL c) (bst 2 i) ∗ Rx c (.r i 2) t ∗ Tx c (.rc i 2) t ∗ upTo t 8 (any (recvL c) (bst 2 i)) ∗ GrA c i 0 t ∗ Tx c (.a i 0) t)
/-- What a part keeps for the gathering. -/
def PG (c : Dev nD) (t : ℕ) (i : Fin 6) : sProp 𝕄 := iprop(Rx c (.a i 0) t ∗ GrA c i 1 t ∗ Tx c (.a i 1) t ∗ Rx c (.a i 1) t ∗ GrA c i 2 t ∗ Tx c (.a i 2) t
  ∗ Tx c (.ac i 0) t ∗ Rx c (.a i 2) t ∗ Tx c (.ac i 1) t ∗ Tx c (.ac i 2) t ∗ Lx c (.s i) (5 * t) ∗ any (agL c) (b512 (kp c i 2) 64 i)
  ∗ any (agL c) (b512 (gt c i 0) 64 i) ∗ any (agL c) (b512 (gt c i 1) 128 i) ∗ upTo t 8 (any (agL c) (b512 (gt c i 2) 256 i)) ∗ Lx c (.c i) t ∗ any (epL c) (b64 i))
/-- What a part keeps between rounds, before round `t`. -/
def PS (c : Dev nD) (t : ℕ) (i : Fin 6) : sProp 𝕄 := iprop((stF D c t i ∗ Rx c (.rc i 0) (min t 7) ∗ Tx c (.r i 0) (t + 1)) ∗ PM c t i ∗ PG c t i
  ∗ bigSep (Finset.Ico t 8) (outK c i) ∗ bigSep (Finset.range t) (fun r => outO D c r i))

/-- What a part sets aside during a round. -/
def PR (c : Dev nD) (t : ℕ) (i : Fin 6) : sProp 𝕄 := iprop(any (accL c) (b512 (st c i 0) 256 i) ∗ Rx c (.rc i 0) (min t 7) ∗ Tx c (.r i 0) (t + 1)
  ∗ bigSep (Finset.Ico (t + 1) 8) (outK c i) ∗ bigSep (Finset.range t) (fun r => outO D c r i))

theorem outK_take (c : Dev nD) (i : Fin 6) {t : ℕ} (h : t < 8) : bigSep (Finset.Ico t 8) (outK (F := F) c i)
    = iprop(outK c i t ∗ bigSep (Finset.Ico (t + 1) 8) (outK c i)) := by
  rw [← Finset.insert_Ico_add_one_left_eq_Ico h, bigSep_insert (by simp)]; rfl
theorem outO_put (c : Dev nD) (i : Fin 6) (t : ℕ) : bigSep (Finset.range (t + 1)) (fun r => outO D c r i)
    = iprop(outO D c t i ∗ bigSep (Finset.range t) (fun r => outO D c r i)) := by
  rw [Finset.range_add_one, bigSep_insert (by simp)]; rfl

/-- What a part keeps, given out to the phases. -/
theorem PS_in (c : Dev nD) {t : ℕ} (ht : t < 8) (i : Fin 6) :
    PS D c t i ⊢ iprop(XA D c t i ∗ XB c t i ∗ XC c t i ∗ XD c t i ∗ XE c t i ∗ XG c t i ∗ PR D c t i) := by
  unfold PS
  rw [outK_take c i ht]
  unfold PM PG PR stF XA XB XC XD XE XG outK
  rw [if_pos ht]
  iintro ⟨⟨⟨H1, H2, H3⟩, H4, H5⟩, ⟨K1, K2, -, K4, K5, K6, K7, K8, -, K10, K11, K12, K13, K14, -, K16, K17⟩,
    ⟨G1, G2, G3, G4, G5, G6, G7, G8, G9, G10, G11, G12, G13, G14, -, G16, G17⟩, ⟨⟨O1, O2, O3, O4⟩, O5⟩, O6⟩
  isplitl [H1 H2 G11 K1 K2 K4 K6 K5 G14]; · iframe
  isplitl [K7 K8 K10 K12 K11 G13]; · iframe
  isplitl [K13 K14 G17 G12 O1 G16 K16 K17]; · iframe
  isplitl [G1 G2 G3 O2]; · iframe
  isplitl [G4 G5 G6 G7 O3]; · iframe
  isplitl [G8 G9 G10 O4]; · iframe
  iframe

theorem Gr_next (c : Dev nD) (i : Fin 6) (k : Fin 3) (t : ℕ) : Rx (F := F) c (.rc i k) t ⊢ Gr c i k (t + 1) := by
  unfold Gr; rw [upTo_no (by omega)]; iintro H; isplitl [H]; · iexact H
  iclose
theorem GrA_next (c : Dev nD) (i : Fin 6) (k : Fin 3) (t : ℕ) : Rx (F := F) c (.ac i k) t ⊢ GrA c i k (t + 1) := by
  unfold GrA; rw [upTo_no (by omega)]; iintro H; isplitl [H]; · iexact H
  iclose

/-- What the reduction leaves: for the products, and to keep. -/
theorem PS_mid (c : Dev nD) (t : ℕ) (i : Fin 6) : iprop(YA c t i ∗ YB c t i ∗ YC c t i ∗ PR D c t i)
    ⊢ iprop(XF c t i ∗ PM c (t + 1) i ∗ bigSep (Finset.Ico (t + 1) 8) (outK c i) ∗ bigSep (Finset.range t) (fun r => outO D c r i)) := by
  unfold YA YB YC PR XF PM
  iintro ⟨⟨A1, A2, A3, A4, A5, A6, A7, A8⟩, ⟨B1, B2, B3, B4, B5, B6, B7⟩, ⟨C1, C2, C3, C4, C5, C6, C7⟩, R1, R2, R3, R4, R5⟩
  ihave H := (acc_split c i 2).2 $$ [C5 B6]
  · isplitl [C5]; · iexact C5
    iexact B6
  ihave H := (acc_split c i 1).2 $$ [H A7]
  · isplitl [H]; · iexact H
    iexact A7
  ihave H := (acc_split c i 0).2 $$ [H R1]
  · isplitl [H]; · iexact H
    iexact R1
  isplitl [H R2 A2 A1 R3]
  · isplitl [H]; · iexact H
    iframe
  isplitr [R4 R5]
  · ihave A6 := (Gr_next c i 1 t) $$ A6
    ihave B5 := (Gr_next c i 2 t) $$ B5
    ihave C6 := (GrA_next c i 0 t) $$ C6
    iframe
  iframe

/-- What a round leaves is what the next needs. -/
theorem PS_out (c : Dev nD) (t : ℕ) (i : Fin 6) : iprop(YF D c t i ∗ (PM c (t + 1) i ∗ bigSep (Finset.Ico (t + 1) 8) (outK c i) ∗ bigSep (Finset.range t) (fun r => outO D c r i))
      ∗ YD c t i ∗ YE c t i ∗ YG c t i ∗ Lx c (.c i) (t + 1) ∗ outO D c t i ∗ any (epL c) (b64 i)) ⊢ PS D c (t + 1) i := by
  unfold PS
  rw [outO_put]
  unfold YD YE YG YF PG
  iintro ⟨HF, ⟨HM, HK, HO⟩, ⟨D1, D2, D3⟩, ⟨E1, E2, E3, E4⟩, ⟨G1, G2, G3, G4, G5, G6, G7, G8⟩, L1, L2, L3⟩
  ihave D2 := (GrA_next c i 1 t) $$ D2
  ihave E2 := (GrA_next c i 2 t) $$ E2
  iframe

theorem trip_tri {c : Dev nD} {t : Fin k0_t1_loop.trips} :
    tri D c iprop(Ow c (pos ((t : ℕ) + 1) 0 0 0) ∗ xw D c ∗ (Vf D c 0 (9 * (t : ℕ)) ∗ Vf D c 1 (9 * (t : ℕ))) ∗ all (PS D c t)) (trip c (D.s c) t)
      iprop(Ow c (pos ((t : ℕ) + 1 + 1) 0 0 0) ∗ xw D c ∗ (Vf D c 0 (9 * ((t : ℕ) + 1)) ∗ Vf D c 1 (9 * ((t : ℕ) + 1))) ∗ all (PS D c ((t : ℕ) + 1))) := by
  intro K Kt Q
  unfold trip
  have h8 := t_lt t
  iintro ⟨#Hc, HO, HX, HV, HP⟩ Hk
  ihave HP := (all_mono fun i => PS_in D c h8 i) $$ HP
  ihave ⟨HA, HP⟩ := (all_split _ _).1 $$ HP
  ihave ⟨HB, HP⟩ := (all_split _ _).1 $$ HP
  ihave ⟨HC, HP⟩ := (all_split _ _).1 $$ HP
  ihave ⟨HD, HP⟩ := (all_split _ _).1 $$ HP
  ihave ⟨HE, HP⟩ := (all_split _ _).1 $$ HP
  ihave ⟨HG, HR⟩ := (all_split _ _).1 $$ HP
  iapply (tri_each D (fun n => Ow c (pos ((t : ℕ) + 1) 0 n 0)) _ _ (phaseA c t) (fun i => phaseA_tri D) K _ Q) $$ [HO HA]
  · isplitr; · iexact Hc
    isplitl [HO]; · iexact HO
    iexact HA
  iintro ⟨HO, HA⟩
  ihave HO := (Ow_six c ((t : ℕ) + 1) 0) $$ HO
  ihave ⟨HL, HA⟩ := (all_split _ _).1 $$ HA
  ihave HB := (all_split _ _).2 $$ [HL HB]
  · isplitl [HL]; · iexact HL
    iexact HB
  iapply (tri_each D (fun n => Ow c (pos ((t : ℕ) + 1) 1 n 0)) _ _ (phaseB c t) (fun i => phaseB_tri D) K _ Q) $$ [HO HB]
  · isplitr; · iexact Hc
    isplitl [HO]; · iexact HO
    iexact HB
  iintro ⟨HO, HB⟩
  ihave HO := (Ow_six c ((t : ℕ) + 1) 1) $$ HO
  ihave ⟨HL, HB⟩ := (all_split _ _).1 $$ HB
  ihave ⟨HZ, HB⟩ := (all_split _ _).1 $$ HB
  ihave HC := (all_split _ _).2 $$ [HL HC]
  · isplitl [HL]; · iexact HL
    iexact HC
  iapply (tri_each D (fun n => Ow c (pos ((t : ℕ) + 1) 2 n 0)) _ _ (phaseC c (D.s c) t) (fun i => phaseC_tri D) K _ Q) $$ [HO HC]
  · isplitr; · iexact Hc
    isplitl [HO]; · iexact HO
    iexact HC
  iintro ⟨HO, HC⟩
  ihave HO := (Ow_six c ((t : ℕ) + 1) 2) $$ HO
  ihave ⟨HL, HC⟩ := (all_split _ _).1 $$ HC
  ihave ⟨HH, HC⟩ := (all_split _ _).1 $$ HC
  ihave HD := (all_split _ _).2 $$ [HZ HD]
  · isplitl [HZ]; · iexact HZ
    iexact HD
  ihave HD := (all_split _ _).2 $$ [HL HD]
  · isplitl [HL]; · iexact HL
    iexact HD
  iapply (tri_each D (fun n => iprop(Ow c (pos ((t : ℕ) + 1) 3 n 0) ∗ VV D c t 0 n)) _ _ (phaseD c t) (fun i => phaseD_tri D) K _ Q) $$ [HO HV HD]
  · isplitr; · iexact Hc
    isplitl [HO HV]
    · isplitl [HO]; · iexact HO
      iexact HV
    iexact HD
  iintro ⟨⟨HO, HV⟩, HD⟩
  ihave HO := (Ow_six c ((t : ℕ) + 1) 3) $$ HO
  ihave ⟨HL, HD⟩ := (all_split _ _).1 $$ HD
  ihave HE := (all_split _ _).2 $$ [HL HE]
  · isplitl [HL]; · iexact HL
    iexact HE
  iapply (tri_each D (fun n => iprop(Ow c (pos ((t : ℕ) + 1) 4 n 0) ∗ VV D c t 1 n)) _ _ (phaseE c t) (fun i => phaseE_tri D) K _ Q) $$ [HO HV HE]
  · isplitr; · iexact Hc
    isplitl [HO HV]
    · isplitl [HO]; · iexact HO
      iexact HV
    iexact HE
  iintro ⟨⟨HO, HV⟩, HE⟩
  ihave HO := (Ow_six c ((t : ℕ) + 1) 4) $$ HO
  ihave ⟨HL, HE⟩ := (all_split _ _).1 $$ HE
  ihave HC := (all_split _ _).2 $$ [HC HR]
  · isplitl [HC]; · iexact HC
    iexact HR
  ihave HB := (all_split _ _).2 $$ [HB HC]
  · isplitl [HB]; · iexact HB
    iexact HC
  ihave HA := (all_split _ _).2 $$ [HA HB]
  · isplitl [HA]; · iexact HA
    iexact HB
  ihave HA := (all_mono fun i => PS_mid D c t i) $$ HA
  ihave ⟨HA, HM⟩ := (all_split _ _).1 $$ HA
  iapply (phaseF_tri D (c := c) (t := t) K _ Q) $$ [HO HX HA]
  · isplitr; · iexact Hc
    isplitl [HO HX]
    · isplitl [HO]; · iexact HO
      iexact HX
    iexact HA
  iintro ⟨⟨HO, HX⟩, HF⟩
  ihave HG := (all_split _ _).2 $$ [HL HG]
  · isplitl [HL]; · iexact HL
    iexact HG
  iapply (tri_each D (fun n => iprop(Ow c (pos ((t : ℕ) + 1) 6 n 0) ∗ VV D c t 2 n)) _ _ (phaseG c t) (fun i => phaseG_tri D) K _ Q) $$ [HO HV HG]
  · isplitr; · iexact Hc
    isplitl [HO HV]
    · isplitl [HO]; · iexact HO
      iexact HV
    iexact HG
  iintro ⟨⟨HO, HV0, HV1⟩, HG⟩
  ihave HO := (Ow_six c ((t : ℕ) + 1) 6) $$ HO
  ihave HV0 := (VS_nine D c 0 t) $$ HV0
  ihave HV1 := (VS_nine D c 1 t) $$ HV1
  iapply (tri_each D (fun n => Ow c (pos ((t : ℕ) + 1) 7 n 0)) _ _ (phaseH c t) (fun i => phaseH_tri D) K _ Q) $$ [HO HH]
  · isplitr; · iexact Hc
    isplitl [HO]; · iexact HO
    iexact HH
  iintro ⟨HO, HH⟩
  iapply (waitCV_tri D (c := c) (k := 2) (i := 4) (t := t) (w := 8) (m := pos ((t : ℕ) + 1) 7 6 0) (by decide) rfl rfl (by simp only [pos]; omega) K _ Q) $$ [HV0 HO]
  · isplitr; · iexact Hc
    isplitl [HV0]; · iexact HV0
    iexact HO
  iintro ⟨HV0, HO⟩
  iapply (waitCV_tri D (c := c) (k := 2) (i := 5) (t := t) (w := 8) (m := pos ((t : ℕ) + 1) 7 6 0) (by decide) rfl rfl (by simp only [pos]; omega) K _ Q) $$ [HV1 HO]
  · isplitr; · iexact Hc
    isplitl [HV1]; · iexact HV1
    iexact HO
  iintro ⟨HV1, HO⟩
  iapply Hk
  isplitl [HO]
  · rw [show pos ((t : ℕ) + 1 + 1) 0 0 0 = pos ((t : ℕ) + 1) 7 6 0 by simp only [pos]; omega]; iexact HO
  isplitl [HX]; · iexact HX
  isplitl [HV0 HV1]
  · isplitl [HV0]; · iexact HV0
    iexact HV1
  iapply (all_mono fun i => PS_out D c t i)
  iapply (all_split _ _).2
  isplitl [HF]; · iexact HF
  iapply (all_split _ _).2
  isplitl [HM]; · iexact HM
  iapply (all_split _ _).2
  isplitl [HD]; · iexact HD
  iapply (all_split _ _).2
  isplitl [HE]; · iexact HE
  iapply (all_split _ _).2
  isplitl [HG]; · iexact HG
  iexact HH

end Cert.Proof.RS

end
-- ==== Proof.RS.Parts.lean ====
/- The buffers and the semaphores, dealt to the parts and collected again. -/
module

public import proofs.«01_k».proof.Proof.RS.Trip

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## The parts of a buffer -/

theorem six_union {A : ℕ} : (Finset.univ : Finset (Fin 6)).biUnion (fun i => (bx (A := A) (B := 8192) 0 A i : Finset (sh A 8192).Idx)) = Finset.univ := by
  ext x
  have h0 : (x 0 : ℕ) < A := (x 0).isLt
  have h1 : (x 1 : ℕ) < 8192 := (x 1).isLt
  simp only [Finset.mem_biUnion, Finset.mem_univ, true_and, iff_true]
  exact ⟨part (x 1 : ℕ), mem_bx.mpr ⟨⟨Nat.zero_le _, by omega⟩, part_spec h1⟩⟩

theorem six_disj {A : ℕ} (i j : Fin 6) (h : i ≠ j) : Disjoint (bx (A := A) (B := 8192) 0 A i : Finset (sh A 8192).Idx) (bx (A := A) (B := 8192) 0 A j) := bx_disj (by omega)
/-- Elements held in six disjoint pieces. -/
theorem any_six {ℓ : Loc nD τ sig} {U : Finset (Idx ℓ)} (K : Fin 6 → Finset (Idx ℓ)) (hU : Finset.univ.biUnion K = U)
    (hd : ∀ i j, i ≠ j → Disjoint (K i) (K j)) : (any ℓ U : sProp 𝕄) ⊣⊢ all fun i => any ℓ (K i) := by
  have h5 : (any ℓ (K 4 ∪ K 5) : sProp 𝕄) ⊣⊢ _ := any_union rfl (hd 4 5 (by decide))
  have h4 : (any ℓ (K 3 ∪ (K 4 ∪ K 5)) : sProp 𝕄) ⊣⊢ _ := any_union rfl (by simp only [Finset.disjoint_union_right]; exact ⟨hd _ _ (by decide), hd _ _ (by decide)⟩)
  have h3 : (any ℓ (K 2 ∪ (K 3 ∪ (K 4 ∪ K 5))) : sProp 𝕄) ⊣⊢ _ := any_union rfl (by
    simp only [Finset.disjoint_union_right]; exact ⟨hd _ _ (by decide), hd _ _ (by decide), hd _ _ (by decide)⟩)
  have h2 : (any ℓ (K 1 ∪ (K 2 ∪ (K 3 ∪ (K 4 ∪ K 5)))) : sProp 𝕄) ⊣⊢ _ := any_union rfl (by
    simp only [Finset.disjoint_union_right]; exact ⟨hd _ _ (by decide), hd _ _ (by decide), hd _ _ (by decide), hd _ _ (by decide)⟩)
  have h1 : (any ℓ (K 0 ∪ (K 1 ∪ (K 2 ∪ (K 3 ∪ (K 4 ∪ K 5))))) : sProp 𝕄) ⊣⊢ _ := any_union rfl (by
    simp only [Finset.disjoint_union_right]; exact ⟨hd _ _ (by decide), hd _ _ (by decide), hd _ _ (by decide), hd _ _ (by decide), hd _ _ (by decide)⟩)
  have hu : K 0 ∪ (K 1 ∪ (K 2 ∪ (K 3 ∪ (K 4 ∪ K 5)))) = U := by
    rw [← hU]; ext x
    simp only [Finset.mem_union, Finset.mem_biUnion, Finset.mem_univ, true_and]
    constructor
    · rintro (h | h | h | h | h | h) <;> exact ⟨_, h⟩
    · rintro ⟨i, h⟩; fin_cases i <;> simp_all
  rw [hu] at h1
  constructor
  · iintro H
    iapply (all_six _).2
    ihave ⟨H0, H⟩ := h1.1 $$ H
    ihave ⟨H1, H⟩ := h2.1 $$ H
    ihave ⟨H2, H⟩ := h3.1 $$ H
    ihave ⟨H3, H⟩ := h4.1 $$ H
    ihave ⟨H4, H⟩ := h5.1 $$ H
    iframe
  · iintro H
    ihave ⟨H0, H1, H2, H3, H4, H5⟩ := (all_six _).1 $$ H
    iapply h1.2
    isplitl [H0]; · iexact H0
    iapply h2.2
    isplitl [H1]; · iexact H1
    iapply h3.2
    isplitl [H2]; · iexact H2
    iapply h4.2
    isplitl [H3]; · iexact H3
    iapply h5.2
    isplitl [H4]; · iexact H4
    iexact H5

theorem all_iff {P Q : Fin 6 → sProp 𝕄} (h : ∀ i, P i ⊣⊢ Q i) : all P ⊣⊢ all Q := ⟨all_mono fun i => (h i).1, all_mono fun i => (h i).2⟩
theorem iff_trans {P Q R : sProp 𝕄} (h : P ⊣⊢ Q) (h' : Q ⊣⊢ R) : P ⊣⊢ R := ⟨BI.Entails.trans h.1 h'.1, BI.Entails.trans h'.2 h.2⟩

theorem acc_parts (c : Dev nD) : (any (accL c) Finset.univ : sProp 𝕄) ⊣⊢ all fun i => any (accL c) (b512 0 512 i) :=
  any_six (ℓ := accL c) (fun i => (bx (A := 512) (B := 8192) 0 512 i : Finset S512x8192.Idx)) six_union (six_disj (A := 512))
theorem ep_parts (c : Dev nD) : (any (epL c) Finset.univ : sProp 𝕄) ⊣⊢ all fun i => any (epL c) (b64 i) :=
  any_six (ℓ := epL c) (fun i => (bx (A := 64) (B := 8192) 0 64 i : Finset S64x8192.Idx)) six_union (six_disj (A := 64))

theorem st_union (i : Fin 6) : (bst 0 i ∪ (bst 1 i ∪ bst 2 i) : Finset S448x8192.Idx) = bx (A := 448) (B := 8192) 0 448 i := by
  ext x
  simp only [Finset.mem_union, mem_bx, roff, half]
  omega
theorem sb_parts (c : Dev nD) : (any (sbL c) Finset.univ : sProp 𝕄) ⊣⊢ all fun i => iprop(any (sbL c) (bst 0 i) ∗ any (sbL c) (bst 1 i) ∗ any (sbL c) (bst 2 i)) := by
  refine iff_trans (any_six (ℓ := sbL c) (fun i => (bx (A := 448) (B := 8192) 0 448 i : Finset S448x8192.Idx)) six_union (six_disj (A := 448))) (all_iff fun i => ?_)
  have h1 : (any (sbL c) (bst 1 i ∪ bst 2 i) : sProp 𝕄) ⊣⊢ _ := any_union rfl (bx_disj (by simp only [roff, half]; omega))
  have h0 : (any (sbL c) (bx (A := 448) (B := 8192) 0 448 i : Finset S448x8192.Idx) : sProp 𝕄) ⊣⊢ _ := any_union (st_union i) (by
    rw [Finset.disjoint_union_right]; exact ⟨bx_disj (by simp only [roff, half]; omega), bx_disj (by simp only [roff, half]; omega)⟩)
  exact iff_trans h0 ⟨sep_mono_right h1.1, sep_mono_right h1.2⟩
theorem recv_parts (c : Dev nD) : (any (recvL c) Finset.univ : sProp 𝕄) ⊣⊢ all fun i => iprop(any (recvL c) (bst 0 i) ∗ any (recvL c) (bst 1 i) ∗ any (recvL c) (bst 2 i)) := by
  refine iff_trans (any_six (ℓ := recvL c) (fun i => (bx (A := 448) (B := 8192) 0 448 i : Finset S448x8192.Idx)) six_union (six_disj (A := 448))) (all_iff fun i => ?_)
  have h1 : (any (recvL c) (bst 1 i ∪ bst 2 i) : sProp 𝕄) ⊣⊢ _ := any_union rfl (bx_disj (by simp only [roff, half]; omega))
  have h0 : (any (recvL c) (bx (A := 448) (B := 8192) 0 448 i : Finset S448x8192.Idx) : sProp 𝕄) ⊣⊢ _ := any_union (st_union i) (by
    rw [Finset.disjoint_union_right]; exact ⟨bx_disj (by simp only [roff, half]; omega), bx_disj (by simp only [roff, half]; omega)⟩)
  exact iff_trans h0 ⟨sep_mono_right h1.1, sep_mono_right h1.2⟩

/-- Rows from `r` in the order of the gathering: the device's own and those received at each stage. -/
theorem rows_gather {A : ℕ} (c : Dev nD) (o : ℕ) (i : Fin 6) (k : Fin 3) :
    (bx (A := A) (B := 8192) (o + hd c i k) (ln k) i ∪ bx (A := A) (B := 8192) (o + gt c i k) (ln k) i : Finset (sh A 8192).Idx)
      = bx (A := A) (B := 8192) (o + hb c i k) (ln k + ln k) i
    ∧ Disjoint (bx (A := A) (B := 8192) (o + hd c i k) (ln k) i : Finset (sh A 8192).Idx) (bx (A := A) (B := 8192) (o + gt c i k) (ln k) i) := by
  have hs := hd_gt c i k
  exact ⟨bx_union (by omega) rfl, bx_disj (by omega)⟩

theorem ag_gather (c : Dev nD) (i : Fin 6) (k : Fin 3) : (any (agL c) (b512 (hb c i k) (ln k + ln k) i) : sProp 𝕄)
    ⊣⊢ iprop(any (agL c) (b512 (hd c i k) (ln k) i) ∗ any (agL c) (b512 (gt c i k) (ln k) i)) := by
  have h := rows_gather (A := 512) c 0 i k
  simp only [Nat.zero_add] at h
  exact any_union h.1 h.2

theorem ag_parts (c : Dev nD) : (any (agL c) Finset.univ : sProp 𝕄) ⊣⊢ all fun i => iprop(any (agL c) (b512 (kp c i 2) 64 i) ∗ any (agL c) (b512 (gt c i 0) 64 i)
    ∗ any (agL c) (b512 (gt c i 1) 128 i) ∗ any (agL c) (b512 (gt c i 2) 256 i)) := by
  refine iff_trans (any_six (ℓ := agL c) (fun i => (bx (A := 512) (B := 8192) 0 512 i : Finset S512x8192.Idx)) six_union (six_disj (A := 512))) (all_iff fun i => ?_)
  have h2 : (any (agL c) (b512 0 512 i) : sProp 𝕄) ⊣⊢ iprop(any (agL c) (b512 (hd c i 2) 256 i) ∗ any (agL c) (b512 (gt c i 2) 256 i)) := ag_gather c i 2
  have h1 : (any (agL c) (b512 (hd c i 2) 256 i) : sProp 𝕄) ⊣⊢ iprop(any (agL c) (b512 (hd c i 1) 128 i) ∗ any (agL c) (b512 (gt c i 1) 128 i)) := ag_gather c i 1
  have h0 : (any (agL c) (b512 (hd c i 1) 128 i) : sProp 𝕄) ⊣⊢ iprop(any (agL c) (b512 (kp c i 2) 64 i) ∗ any (agL c) (b512 (gt c i 0) 64 i)) := ag_gather c i 0
  constructor
  · iintro H
    ihave ⟨H, H2⟩ := h2.1 $$ H
    ihave ⟨H, H1⟩ := h1.1 $$ H
    ihave ⟨H, H0⟩ := h0.1 $$ H
    iframe
  · iintro ⟨H, H0, H1, H2⟩
    iapply h2.2
    isplitr [H2]
    · iapply h1.2
      isplitr [H1]
      · iapply h0.2
        isplitl [H]; · iexact H
        iexact H0
      iexact H1
    iexact H2

theorem cv_parts (c : Dev nD) : (any (cvL c) Finset.univ : sProp 𝕄) ⊣⊢ iprop(any (cvL c) (slotBox 0) ∗ any (cvL c) (slotBox 1)) := by
  refine any_union ?_ ?_
  · ext x
    have h : (x 0 : ℕ) < 2 := (x 0).isLt
    refine iff_of_true ?_ (Finset.mem_univ x)
    rw [Finset.mem_union]
    rcases (by omega : (x 0 : ℕ) = 0 ∨ (x 0 : ℕ) = 1) with h | h
    · exact Or.inl (mem_slotBox.mpr h)
    · exact Or.inr (mem_slotBox.mpr h)
  · rw [Finset.disjoint_left]
    intro x h h'
    rw [mem_slotBox] at h h'
    rw [h] at h'
    exact absurd h' (by decide)

/-! ## The rows of the result -/

theorem out_round {A : ℕ} (n : ℕ) (i : Fin 6) : (bx (A := A) (B := 8192) 0 (512 * n) i ∪ bx (A := A) (B := 8192) (512 * n) 512 i : Finset (sh A 8192).Idx)
      = bx (A := A) (B := 8192) 0 (512 * (n + 1)) i
    ∧ Disjoint (bx (A := A) (B := 8192) 0 (512 * n) i : Finset (sh A 8192).Idx) (bx (A := A) (B := 8192) (512 * n) 512 i) := by
  refine ⟨?_, bx_disj (by omega)⟩
  ext x
  simp only [Finset.mem_union, mem_bx]
  omega

theorem outK_intro (c : Dev nD) (i : Fin 6) (r : ℕ) : (any (outL c) (b4096 (512 * r) 512 i) : sProp 𝕄) ⊢ outK c i r := by
  have h (k : Fin 3) : (any (outL c) (b4096 (512 * r + hb c i k) (ln k + ln k) i) : sProp 𝕄)
      ⊢ iprop(any (outL c) (b4096 (512 * r + hd c i k) (ln k) i) ∗ any (outL c) (b4096 (512 * r + gt c i k) (ln k) i)) := by
    have h := rows_gather (A := 4096) c (512 * r) i k
    exact (any_union h.1 h.2).1
  have h2 : (any (outL c) (b4096 (512 * r) 512 i) : sProp 𝕄) ⊢ _ := h 2
  have h1 : (any (outL c) (b4096 (512 * r + hd c i 2) (ln 2) i) : sProp 𝕄) ⊢ _ := h 1
  have h0 : (any (outL c) (b4096 (512 * r + hd c i 1) (ln 1) i) : sProp 𝕄) ⊢ _ := h 0
  unfold outK
  iintro H
  ihave ⟨H, H2⟩ := h2 $$ H
  ihave ⟨H, H1⟩ := h1 $$ H
  ihave ⟨H, H0⟩ := h0 $$ H
  isplitl [H]; · iexact H
  isplitl [H0]; · iexact H0
  isplitl [H1]; · iexact H1
  iexact H2

theorem out_rounds (c : Dev nD) (i : Fin 6) (n : ℕ) : (any (outL c) (b4096 0 (512 * n) i) : sProp 𝕄) ⊢ bigSep (Finset.range n) (outK c i) := by
  induction n with
  | zero => rw [Finset.range_zero, bigSep_empty]; iintro -; exact BI.Entails.refl _
  | succ n ih =>
    have e : bigSep (Finset.range (n + 1)) (outK (F := F) c i) = iprop(outK c i n ∗ bigSep (Finset.range n) (outK c i)) := by
      rw [Finset.range_add_one, bigSep_insert (by simp)]; rfl
    rw [e]
    have h := out_round (A := 4096) n i
    iintro H
    ihave ⟨H, H'⟩ := (any_union h.1 h.2).1 $$ H
    isplitl [H']; · iapply (outK_intro c i n); iexact H'
    iapply ih; iexact H

theorem out_in (c : Dev nD) : (any (outL c) Finset.univ : sProp 𝕄) ⊢ all fun i => bigSep (Finset.Ico 0 8) (outK c i) :=
  BI.Entails.trans (any_six (ℓ := outL c) (fun i => (bx (A := 4096) (B := 8192) 0 4096 i : Finset S4096x8192.Idx)) six_union (six_disj (A := 4096))).1 (all_mono fun i => by
    rw [← Finset.range_eq_Ico]; exact out_rounds c i 8)

/-- Rows of the result received at stage `k`. -/
abbrev outG (c : Dev nD) (t : ℕ) (k : Fin 3) (i : Fin 6) : sProp 𝕄 := outL c ↦[b4096 (512 * t + gt c i k) (ln k) i]{fullShare} buf (OUT D c)
/-- Rows of the result. -/
abbrev outB (c : Dev nD) (r l : ℕ) (i : Fin 6) : sProp 𝕄 := outL c ↦[b4096 r l i]{fullShare} buf (OUT D c)

theorem outB_union {c : Dev nD} {I J U : Finset S4096x8192.Idx} (hU : I ∪ J = U) (hd : Disjoint I J) :
    iprop((outL c ↦[I]{fullShare} buf (OUT D c)) ∗ (outL c ↦[J]{fullShare} buf (OUT D c))) ⊢ (outL c ↦[U]{fullShare} buf (OUT D c) : sProp 𝕄) := by
  subst hU; exact (pointsTo_union hd).2

/-- A round's rows of the result. -/
theorem outB_round (c : Dev nD) (i : Fin 6) (r : ℕ) : iprop(outO D c r i ∗ outG D c r 0 i ∗ outG D c r 1 i ∗ outG D c r 2 i) ⊢ outB D c (512 * r) 512 i := by
  have h (k : Fin 3) : iprop(outB D c (512 * r + hd c i k) (ln k) i ∗ outG D c r k i) ⊢ outB D c (512 * r + hb c i k) (ln k + ln k) i := by
    have h := rows_gather (A := 4096) c (512 * r) i k
    exact outB_union D h.1 h.2
  iintro ⟨H, H0, H1, H2⟩
  iapply (h 2)
  isplitr [H2]
  · iapply (h 1)
    isplitr [H1]
    · iapply (h 0)
      isplitl [H]; · iexact H
      iexact H0
    iexact H1
  iexact H2

theorem outB_rounds (c : Dev nD) (i : Fin 6) (n : ℕ) :
    bigSep (Finset.range n) (fun r => iprop(outO D c r i ∗ outG D c r 0 i ∗ outG D c r 1 i ∗ outG D c r 2 i)) ⊢ outB D c 0 (512 * n) i := by
  induction n with
  | zero =>
    have e : (b4096 0 (512 * 0) i : Finset S4096x8192.Idx) = ∅ := by ext x; simp only [mem_bx]; constructor <;> intro h; · omega
                                                                     · cases h
    unfold outB
    rw [e, pointsTo_empty, Finset.range_zero, bigSep_empty]; exact Entails.refl _
  | succ n ih =>
    have e : bigSep (Finset.range (n + 1)) (fun r => iprop(outO D c r i ∗ outG D c r 0 i ∗ outG D c r 1 i ∗ outG D c r 2 i))
      = iprop((outO D c n i ∗ outG D c n 0 i ∗ outG D c n 1 i ∗ outG D c n 2 i) ∗ bigSep (Finset.range n) (fun r => iprop(outO D c r i ∗ outG D c r 0 i ∗ outG D c r 1 i ∗ outG D c r 2 i))) := by
      rw [Finset.range_add_one, bigSep_insert (by simp)]; rfl
    rw [e]
    have h := out_round (A := 4096) n i
    iintro ⟨H, H'⟩
    ihave H := (outB_round D c i n) $$ H
    ihave H' := ih $$ H'
    iapply (outB_union D h.1 h.2)
    isplitl [H']; · iexact H'
    iexact H

/-- The rows copied out of the slots, by part and round. -/
theorem outs_parts (c : Dev nD) (t : ℕ) : iprop(outs D c 0 (9 * t) ∗ outs D c 1 (9 * t))
    ⊢ all fun i => bigSep (Finset.range t) fun r => iprop(outG D c r 0 i ∗ outG D c r 1 i ∗ outG D c r 2 i) := by
  induction t with
  | zero =>
    have e : (fun i : Fin 6 => bigSep (Finset.range 0) fun r => iprop(outG D c r 0 i ∗ outG D c r 1 i ∗ outG D c r 2 i)) = fun _ => iprop(emp) := by
      funext i; rw [Finset.range_zero, bigSep_empty]; rfl
    rw [e]
    iintro -
    iapply (all_six _).2
    iclose
  | succ t ih =>
    have e (i : Fin 6) : bigSep (Finset.range (t + 1)) (fun r => iprop(outG D c r 0 i ∗ outG D c r 1 i ∗ outG D c r 2 i))
      = iprop((outG D c t 0 i ∗ outG D c t 1 i ∗ outG D c t 2 i) ∗ bigSep (Finset.range t) (fun r => iprop(outG D c r 0 i ∗ outG D c r 1 i ∗ outG D c r 2 i))) := by
      rw [Finset.range_add_one, bigSep_insert (by simp)]; rfl
    have eP (s : Fin 2) (w : ℕ) (hw : w < 9) : outP D c s (9 * t + w) = outG D c t (vk w) (vi s w) := by
      unfold outP; rw [(v_mod hw).1, (v_mod hw).2]
    have eS (s : Fin 2) : outs D c s (9 * (t + 1)) ⊢ iprop(outG D c t 0 (vi s 0) ∗ outG D c t 0 (vi s 1) ∗ outG D c t 0 (vi s 2) ∗ outG D c t 1 (vi s 0)
        ∗ outG D c t 1 (vi s 1) ∗ outG D c t 1 (vi s 2) ∗ outG D c t 2 (vi s 0) ∗ outG D c t 2 (vi s 1) ∗ outG D c t 2 (vi s 2) ∗ outs D c s (9 * t)) := by
      rw [show 9 * (t + 1) = 9 * t + 0 + 1 + 1 + 1 + 1 + 1 + 1 + 1 + 1 + 1 by omega]
      simp only [outs_succ]
      rw [show 9 * t + 0 + 1 = 9 * t + 1 from rfl, show 9 * t + 1 + 1 = 9 * t + 2 from rfl, show 9 * t + 2 + 1 = 9 * t + 3 from rfl,
        show 9 * t + 3 + 1 = 9 * t + 4 from rfl, show 9 * t + 4 + 1 = 9 * t + 5 from rfl, show 9 * t + 5 + 1 = 9 * t + 6 from rfl,
        show 9 * t + 6 + 1 = 9 * t + 7 from rfl, show 9 * t + 7 + 1 = 9 * t + 8 from rfl,
        show outP D c s (9 * t) = _ from eP s 0 (by decide), eP s 1 (by decide), eP s 2 (by decide), eP s 3 (by decide), eP s 4 (by decide), eP s 5 (by decide), eP s 6 (by decide), eP s 7 (by decide), eP s 8 (by decide)]
      iintro ⟨H8, H7, H6, H5, H4, H3, H2, H1, H0, H⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H
    simp only [e]
    iintro ⟨Ha, Hb⟩
    ihave ⟨A0, A1, A2, A3, A4, A5, A6, A7, A8, A⟩ := (eS 0) $$ Ha
    ihave ⟨B0, B1, B2, B3, B4, B5, B6, B7, B8, B⟩ := (eS 1) $$ Hb
    ihave HI := ih $$ [A B]
    · isplitl [A] <;> iassumption
    iapply (all_split _ _).2
    isplitr [HI]
    · iapply (all_six _).2
      isplitl [A0 A3 A6]
      · isplitl [A0]; · iexact A0
        isplitl [A3]; · iexact A3
        iexact A6
      isplitl [B0 B3 B6]
      · isplitl [B0]; · iexact B0
        isplitl [B3]; · iexact B3
        iexact B6
      isplitl [A1 A4 A7]
      · isplitl [A1]; · iexact A1
        isplitl [A4]; · iexact A4
        iexact A7
      isplitl [B1 B4 B7]
      · isplitl [B1]; · iexact B1
        isplitl [B4]; · iexact B4
        iexact B7
      isplitl [A2 A5 A8]
      · isplitl [A2]; · iexact A2
        isplitl [A5]; · iexact A5
        iexact A8
      isplitl [B2]; · iexact B2
      isplitl [B5]; · iexact B5
      iexact B8
    iexact HI

/-- The whole result. -/
theorem out_whole (c : Dev nD) : iprop((all fun i => bigSep (Finset.range 8) fun r => outO D c r i) ∗ outs D c 0 72 ∗ outs D c 1 72)
    ⊢ (outL c ↦[Finset.univ]{fullShare} buf (OUT D c) : sProp 𝕄) := by
  iintro ⟨H, H0, H1⟩
  ihave H' := (outs_parts D c 8) $$ [H0 H1]
  · isplitl [H0] <;> iassumption
  ihave H := (all_split _ _).2 $$ [H H']
  · isplitl [H]; · iexact H
    iexact H'
  ihave H := (all_mono fun i => BI.Entails.trans (Entails.of_eq (bigSep_sep' (Finset.range 8) (fun r => outO D c r i) (fun r => iprop(outG D c r 0 i ∗ outG D c r 1 i ∗ outG D c r 2 i))).symm)
    (outB_rounds D c i 8)) $$ H
  have h := pointsTo_biUnion (ℓ := outL c) (q := fullShare) (f := (buf (OUT D c) : Buf (Elt F) (outL c))) (Ix := ℕ) (Name := ℕ) (U := UU) (Lvl := ℕ) (Finset.univ : Finset (Fin 6))
    (fun i => (b4096 0 4096 i : Finset S4096x8192.Idx)) (fun i _ j _ h => bx_disj (by omega))
  iapply (Entails.of_eq (h.symm.trans (congrArg (fun U : Finset S4096x8192.Idx => (outL c ↦[U]{fullShare} buf (OUT D c) : sProp 𝕄)) six_union)))
  iexact H

/-! ## The semaphores -/

/-- The semaphores of a part. -/
def ofPart (i : Fin 6) : List Own := [.s0 i, .s i, .r i 0, .r i 1, .r i 2, .a i 0, .a i 1, .a i 2, .c i, .rc i 0, .rc i 1, .rc i 2, .ac i 0, .ac i 1, .ac i 2]
theorem bigSep_parts {ι κ : Type} [DecidableEq ι] [DecidableEq κ] (s : Finset ι) (t : ι → Finset κ) (Φ : κ → sProp 𝕄)
    (h : ∀ i ∈ s, ∀ j ∈ s, i ≠ j → Disjoint (t i) (t j)) : bigSep (s.biUnion t) Φ = bigSep s fun i => bigSep (t i) Φ := by
  induction s using Finset.induction_on with
  | empty => rfl
  | insert i s hi ih =>
    rw [Finset.biUnion_insert, bigSep_insert hi, bigSep_union, ih fun a ha b hb => h a (Finset.mem_insert_of_mem ha) b (Finset.mem_insert_of_mem hb)]
    rw [Finset.disjoint_biUnion_right]
    exact fun j hj => h i (Finset.mem_insert_self _ _) j (Finset.mem_insert_of_mem hj) fun e => hi (e ▸ hj)
/-- Every semaphore is one of a part's or one of the two of the slots. -/
theorem own_parts (Φ : Own → sProp 𝕄) : bigSep Finset.univ Φ ⊣⊢ iprop((all fun i => iprop(Φ (.s0 i) ∗ Φ (.s i) ∗ Φ (.r i 0) ∗ Φ (.r i 1) ∗ Φ (.r i 2) ∗ Φ (.a i 0) ∗ Φ (.a i 1)
    ∗ Φ (.a i 2) ∗ Φ (.c i) ∗ Φ (.rc i 0) ∗ Φ (.rc i 1) ∗ Φ (.rc i 2) ∗ Φ (.ac i 0) ∗ Φ (.ac i 1) ∗ Φ (.ac i 2))) ∗ Φ (.v 0) ∗ Φ (.v 1)) := by
  have hU : (Finset.univ : Finset Own) = (Finset.univ : Finset (Fin 6)).biUnion (fun i => (ofPart i).toFinset) ∪ [Own.v 0, Own.v 1].toFinset := by decide +kernel
  have h1 : Disjoint ((Finset.univ : Finset (Fin 6)).biUnion (fun i => (ofPart i).toFinset)) [Own.v 0, Own.v 1].toFinset := by decide +kernel
  have h2 : ∀ i ∈ (Finset.univ : Finset (Fin 6)), ∀ j ∈ (Finset.univ : Finset (Fin 6)), i ≠ j → Disjoint (ofPart i).toFinset (ofPart j).toFinset := by decide +kernel
  have h3 : ∀ i, (ofPart i).Nodup := by decide +kernel
  have e : bigSep Finset.univ Φ = iprop((all fun i => bigSep (ofPart i).toFinset Φ) ∗ bigSep [Own.v 0, Own.v 1].toFinset Φ) := by
    rw [hU, bigSep_union h1, bigSep_parts _ _ _ h2]; rfl
  have e' (i : Fin 6) : bigSep (ofPart i).toFinset Φ = iprop(Φ (.s0 i) ∗ Φ (.s i) ∗ Φ (.r i 0) ∗ Φ (.r i 1) ∗ Φ (.r i 2) ∗ Φ (.a i 0) ∗ Φ (.a i 1)
    ∗ Φ (.a i 2) ∗ Φ (.c i) ∗ Φ (.rc i 0) ∗ Φ (.rc i 1) ∗ Φ (.rc i 2) ∗ Φ (.ac i 0) ∗ Φ (.ac i 1) ∗ Φ (.ac i 2)) :=
    (bigSep_eq_bigSepL_of_eq (ofPart i) rfl (h3 i) Φ).trans rfl
  have e'' : bigSep [Own.v 0, Own.v 1].toFinset Φ = iprop(Φ (.v 0) ∗ Φ (.v 1)) := (bigSep_eq_bigSepL_of_eq [Own.v 0, Own.v 1] rfl (by decide) Φ).trans rfl
  rw [e, e'']
  simp only [e']
  exact ⟨BI.Entails.refl _, BI.Entails.refl _⟩

end Cert.Proof.RS

end
-- ==== Proof.RS.TextEq.lean ====
/- The printed kernel is the steps of `RS.Text`, in order. -/
module

public import proofs.«01_k».proof.Proof.RS.Text
public import proofs.«01_k».proof.Proof.Gen.KernelIdeal.Launch
public import Idealize.ShloMosaic.Lib.Pipeline.Regions

@[expose] public section

set_option maxRecDepth 100000

noncomputable section

namespace Cert.Proof.RS

open Cert.KernelIdeal
open Idealize.ShloMosaic Idealize.ShloMosaic.TcCoe Idealize.ShloMosaic.Tactic
open Idealize.SL Idealize.SL.Sem

variable {F : FTy → Type} [FloatOps F]

/-- The printed trip of the loop, on the kernel's own buffers. -/
abbrev printed (c : Dev nD) (s : F .f32) (t : Fin k0_t1_loop.trips) : TP F :=
  Gen.k0_t1_body xM (Memref.isWhole_whole _) wM (Memref.isWhole_whole _) sxM (Memref.isWhole_whole _) swM (Memref.isWhole_whole _) outM (Memref.isWhole_whole _)
    accM (Memref.isWhole_whole _) recvM (Memref.isWhole_whole _) sbM (Memref.isWhole_whole _) epM (Memref.isWhole_whole _) agM (Memref.isWhole_whole _) cvM (Memref.isWhole_whole _)
    cc0_scratch6 cc0_scratch7 cc0_scratch8 cc0_scratch9 cc0_scratch10 cc0_scratch11 cc0_scratch12 cc0_scratch13 c
    (bitW c 0) (bitW c 1) (bitW c 2) (prtW c 0) (prtW c 1) (prtW c 2) s t ⟨⟩

theorem printed_eq (c : Dev nD) (s : F .f32) : ∀ t : Fin k0_t1_loop.trips, printed c s t = trip c s t (.ret ⟨⟩)
  | ⟨0, _⟩ => by chain_rfl
  | ⟨1, _⟩ => by chain_rfl
  | ⟨2, _⟩ => by chain_rfl
  | ⟨3, _⟩ => by chain_rfl
  | ⟨4, _⟩ => by chain_rfl
  | ⟨5, _⟩ => by chain_rfl
  | ⟨6, _⟩ => by chain_rfl
  | ⟨7, _⟩ => by chain_rfl
  | ⟨n + 8, h⟩ => absurd h (Nat.not_lt.2 (Nat.le_add_left 8 n))

/-- The printed kernel: the steps before the loop, then the loop of the rounds. -/
theorem bodyAt_eq : Gen.bodyAt0 (F := F) Gen.t0_0
      = .op .deviceId fun c => prologue c fun s =>
          (Scf.Loop.for k0_t1_loop Gen.k0_t1_ok ⟨⟩ fun t _ => printed c s t) >>= fun _ => pure ⟨⟩ := by
  chain_rfl

end Cert.Proof.RS

end
-- ==== Proof.RS.Body.lean ====
/- The kernel on one device: what it needs, and what it leaves. -/
module

public import proofs.«01_k».proof.Proof.RS.Parts
public import proofs.«01_k».proof.Proof.RS.TextEq

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## The handshake -/

theorem dim_lt (i : Fin 6) (k : Fin 3) : dim i k < 3 := by revert i k; decide
theorem big3 (Φ : Fin 3 → sProp 𝕄) : bigSep Finset.univ Φ = iprop(Φ 0 ∗ Φ 1 ∗ Φ 2) := bigSep_univ_eq_bigSepL [0, 1, 2] (by decide) (by decide) Φ

/-- What is handed over along the three dimensions, by part. -/
theorem bar_all (q : Fin 3 → Dev nD) : (bigSep Finset.univ fun d => barF (F := F) (q d) d)
    = all fun i => iprop(lend (q ⟨dim i 0, dim_lt i 0⟩) i 0 ∗ lend (q ⟨dim i 1, dim_lt i 1⟩) i 1 ∗ lend (q ⟨dim i 2, dim_lt i 2⟩) i 2) := by
  have h1 (d : Fin 3) : barF (F := F) (q d) d
      = bigSep (Finset.univ.filter fun p : Fin 6 × Fin 3 => dim p.1 p.2 = d) fun p => lend (q ⟨dim p.1 p.2, dim_lt p.1 p.2⟩) p.1 p.2 := by
    unfold barF
    refine bigSep_congr fun p hp => ?_
    rw [show (⟨dim p.1 p.2, dim_lt p.1 p.2⟩ : Fin 3) = d from Fin.ext (Finset.mem_filter.mp hp).2]
  have hU : (Finset.univ : Finset (Fin 6 × Fin 3)) = (Finset.univ : Finset (Fin 3)).biUnion fun d => Finset.univ.filter fun p : Fin 6 × Fin 3 => dim p.1 p.2 = d := by
    decide +kernel
  rw [bigSep_congr (fun d _ => h1 d), ← bigSep_parts _ _ _ (by decide +kernel), ← hU, bigSep_univ_prod]
  exact bigSep_congr fun i _ => big3 _

theorem ctx_rch0 (K : Dev nD × Cell → ℕ) (c : Dev nD) (x : Cell) : ctx D K ⊢ reached ER (cell c x) 0 := by
  unfold ctx; iintro ⟨-, H, -⟩
  iapply (big_at (fun p : Dev nD × Cell => reached ER (cell p.1 p.2) 0) (c, x)); iexact H

/-- Greeting the neighbour along dimension `d`. -/
theorem hello_tri {c : Dev nD} (d : Fin 3) :
    tri D c iprop(dutyTok ER (cell (nb c d) none) 0 d ∗ Ow c d ∗ barF c d) (hello c ⟨d, by omega⟩) (Ow c ((d : ℕ) + 1)) := by
  intro K k Q
  unfold Ow hello
  iintro ⟨#Hc, Ht, ⟨%W, HO⟩, Hp⟩ Hk
  have he : debt c d = debt c ((d : ℕ) + 1) + tallyAt (cell (nb c d) none) 0 1 := by
    have h3 : (d : ℕ) < 3 := d.isLt
    rw [debt_step c (n := d) (by simp only [endPos, pos]; omega)]
    congr 1
    unfold ev; rw [dif_pos h3]
  iapply (Rounds.wp_signal 𝒱₀ ER (Rd D) (c : Thread nD τ) none (dst := ((nb c d : Dev nD) : Thread nD τ)) (κ := K (nb c d, none)) (r := 0) (d := d) (sem := barS)
    (by show d ∈ (Rd D).duties (cell (nb c d) none) 0; rw [duties_bar]; exact Finset.mem_univ _) (k' := 1) (by
      show (Rd D).amount (cell (nb c d) none) 0 d = 1; rw [amount_cell]; rfl) 0
    (O₀ := debt c d) (debt c ((d : ℕ) + 1)) he) $$ [HO Ht Hp]
  · rw [show ((nb c d : Thread nD τ), SemLoc.reg barS) = cell (nb c d) none from rfl]
    isplitr; · iapply (ctx_inv D K (nb c d) none); iexact Hc
    isplitl [HO]; · iexact HO
    isplitl [Ht]; · iexact Ht
    isplitl [Hp]
    · iapply (Entails.of_eq (show barF c d = (Rd D).payload (cell (nb c d) none) 0 d by rw [payload_bar, nb_nb])); iexact Hp
    iapply (ctx_rch0 D K (nb c d) none); iexact Hc
  iintro HO
  iapply Hk
  iexists _; iexact HO

/-- Waiting for the three neighbours' greetings. -/
theorem greeted_tri {c : Dev nD} :
    tri D c iprop(atPos ER (cell c none) 0 ∅ 0 ∗ cred (tallyAt (cell c none) 0 3) ∗ Ow c 3)
      (fun k => .op (.semWait barS (3#32 : BitVec 32).toInt) fun _ => k)
      iprop(atPos ER (cell c none) 1 ∅ 0 ∗ Ow c 3 ∗ all fun i => iprop(lend (prt c i 0) i 0 ∗ lend (prt c i 1) i 1 ∗ lend (prt c i 2) i 2)) := by
  intro K k Q
  unfold Ow
  iintro ⟨#Hc, Ha, Hcr, %W, HO⟩ Hk
  iapply (Rounds.wp_wait_rest_token 𝒱₀ ER (Rd D) (c : Thread nD τ) none (κ := K (c, none)) (sm := csem none) (k' := 3)
    (wpE_semWait_eq 𝒱₀ (c : Thread nD τ) none Set.univ) (Set.mem_univ _) 0
    (O := debt c 3) (W := W) (R := 0) (m := 0) (T := ∅) (by show _ = (Rd D).expect (cell c none) 0; rw [expect_bar])) $$ [Ha Hcr HO]
  · isplitr; · iapply (ctx_inv D K c none); iexact Hc
    isplitl [Hcr]; · iexact Hcr
    isplitl [HO]; · iexact HO
    isplitr; · iapply (mayWait c none (n := 0) (m := 3) (by decide) (by decide)); iapply (ctx_lev D K); iexact Hc
    iexact Ha
  iintro ⟨HO, Ha, -, Hp⟩
  iapply Hk
  isplitl [Ha]; · iexact Ha
  isplitl [HO]; · iexists _; iexact HO
  ihave Hp' := (Entails.of_eq (show bigSep ((Rd D).duties (cell c none) 0 \ ∅) (fun d => (Rd D).payload (cell c none) 0 d)
    = all fun i => iprop(lend (prt c i 0) i 0 ∗ lend (prt c i 1) i 1 ∗ lend (prt c i 2) i 2) by
      rw [duties_bar, Finset.sdiff_empty, bigSep_congr (fun d _ => payload_bar D c 0 d), bar_all (nb c)]
      refine bigSep_congr fun i _ => ?_
      have h : ∀ (i : Fin 6) (k : Fin 3), dim ⟨dim i k, (dim_lt i k).trans (by decide)⟩ 0 = dim i k := by decide
      have e (k : Fin 3) : nb c ⟨dim i k, dim_lt i k⟩ = prt c i k := prt_dim c _ i 0 k (h i k)
      rw [e, e, e])) $$ Hp
  iexact Hp'

/-! ## Before the loop -/

abbrev r1 : Rect S1 := Rect.unit (s := S1) ![0] S1.size s1_inb
abbrev sxL (c : Dev nD) : Loc nD τ sig := sxM.view.loc (c : Thread nD τ)
abbrev swL (c : Dev nD) : Loc nD τ sig := swM.view.loc (c : Thread nD τ)

/-- The one place of the scalars' buffers. -/
theorem s1_pos : 0 < r1.shape.numel := Gen.numel1_S1.symm ▸ Nat.one_pos
/-- Reading a scalar. -/
theorem word_run {c : Dev nD} {s : Shape} {e : EltTy} {m : Memref sig .tc .smem s e} {r : Rect s} {h1 : r.shape.numel = 1} {hp : e.packing = 1}
    {f₀ : Buf (Elt F) ((m.access r).loc (c : Thread nD τ))} {f : Elt F e → TP F} {Q : PUnit → sProp 𝕄} (a : Elt F e)
    (ha : (m.access r).read (Elt F) f₀ (Shape.Idx.first (h1.symm ▸ Nat.one_pos)) = a) :
    ((m.access r).loc (c : Thread nD τ) ↦[Finset.univ]{fullShare} f₀ : sProp 𝕄)
      ⊢ iprop((((m.access r).loc (c : Thread nD τ) ↦[Finset.univ]{fullShare} f₀) -∗ WP c (f a) Q)
        -∗ WP c (Prog.bind (smemLoad (p := .tc) m r h1 hp) f) Q) := by
  subst ha
  exact wp_smemLoadElt 𝒱₀ (c : Thread nD τ) none Set.univ (m := m) (r := r) (f := f₀) (k := f) (hw := View.loads_smem_one hp h1) (Finset.subset_univ _)

/-- The first round's rows. -/
theorem first_read (c : Dev nD) : (xM.access firstR).read (Elt F) (D.X c) = xrow D c 0 :=
  funext fun y => by
    show D.X c (firstR.emb y) = D.X c _
    have h0 : (y 0 : ℕ) < 512 := (y 0).isLt
    have h1 : (y 1 : ℕ) < 512 := (y 1).isLt
    congr 1
    funext a
    match a with
    | 0 => exact Fin.ext (by
        show 0 + 1 * (y 0 : ℕ) = (512 * 0 + (y 0 : ℕ)) % 4096
        omega)
    | 1 => exact Fin.ext (by
        show 0 + 1 * (y 1 : ℕ) = (y 1 : ℕ) % 512
        omega)

/-- What a device has of the handshake at the start. -/
def bar0 (c : Dev nD) : sProp 𝕄 :=
  iprop(atPos ER (cell c none) 0 ∅ 0 ∗ cred (tallyAt (cell c none) 0 3) ∗ bigSep Finset.univ fun d : Fin 3 => dutyTok ER (cell (nb c d) none) 0 d)
/-- What the steps before the loop need of a part. -/
def P0 (c : Dev nD) (i : Fin 6) : sProp 𝕄 :=
  iprop((any (accL c) (b512 0 512 i) ∗ any (sbL c) (bst 0 i) ∗ Lx c (.s0 i) 0 ∗ Tx c (.r i 0) 0) ∗ lend c i 0 ∗ lend c i 1 ∗ lend c i 2)
/-- What they leave. -/
def P1 (c : Dev nD) (i : Fin 6) : sProp 𝕄 :=
  iprop((stF D c 0 i ∗ Tx c (.r i 0) 1) ∗ any (agL (prt c i 0)) (b512 (gt (prt c i 0) i 2) 256 i) ∗ lend (prt c i 1) i 1 ∗ lend (prt c i 2) i 2)

theorem lend_zero (q : Dev nD) (i : Fin 6) : (lend (F := F) q i 0) ⊢ iprop(any (recvL q) (bst 0 i) ∗ any (agL q) (b512 (gt q i 2) 256 i)) := Entails.refl _
theorem lend_one (q : Dev nD) (i : Fin 6) : (lend (F := F) q i 1) ⊢ any (recvL q) (bst 1 i) := by
  unfold lend; iintro ⟨H, -⟩; iexact H
theorem lend_two (q : Dev nD) (i : Fin 6) : (lend (F := F) q i 2) ⊢ any (recvL q) (bst 2 i) := by
  unfold lend; iintro ⟨H, -⟩; iexact H
theorem lend_intro {q : Dev nD} {i : Fin 6} : iprop(any (recvL q) (bst 0 i) ∗ any (recvL q) (bst 1 i) ∗ any (recvL q) (bst 2 i) ∗ any (agL q) (b512 (gt q i 2) 256 i))
    ⊢ (iprop(lend q i 0 ∗ lend q i 1 ∗ lend q i 2) : sProp 𝕄) := by
  unfold lend
  rw [if_pos rfl, if_neg (by decide), if_neg (by decide)]
  iintro ⟨H0, H1, H2, H3⟩
  iframe

theorem pro_run (c : Dev nD) (fx : Buf (Elt F) (sxL c)) (fw : Buf (Elt F) (swL c))
    (hs : D.s c = Scalar.mulf ((sxM.access r1).read (Elt F) fx (Shape.Idx.first s1_pos)) ((swM.access r1).read (Elt F) fw (Shape.Idx.first s1_pos)))
    (K : Dev nD × Cell → ℕ) (Kt : F .f32 → TP F) (Q : PUnit → sProp 𝕄) :
    iprop(ctx D K ∗ bar0 c ∗ Ow c 0 ∗ xw D c ∗ (sxL c ↦[Finset.univ]{fullShare} fx) ∗ (swL c ↦[Finset.univ]{fullShare} fw) ∗ all (P0 c))
      ⊢ iprop(((atPos ER (cell c none) 1 ∅ 0 ∗ Ow c (pos 1 0 0 0) ∗ xw D c ∗ (sxL c ↦[Finset.univ]{fullShare} fx) ∗ (swL c ↦[Finset.univ]{fullShare} fw) ∗ all (P1 D c))
        -∗ WP c (Kt (D.s c)) Q) -∗ WP c (prologue c Kt) Q) := by
  unfold prologue bar0 P0 xw
  rw [big3]
  iintro ⟨#Hc, ⟨Ha, Hcr, Ht0, Ht1, Ht2⟩, HO, ⟨HX, HW⟩, Hsx, Hsw, HP⟩ Hk
  ihave ⟨HP, HL⟩ := (all_split _ _).1 $$ HP
  ihave HL' := (Entails.of_eq (bar_all (F := F) (fun _ => c)).symm) $$ HL
  ihave ⟨HB0, HB1, HB2⟩ := (Entails.of_eq (big3 (fun d : Fin 3 => barF (F := F) c d))) $$ HL'
  iapply (hello_tri D (c := c) 0 K _ Q) $$ [Ht0 HO HB0]
  · isplitr; · iexact Hc
    isplitl [Ht0]; · iexact Ht0
    isplitl [HO]; · iexact HO
    iexact HB0
  iintro HO
  iapply (hello_tri D (c := c) 1 K _ Q) $$ [Ht1 HO HB1]
  · isplitr; · iexact Hc
    isplitl [Ht1]; · iexact Ht1
    isplitl [HO]; · iexact HO
    iexact HB1
  iintro HO
  iapply (hello_tri D (c := c) 2 K _ Q) $$ [Ht2 HO HB2]
  · isplitr; · iexact Hc
    isplitl [Ht2]; · iexact Ht2
    isplitl [HO]; · iexact HO
    iexact HB2
  iintro HO
  iapply (greeted_tri D (c := c) K _ Q) $$ [Ha Hcr HO]
  · isplitr; · iexact Hc
    isplitl [Ha]; · iexact Ha
    isplitl [Hcr]; · iexact Hcr
    iexact HO
  iintro ⟨Ha, HO, HL⟩
  ihave HO := (Ow_skips (c := c) (m := 3) 60 (by decide) (by decide +kernel)) $$ HO
  iapply (word_run (m := sxM) (r := r1) (f₀ := fx) _ rfl) $$ Hsx
  iintro Hsx
  iapply (word_run (m := swM) (r := r1) (f₀ := fw) _ rfl) $$ Hsw
  iintro Hsw
  iapply (ld (m := xM) (r := firstR) (f := D.X c) (xrow D c 0) (Finset.subset_univ _) (first_read D c)) $$ HX
  iintro HX
  ihave ⟨HA, HP⟩ := (all_split (fun i => any (accL c) (b512 0 512 i)) (fun i => iprop(any (sbL c) (bst 0 i) ∗ Lx c (.s0 i) 0 ∗ Tx c (.r i 0) 0))).1 $$ HP
  iapply (tri_each D (fun _ => iprop(wL c ↦[Finset.univ]{fullShare} D.W c)) _ (fun i => accd D c 0 0 0 512 i) (dotStep (xrow D c 0))
    (fun i => dotStep_tri D) K _ _) $$ [HW HA]
  · isplitr; · iexact Hc
    isplitl [HW]; · iexact HW
    iexact HA
  iintro ⟨HW, HA⟩
  ihave HP := (all_split _ _).2 $$ [HA HP]
  · isplitl [HA]; · iexact HA
    iexact HP
  ihave HP := (all_split _ _).2 $$ [HP HL]
  · isplitl [HP]; · iexact HP
    iexact HL
  iapply (tri_each D (fun n => Ow c (pos 0 5 n 0)) (fun i => iprop((accd D c 0 0 0 512 i ∗ any (sbL c) (bst 0 i) ∗ Lx c (.s0 i) 0 ∗ Tx c (.r i 0) 0)
      ∗ lend (prt c i 0) i 0 ∗ lend (prt c i 1) i 1 ∗ lend (prt c i 2) i 2)) (P1 D c) (fun i K => stageRS c 0 i (sendRS c 0 i K)) (fun i => by
    intro K Kt Q
    unfold P1 stF
    rw [if_pos (by decide)]
    iintro ⟨#Hc, HO, ⟨HA, Hs, HL, HT⟩, H0, H1, H2⟩ Hk
    ihave ⟨Hd, Hg⟩ := (lend_zero (prt c i 0) i) $$ H0
    iapply (first_tri D (i := i) (n := 0) (by decide) K Kt Q) $$ [HO Hd HA Hs HL HT]
    · isplitr; · iexact Hc
      isplitl [HO]; · iexact HO
      isplitr; · iapply (ctx_rch D K c (.rc i 0)); iexact Hc
      isplitl [Hd]; · iexact Hd
      isplitr; · iapply (ctx_rch D K (prt c i 0) (.r i 0)); iexact Hc
      iframe
    iintro ⟨HO, HF, HT⟩
    iapply Hk
    isplitl [HO]; · iexact HO
    isplitl [HF HT]
    · isplitl [HF]; · iexact HF
      iexact HT
    isplitl [Hg]; · iexact Hg
    isplitl [H1]; · iexact H1
    iexact H2) K _ _) $$ [HO HP]
  · isplitr; · iexact Hc
    isplitl [HO]; · iexact HO
    iexact HP
  iintro ⟨HO, HP⟩
  ihave HO := (Ow_skips (c := c) (m := pos 0 5 6 0) 24 (by decide) (by decide +kernel)) $$ HO
  rw [← hs]
  iapply Hk
  isplitl [Ha]; · iexact Ha
  isplitl [HO]; · iexact HO
  isplitl [HX HW]
  · isplitl [HX]; · iexact HX
    iexact HW
  isplitl [Hsx]; · iexact Hsx
  isplitl [Hsw]; · iexact Hsw
  iexact HP

/-! ## The semaphores at the start and at the end -/

/-- What a device has of a semaphore at the start. -/
def St (c : Dev nD) (x : Own) : sProp 𝕄 :=
  iprop(At c x 0 ∗ Tx c x 0 ∗ match far x with | true => bigSep (Finset.range (rounds (some x))) (cr c x) | false => iprop(emp))
/-- The same, with what is known of the first round. -/
def Z0 (c : Dev nD) (x : Own) : sProp 𝕄 := match far x with | true => iprop(Rx c x 0 ∗ Tx c x 0) | false => Lx c x 0

theorem St_Z0 (K : Dev nD × Cell → ℕ) (c : Dev nD) (x : Own) : iprop(ctx D K ∗ St c x) ⊢ Z0 c x := by
  unfold St Z0
  cases far x with
  | true =>
    show iprop(ctx D K ∗ At c x 0 ∗ Tx c x 0 ∗ bigSep (Finset.range (rounds (some x))) (cr c x)) ⊢ iprop(Rx c x 0 ∗ Tx c x 0)
    unfold Rx
    rw [← Finset.range_eq_Ico]
    iintro ⟨#Hc, Ha, HT, Hr⟩
    isplitr [HT]
    · isplitl [Ha]; · iexact Ha
      isplitr; · iapply (ctx_rch D K c x); iexact Hc
      iexact Hr
    iexact HT
  | false =>
    show iprop(ctx D K ∗ At c x 0 ∗ Tx c x 0 ∗ emp) ⊢ Lx c x 0
    unfold Lx
    iintro ⟨#Hc, Ha, HT, -⟩
    isplitl [Ha]; · iexact Ha
    isplitr; · iapply (ctx_rch D K c x); iexact Hc
    iexact HT

/-- Something known to all helps each. -/
theorem big_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- A semaphore after its last round. -/
def Zn (c : Dev nD) (x : Own) : sProp 𝕄 := At c x (rounds (some x))
theorem Rx_end (c : Dev nD) (x : Own) {n : ℕ} (h : n = rounds (some x)) : (Rx (F := F) c x n) ⊢ Zn c x := by subst h; unfold Rx Zn; iintro ⟨H, -⟩; iexact H
theorem Lx_end (c : Dev nD) (x : Own) {n : ℕ} (h : n = rounds (some x)) : (Lx (F := F) c x n) ⊢ Zn c x := by subst h; unfold Lx Zn; iintro ⟨H, -⟩; iexact H

theorem sems_close (K : Dev nD × Cell → ℕ) (c : Dev nD) : iprop(ctx D K ∗ bigSep Finset.univ (Zn c) ∗ atPos ER (cell c none) 1 ∅ 0)
    ⊢ (|={Set.univ}=> iprop((bigSep Finset.univ fun x : Own => semVal (cell c (some x)) 0) ∗ semVal (cell c none) 0) : sProp 𝕄) := by
  have hx (x : Cell) : iprop(ctx D K ∗ atPos ER (cell c x) (rounds x) ∅ 0) ⊢ (|={Set.univ}=> semVal (cell c x) 0 : sProp 𝕄) := by
    iintro ⟨#Hc, Ha⟩
    iapply (Rounds.cell_close ER (Rd D) (Set.mem_univ (K (c, x))) (fun h => h) (R := rounds x) (fun r hr => duties_later D c x r hr))
    isplitr; · iapply (ctx_inv D K c x); iexact Hc
    iexact Ha
  iintro ⟨#Hc, HZ, Ha⟩
  imod (hx none) $$ [Ha] with Ha
  · isplitr; · iexact Hc
    iexact Ha
  imod ((big_with (S := Finset.univ) (R := ctx D K) (Φ := Zn c) fun x : Own => hx (some x)).trans (bigSep_fupd _ _)) $$ [HZ] with HZ
  · isplitr; · iexact Hc
    iexact HZ
  imodintro
  isplitl [HZ]; · iexact HZ
  iexact Ha

/-! ## The loop -/

/-- What the rounds keep. -/
def Inv (c : Dev nD) (t : ℕ) : sProp 𝕄 :=
  iprop(Ow c (pos (t + 1) 0 0 0) ∗ xw D c ∗ (Vf D c 0 (9 * t) ∗ Vf D c 1 (9 * t)) ∗ all (PS D c t))

theorem loop_run (c : Dev nD) (K : Dev nD × Cell → ℕ) (kk : PUnit → TP F) (Q : PUnit → sProp 𝕄) :
    iprop(ctx D K ∗ Inv D c 0) ⊢ iprop((Inv D c 8 -∗ WP c (kk ⟨⟩) Q)
      -∗ WP c ((Scf.Loop.for k0_t1_loop Gen.k0_t1_ok (⟨⟩ : PUnit) fun t _ => printed c (D.s c) t) >>= kk) Q) := by
  iintro ⟨#Hc, HI⟩ Hk
  iapply (Scf.wp_for_bind _ _ _ _ _ _ _ _ _ (fun (t : ℕ) (_ : PUnit) => iprop(ctx D K ∗ Inv D c t)) (fun t acc => by
    have e : printed c (D.s c) t = trip c (D.s c) t (.ret ⟨⟩) := printed_eq c (D.s c) t
    show iprop(ctx D K ∗ Inv D c t) ⊢ WP c (printed c (D.s c) t) _
    rw [e]
    unfold Inv
    iintro ⟨#Hc, H⟩
    iapply (trip_tri D K _ _) $$ [H]
    · isplitr; · iexact Hc
      iexact H
    iintro H
    iapply (le_wp_ret _ _)
    isplitr; · iexact Hc
    iexact H)) $$ [HI]
  · isplitr; · iexact Hc
    iexact HI
  iintro %acc ⟨-, HI⟩
  iapply Hk
  iexact HI

/-! ## A part at the start and at the end -/

/-- A part's semaphores before the first round. -/
abbrev Zpart (Φ : Own → sProp 𝕄) (i : Fin 6) : sProp 𝕄 := iprop(Φ (.s0 i) ∗ Φ (.s i) ∗ Φ (.r i 0) ∗ Φ (.r i 1) ∗ Φ (.r i 2) ∗ Φ (.a i 0) ∗ Φ (.a i 1)
    ∗ Φ (.a i 2) ∗ Φ (.c i) ∗ Φ (.rc i 0) ∗ Φ (.rc i 1) ∗ Φ (.rc i 2) ∗ Φ (.ac i 0) ∗ Φ (.ac i 1) ∗ Φ (.ac i 2))
/-- A part's buffers but those lent. -/
def Bpart (c : Dev nD) (i : Fin 6) : sProp 𝕄 := iprop(any (accL c) (b512 0 512 i) ∗ (any (sbL c) (bst 0 i) ∗ any (sbL c) (bst 1 i) ∗ any (sbL c) (bst 2 i))
    ∗ any (epL c) (b64 i) ∗ (any (recvL c) (bst 0 i) ∗ any (recvL c) (bst 1 i) ∗ any (recvL c) (bst 2 i))
    ∗ (any (agL c) (b512 (kp c i 2) 64 i) ∗ any (agL c) (b512 (gt c i 0) 64 i) ∗ any (agL c) (b512 (gt c i 1) 128 i) ∗ any (agL c) (b512 (gt c i 2) 256 i)))

/-- What the rounds need of a part, beside what the steps before them use. -/
def Rest (c : Dev nD) (i : Fin 6) : sProp 𝕄 := iprop(any (sbL c) (bst 1 i) ∗ any (sbL c) (bst 2 i) ∗ any (epL c) (b64 i)
    ∗ any (agL c) (b512 (kp c i 2) 64 i) ∗ any (agL c) (b512 (gt c i 0) 64 i) ∗ any (agL c) (b512 (gt c i 1) 128 i)
    ∗ Lx c (.s i) 0 ∗ Rx c (.r i 0) 0 ∗ (Rx c (.r i 1) 0 ∗ Tx c (.r i 1) 0) ∗ (Rx c (.r i 2) 0 ∗ Tx c (.r i 2) 0)
    ∗ (Rx c (.a i 0) 0 ∗ Tx c (.a i 0) 0) ∗ (Rx c (.a i 1) 0 ∗ Tx c (.a i 1) 0) ∗ (Rx c (.a i 2) 0 ∗ Tx c (.a i 2) 0) ∗ Lx c (.c i) 0
    ∗ (Rx c (.rc i 0) 0 ∗ Tx c (.rc i 0) 0) ∗ (Rx c (.rc i 1) 0 ∗ Tx c (.rc i 1) 0) ∗ (Rx c (.rc i 2) 0 ∗ Tx c (.rc i 2) 0)
    ∗ (Rx c (.ac i 0) 0 ∗ Tx c (.ac i 0) 0) ∗ (Rx c (.ac i 1) 0 ∗ Tx c (.ac i 1) 0) ∗ (Rx c (.ac i 2) 0 ∗ Tx c (.ac i 2) 0))

theorem part_start (c : Dev nD) (i : Fin 6) : iprop(Zpart (Z0 c) i ∗ Bpart c i) ⊢ (iprop(P0 c i ∗ Rest c i) : sProp 𝕄) := by
  have hL (x : Own) (h : far x = false) : Z0 (F := F) c x = Lx c x 0 := by unfold Z0; rw [h]
  have hR (x : Own) (h : far x = true) : Z0 (F := F) c x = iprop(Rx c x 0 ∗ Tx c x 0) := by unfold Z0; rw [h]
  unfold Zpart Bpart P0 Rest
  rw [hL (.s0 i) rfl, hL (.s i) rfl, hL (.c i) rfl, hR (.r i 0) rfl, hR (.r i 1) rfl, hR (.r i 2) rfl, hR (.a i 0) rfl, hR (.a i 1) rfl, hR (.a i 2) rfl,
    hR (.rc i 0) rfl, hR (.rc i 1) rfl, hR (.rc i 2) rfl, hR (.ac i 0) rfl, hR (.ac i 1) rfl, hR (.ac i 2) rfl]
  iintro ⟨⟨Z1, Z2, ⟨Z3, Z3'⟩, Z4, Z5, Z6, Z7, Z8, Z9, Z10, Z11, Z12, Z13, Z14, Z15⟩, HA, ⟨HS0, HS1, HS2⟩, HE, HR, HG, HG0, HG1, HG2⟩
  ihave HL := (lend_intro (q := c) (i := i)) $$ [HR HG2]
  · icases HR with ⟨H0, H1, H2⟩
    isplitl [H0]; · iexact H0
    isplitl [H1]; · iexact H1
    isplitl [H2]; · iexact H2
    iexact HG2
  isplitl [HA HS0 Z1 Z3' HL]
  · isplitl [HA HS0 Z1 Z3']
    · isplitl [HA]; · iexact HA
      isplitl [HS0]; · iexact HS0
      isplitl [Z1]; · iexact Z1
      iexact Z3'
    iexact HL
  iframe

theorem part_rounds (c : Dev nD) (i : Fin 6) : iprop((P1 D c i ∗ Rest c i) ∗ bigSep (Finset.Ico 0 8) (outK c i)) ⊢ PS D c 0 i := by
  unfold P1 Rest PS PM PG Gr GrA
  simp only [upTo_no (show 0 ≠ 8 by decide), upTo_yes (show 0 = 0 from rfl), Nat.mul_zero, Nat.zero_sub, Nat.zero_min]
  rw [show back2 (F := F) (prt c i (mir 0)) i 0 = iprop(emp) from rfl, show back2 (F := F) (prt c i (mir 1)) i 1 = iprop(emp) from rfl,
    show back2 (F := F) (prt c i (mir 2)) i 2 = any (agL (prt c i 0)) (b512 (gt (prt c i 0) i 2) 256 i) from rfl, Finset.range_zero, bigSep_empty]
  iintro ⟨⟨⟨⟨HF, HT⟩, HG, H1, H2⟩, HS1, HS2, HE, HA, HA0, HA1, Z2, Z3, ⟨R4, T4⟩, ⟨R5, T5⟩, ⟨R6, T6⟩, ⟨R7, T7⟩, ⟨R8, T8⟩, Z9, ⟨R10, T10⟩, ⟨R11, T11⟩, ⟨R12, T12⟩,
    ⟨R13, T13⟩, ⟨R14, T14⟩, R15, T15⟩, HO⟩
  ihave H1 := (lend_one (prt c i 1) i) $$ H1
  ihave H2 := (lend_two (prt c i 2) i) $$ H2
  iframe
  iempintro

theorem part_end (c : Dev nD) (i : Fin 6) : (PS D c 8 i) ⊢ iprop((Zpart (Zn c) i ∗ Bpart c i) ∗ bigSep (Finset.range 8) fun r => outO D c r i) := by
  unfold Zpart Bpart PS PM PG Gr GrA stF
  simp only [upTo_yes (show 8 = 8 from rfl), upTo_no (show 8 ≠ 0 by decide)]
  rw [if_neg (by decide)]
  iintro ⟨⟨⟨Ls0, Hs0, HA⟩, Rrc0, -⟩, ⟨Rr0, -, Hr0, ⟨Rrc1, -⟩, -, Hs1, Rr1, -, Hr1, ⟨Rrc2, -⟩, -, Hs2, Rr2, -, Hr2, ⟨Rac0, -⟩, -⟩,
    ⟨Ra0, ⟨Rac1, -⟩, -, Ra1, ⟨Rac2, -⟩, -, -, Ra2, -, -, Ls, Hg, Hg0, Hg1, Hg2, Lc, HE⟩, -, HO⟩
  ihave Ls0 := (Lx_end c (.s0 i) (n := 8) rfl) $$ Ls0
  ihave Ls := (Lx_end c (.s i) (n := 5 * 8) rfl) $$ Ls
  ihave Lc := (Lx_end c (.c i) (n := 8) rfl) $$ Lc
  ihave Rr0 := (Rx_end c (.r i 0) (n := 8) rfl) $$ Rr0
  ihave Rr1 := (Rx_end c (.r i 1) (n := 8) rfl) $$ Rr1
  ihave Rr2 := (Rx_end c (.r i 2) (n := 8) rfl) $$ Rr2
  ihave Ra0 := (Rx_end c (.a i 0) (n := 8) rfl) $$ Ra0
  ihave Ra1 := (Rx_end c (.a i 1) (n := 8) rfl) $$ Ra1
  ihave Ra2 := (Rx_end c (.a i 2) (n := 8) rfl) $$ Ra2
  ihave Rrc0 := (Rx_end c (.rc i 0) (n := min 8 7) rfl) $$ Rrc0
  ihave Rrc1 := (Rx_end c (.rc i 1) (n := 8 - 1) rfl) $$ Rrc1
  ihave Rrc2 := (Rx_end c (.rc i 2) (n := 8 - 1) rfl) $$ Rrc2
  ihave Rac0 := (Rx_end c (.ac i 0) (n := 8 - 1) rfl) $$ Rac0
  ihave Rac1 := (Rx_end c (.ac i 1) (n := 8 - 1) rfl) $$ Rac1
  ihave Rac2 := (Rx_end c (.ac i 2) (n := 8 - 1) rfl) $$ Rac2
  iframe

/-! ## The kernel -/

/-- The buffers of the kernel's own. -/
def Bufs (c : Dev nD) : sProp 𝕄 := iprop(any (accL c) Finset.univ ∗ any (recvL c) Finset.univ ∗ any (sbL c) Finset.univ ∗ any (epL c) Finset.univ
  ∗ any (agL c) Finset.univ ∗ any (cvL c) Finset.univ)

theorem bufs_parts (c : Dev nD) : (Bufs (F := F) c) ⊣⊢ iprop(all (Bpart c) ∗ any (cvL c) (slotBox 0) ∗ any (cvL c) (slotBox 1)) := by
  unfold Bufs Bpart
  constructor
  · iintro ⟨H0, H1, H2, H3, H4, H5⟩
    ihave H0 := (acc_parts c).1 $$ H0
    ihave H1 := (recv_parts c).1 $$ H1
    ihave H2 := (sb_parts c).1 $$ H2
    ihave H3 := (ep_parts c).1 $$ H3
    ihave H4 := (ag_parts c).1 $$ H4
    ihave H5 := (cv_parts c).1 $$ H5
    isplitr [H5]
    · iapply (all_split _ _).2
      isplitl [H0]; · iexact H0
      iapply (all_split _ _).2
      isplitl [H2]; · iexact H2
      iapply (all_split _ _).2
      isplitl [H3]; · iexact H3
      iapply (all_split _ _).2
      isplitl [H1]; · iexact H1
      iexact H4
    iexact H5
  · iintro ⟨H, H5⟩
    ihave ⟨H0, H⟩ := (all_split _ _).1 $$ H
    ihave ⟨H2, H⟩ := (all_split _ _).1 $$ H
    ihave ⟨H3, H⟩ := (all_split _ _).1 $$ H
    ihave ⟨H1, H4⟩ := (all_split _ _).1 $$ H
    isplitl [H0]; · iapply (acc_parts c).2; iexact H0
    isplitl [H1]; · iapply (recv_parts c).2; iexact H1
    isplitl [H2]; · iapply (sb_parts c).2; iexact H2
    isplitl [H3]; · iapply (ep_parts c).2; iexact H3
    isplitl [H4]; · iapply (ag_parts c).2; iexact H4
    iapply (cv_parts c).2; iexact H5

/-- What a device holds at the start. -/
def Begin (c : Dev nD) (fx : Buf (Elt F) (sxL c)) (fw : Buf (Elt F) (swL c)) : sProp 𝕄 :=
  iprop(Ow c 0 ∗ bar0 c ∗ bigSep Finset.univ (St c) ∗ xw D c ∗ (sxL c ↦[Finset.univ]{fullShare} fx) ∗ (swL c ↦[Finset.univ]{fullShare} fw)
    ∗ Bufs c ∗ any (outL c) Finset.univ)
/-- What it holds at the end. -/
def Done (c : Dev nD) (fx : Buf (Elt F) (sxL c)) (fw : Buf (Elt F) (swL c)) : sProp 𝕄 :=
  iprop(Ow c endPos ∗ ((bigSep Finset.univ fun x : Own => semVal (cell c (some x)) 0) ∗ semVal (cell c none) 0) ∗ xw D c
    ∗ (sxL c ↦[Finset.univ]{fullShare} fx) ∗ (swL c ↦[Finset.univ]{fullShare} fw) ∗ Bufs c ∗ (outL c ↦[Finset.univ]{fullShare} buf (OUT D c)))

theorem dev_eq (c : Dev nD) (k : Dev nD → TP F) (Q : PUnit → sProp 𝕄) : WP c (.op .deviceId k) Q = WP c (k c) Q := fupd_wp_eq _ _ _ _ _

theorem body_run (c : Dev nD) (fx : Buf (Elt F) (sxL c)) (fw : Buf (Elt F) (swL c))
    (hs : D.s c = Scalar.mulf ((sxM.access r1).read (Elt F) fx (Shape.Idx.first s1_pos)) ((swM.access r1).read (Elt F) fw (Shape.Idx.first s1_pos)))
    (K : Dev nD × Cell → ℕ) :
    iprop(ctx D K ∗ Begin D c fx fw) ⊢ WP c (Gen.bodyAt0 (F := F) Gen.t0_0) fun _ => Done D c fx fw := by
  rw [bodyAt_eq, dev_eq]
  unfold Begin
  iintro ⟨#Hc, HO, Hb, HS, HX, Hsx, Hsw, HB, Hout⟩
  ihave HZ := (big_with (S := Finset.univ) (R := ctx D K) (Φ := St c) fun x : Own => St_Z0 D K c x) $$ [HS]
  · isplitr; · iexact Hc
    iexact HS
  ihave ⟨HZ, HV0, HV1⟩ := (own_parts (Z0 c)).1 $$ HZ
  ihave ⟨HB, HC0, HC1⟩ := (bufs_parts c).1 $$ HB
  ihave Hout := (out_in c) $$ Hout
  ihave HP := (all_split (Zpart (Z0 c)) (Bpart c)).2 $$ [HZ HB]
  · isplitl [HZ]; · iexact HZ
    iexact HB
  ihave HP := (all_mono (part_start c)) $$ HP
  ihave ⟨HP, HR⟩ := (all_split _ _).1 $$ HP
  iapply (pro_run D c fx fw hs K _ _) $$ [HO Hb HX Hsx Hsw HP]
  · isplitr; · iexact Hc
    iframe
  iintro ⟨Ha, HO, HX, Hsx, Hsw, HP⟩
  ihave HP := (all_split _ _).2 $$ [HP HR]
  · isplitl [HP]; · iexact HP
    iexact HR
  ihave HP := (all_split _ _).2 $$ [HP Hout]
  · isplitl [HP]; · iexact HP
    iexact Hout
  ihave HP := (all_mono (part_rounds D c)) $$ HP
  iapply (loop_run D c K _ _) $$ [HO HX HV0 HV1 HC0 HC1 HP]
  · isplitr; · iexact Hc
    unfold Inv Vf outs
    rw [Nat.mul_zero, Finset.range_zero, bigSep_empty, bigSep_empty]
    isplitl [HO]; · iexact HO
    isplitl [HX]; · iexact HX
    isplitr [HP]
    · isplitl [HV0 HC0]
      · isplitl [HV0]; · iapply (Entails.of_eq (show Z0 (F := F) c (.v 0) = Lx c (.v 0) 0 from rfl)); iexact HV0
        isplitl [HC0]; · iexact HC0
        iempintro
      · isplitl [HV1]; · iapply (Entails.of_eq (show Z0 (F := F) c (.v 1) = Lx c (.v 1) 0 from rfl)); iexact HV1
        isplitl [HC1]; · iexact HC1
        iempintro
    iexact HP
  unfold Inv Vf
  iintro ⟨HO, HX, ⟨⟨HV0, HC0, Hu0⟩, HV1, HC1, Hu1⟩, HP⟩
  ihave HP := (all_mono (part_end D c)) $$ HP
  ihave ⟨HP, Hout⟩ := (all_split _ _).1 $$ HP
  ihave ⟨HZ, HB⟩ := (all_split _ _).1 $$ HP
  ihave Hout := (out_whole D c) $$ [Hout Hu0 Hu1]
  · isplitl [Hout]; · iexact Hout
    isplitl [Hu0]; · iexact Hu0
    iexact Hu1
  ihave HV0 := (Lx_end c (.v 0) (n := 9 * 8) rfl) $$ HV0
  ihave HV1 := (Lx_end c (.v 1) (n := 9 * 8) rfl) $$ HV1
  ihave HZ := (own_parts (Zn c)).2 $$ [HZ HV0 HV1]
  · isplitl [HZ]; · iexact HZ
    isplitl [HV0]; · iexact HV0
    iexact HV1
  ihave HB := (bufs_parts c).2 $$ [HB HC0 HC1]
  · isplitl [HB]; · iexact HB
    isplitl [HC0]; · iexact HC0
    iexact HC1
  imod (sems_close D K c) $$ [HZ Ha] with Hz
  · isplitr; · iexact Hc
    isplitl [HZ]; · iexact HZ
    iexact Ha
  iapply (le_wp_ret _ _)
  unfold Done
  isplitl [HO]; · iexact HO
  iframe

end Cert.Proof.RS

end
-- ==== Proof.RS.Launch.lean ====
/- What the launch deals the devices: their tokens, their cells and their credit. -/
module

public import proofs.«01_k».proof.Proof.RS.Body
public import Idealize.ShloMosaic.Lib.SparseCore.Launch

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Inp F)

/-! ## Tokens -/

/-- A payment's token: the cell, the round and which payment of the round; more rounds than any cell has. -/
abbrev Lab : Type := Dev nD × Cell × Fin 72 × Fin 3
/-- Where its token lies. -/
def labT (p : Lab) : GSem nD τ sig × ℕ × Fin 3 := (cell p.1 p.2.1, p.2.2.1.val, p.2.2.2)
theorem labT_inj : Function.Injective labT := by
  rintro ⟨c, x, n, d⟩ ⟨c', x', n', d'⟩ h
  have h1 : cell c x = cell c' x' := congrArg Prod.fst h
  have h2 : n.val = n'.val := congrArg (fun y : GSem nD τ sig × ℕ × Fin 3 => y.2.1) h
  have h3 : d = d' := congrArg (fun y : GSem nD τ sig × ℕ × Fin 3 => y.2.2) h
  have h4 : (c, x) = (c', x') := cell_inj h1
  cases h4
  rw [Fin.ext h2, h3]

/-- The cells of the protocol. -/
def cells : Finset (GSem nD τ sig) := Finset.univ.map ⟨fun p : Dev nD × Cell => cell p.1 p.2, cell_inj⟩
/-- The tokens of the protocol. -/
def toks : Finset (GSem nD τ sig × ℕ × Fin 3) := Finset.univ.map ⟨labT, labT_inj⟩

/-- The tokens of a device's own cells. -/
def Tk (c : Dev nD) : sProp 𝕄 :=
  iprop((bigSep Finset.univ fun x : Own => bigSep (Finset.Ico 0 (rounds (some x))) fun n => dutyTok ER (cell c (some x)) n 0)
    ∗ bigSep Finset.univ fun d : Fin 3 => dutyTok ER (cell c none) 0 d)
/-- The tokens of the payments a device makes. -/
def Tp (c : Dev nD) : sProp 𝕄 :=
  iprop((bigSep Finset.univ fun x : Own => Tx c x 0) ∗ bigSep Finset.univ fun d : Fin 3 => dutyTok ER (cell (nb c d) none) 0 d)

theorem rounds_le72 (x : Cell) : rounds x ≤ 72 := by
  rcases x with _ | x
  · decide
  cases x <;> simp only [rounds] <;> omega

/-- All of a semaphore and one more. -/
theorem big_option (Φ : Cell → sProp 𝕄) : bigSep Finset.univ Φ = iprop(Φ none ∗ bigSep Finset.univ fun x : Own => Φ (some x)) := by
  rw [show (Finset.univ : Finset Cell) = insert none (Finset.univ.map Function.Embedding.some) from by ext x; cases x <;> simp,
    bigSep_insert (by simp), bigSep_map]
  rfl

theorem toks_one (c : Dev nD) :
    iprop((bigSep Finset.univ fun b : Fin 72 × Fin 3 => dutyTok ER (cell c none) b.1.val b.2)
      ∗ bigSep Finset.univ fun x : Own => bigSep Finset.univ fun b : Fin 72 × Fin 3 => dutyTok ER (cell c (some x)) b.1.val b.2) ⊢ (Tk c : sProp 𝕄) := by
  have h (x : Cell) : (bigSep Finset.univ fun b : Fin 72 × Fin 3 => (dutyTok ER (cell c x) b.1.val b.2 : sProp 𝕄))
      ⊢ bigSep (Finset.range 72) fun n => bigSep Finset.univ fun d : Fin 3 => dutyTok ER (cell c x) n d := by
    rw [bigSep_univ_prod, show Finset.range 72 = Finset.univ.map (Fin.valEmbedding (n := 72)) from by decide +kernel, bigSep_map]
    exact Entails.refl _
  have h2 : (bigSep Finset.univ fun x : Own => bigSep Finset.univ fun b : Fin 72 × Fin 3 => (dutyTok ER (cell c (some x)) b.1.val b.2 : sProp 𝕄))
      ⊢ bigSep Finset.univ fun x : Own => bigSep (Finset.Ico 0 (rounds (some x))) fun n => dutyTok ER (cell c (some x)) n 0 :=
    bigSep_mono fun x _ => ((h (some x)).trans (bigSep_subset (t := Finset.Ico 0 (rounds (some x))) fun n hn =>
      Finset.mem_range.mpr ((Finset.mem_Ico.mp hn).2.trans_le (rounds_le72 _)))).trans (bigSep_mono fun n _ => bigSep_elim (Finset.mem_univ (0 : Fin 3)))
  unfold Tk
  iintro ⟨H0, H⟩
  isplitl [H]
  · iapply h2; iexact H
  · iapply ((h none).trans (bigSep_elim (Finset.mem_range.mpr (show 0 < 72 by decide))))
    iexact H0

theorem toks_dev : bigSep toks (fun y => (dutyTok ER y.1 y.2.1 y.2.2 : sProp 𝕄)) ⊢ bigSep Finset.univ fun c : Dev nD => Tk c := by
  unfold toks
  rw [bigSep_map, bigSep_univ_prod]
  refine bigSep_mono fun c _ => ?_
  rw [bigSep_univ_prod, big_option]
  exact toks_one c

/-- From a cell to the one paid there, and back. -/
def payE : Dev nD × Own ≃ Dev nD × Own where
  toFun p := (tgt p.1 (some p.2), p.2)
  invFun p := (tgt p.1 (some p.2), p.2)
  left_inv p := by simp only [tgt_tgt]
  right_inv p := by simp only [tgt_tgt]
/-- From a device to its neighbour along a dimension, and back. -/
def nbE : Dev nD × Fin 3 ≃ Dev nD × Fin 3 where
  toFun p := (nb p.1 p.2, p.2)
  invFun p := (nb p.1 p.2, p.2)
  left_inv p := by simp only [nb_nb]
  right_inv p := by simp only [nb_nb]

/-- The tokens dealt to those who pay. -/
theorem toks_around : (bigSep Finset.univ fun c : Dev nD => (Tk c : sProp 𝕄)) = bigSep Finset.univ fun c : Dev nD => Tp c := by
  unfold Tk Tp Tx
  rw [bigSep_sep', bigSep_sep']
  congr 1
  · rw [← bigSep_univ_prod (fun p : Dev nD × Own => bigSep (Finset.Ico 0 (rounds (some p.2))) fun n => (dutyTok ER (cell p.1 (some p.2)) n 0 : sProp 𝕄)),
      bigSep_univ_equiv payE, bigSep_univ_prod]
    rfl
  · rw [← bigSep_univ_prod (fun p : Dev nD × Fin 3 => (dutyTok ER (cell p.1 none) 0 p.2 : sProp 𝕄)), bigSep_univ_equiv nbE, bigSep_univ_prod]
    rfl

/-! ## The cells -/

/-- What the launch deals a device. -/
def Gd (c : Dev nD) : sProp 𝕄 :=
  iprop((bigSep Finset.univ fun x : Cell => roundState ER (Rd D) (cell c x) 0)
    ∗ (bigSep Finset.univ fun x : Cell => iprop(atPos ER (cell c x) 0 ∅ 0 ∗ reached ER (cell c x) 0)) ∗ Tk c)
/-- The cells' invariants, and that all are at their first round. -/
def rec (K : Dev nD × Cell → ℕ) : sProp 𝕄 :=
  iprop((bigSep Finset.univ fun p : Dev nD × Cell => cellInv ER (Rd D) (K p) (cell p.1 p.2))
    ∗ bigSep Finset.univ fun p : Dev nD × Cell => reached ER (cell p.1 p.2) 0)
instance rec_persistent (K : Dev nD × Cell → ℕ) : BI.Persistent (rec D K) := by unfold rec; infer_instance
/-- What it has once the cells are set up. -/
def Gd' (c : Dev nD) : sProp 𝕄 := iprop((∃ K, rec D K) ∗ (bigSep Finset.univ fun x : Cell => atPos ER (cell c x) 0 ∅ 0) ∗ Tp c)

theorem fund_cells : BI.own (ER (initOf cells toks)) ⊢ (|==> bigSep Finset.univ (Gd D) : sProp 𝕄) := by
  have hX (Φ : GSem nD τ sig → sProp 𝕄) : bigSep cells Φ = bigSep Finset.univ fun c : Dev nD => bigSep Finset.univ fun x : Cell => Φ (cell c x) := by
    unfold cells; rw [bigSep_map, bigSep_univ_prod]; rfl
  iintro HX
  imod (Rounds.fund ER (Rd D) cells toks) $$ HX with ⟨Hst, Hr, Hat, Htok⟩
  imodintro
  ihave Hst := (Entails.of_eq (hX fun g => roundState ER (Rd D) g 0)) $$ Hst
  ihave Hat := (Entails.of_eq (hX fun g => atPos ER g 0 ∅ 0)) $$ Hat
  ihave Hr := (Entails.of_eq (hX fun g => reached ER g 0)) $$ Hr
  ihave Htok := (toks_dev) $$ Htok
  unfold Gd; simp only [bigSep_sep']
  isplitl [Hst]; · iexact Hst
  isplitl [Hat Hr]
  · isplitl [Hat] <;> iassumption
  iexact Htok

/-- The barrier's is the one semaphore that outlives the kernel. -/
theorem unscoped_eq (c : Dev nD) : (unscopedSems0 c : sProp 𝕄) = semVal (cell c none) 0 := by
  unfold unscopedSems0; rw [bigSep_eq_bigSepL_of_eq [SemLoc.reg barS] (by decide +kernel) (by decide)]; rfl

abbrev own0 (c : Dev nD) : sProp 𝕄 := Pipeline.ownSems0 (Ix := ℕ) (Name := ℕ) (U := UU) (Lvl := ℕ) (Val := Elt F) (τ := τ) osem c

theorem core_alloc (c : Dev nD) : iprop(own0 c ∗ unscopedSems0 c ∗ Gd D c)
    ⊢ |={Set.univ}=> iprop((bigSep Finset.univ fun x : Cell => iprop(∃ κ : ℕ, cellInv ER (Rd D) κ (cell c x)))
        ∗ (bigSep Finset.univ fun x : Cell => iprop(atPos ER (cell c x) 0 ∅ 0 ∗ reached ER (cell c x) 0)) ∗ Tk c) := by
  unfold Gd
  rw [unscoped_eq]
  iintro ⟨Hos, Hus, Hst, Hat, Htok⟩
  imod (show iprop((semVal (cell c none) 0 ∗ own0 c) ∗ bigSep Finset.univ fun x : Cell => roundState ER (Rd D) (cell c x) 0)
      ⊢ (|={Set.univ}=> bigSep Finset.univ fun x : Cell => iprop(∃ κ : ℕ, cellInv ER (Rd D) κ (cell c x)) : sProp 𝕄) from by
        rw [show iprop(semVal (cell c none) 0 ∗ own0 (F := F) c) = bigSep Finset.univ fun x : Cell => semVal (cell c x) 0 from (big_option (F := F) fun x => semVal (cell c x) 0).symm, ← bigSep_sep']
        exact (bigSep_mono fun x _ => (Rounds.body_intro ER (Rd D) (cell c x)).trans inv_alloc).trans (bigSep_fupd _ _)) $$ [Hos Hus Hst] with Hinv
  · isplitl [Hos Hus]
    · isplitl [Hus] <;> iassumption
    iexact Hst
  imodintro
  isplitl [Hinv]; · iexact Hinv
  isplitl [Hat]; · iexact Hat
  iexact Htok

theorem regroup :
    (bigSep Finset.univ fun c : Dev nD => iprop((bigSep Finset.univ fun x : Cell => iprop(∃ κ : ℕ, cellInv ER (Rd D) κ (cell c x)))
          ∗ (bigSep Finset.univ fun x : Cell => iprop(atPos ER (cell c x) 0 ∅ 0 ∗ reached ER (cell c x) 0)) ∗ Tk c) : sProp 𝕄)
      ⊢ bigSep Finset.univ (Gd' D) := by
  rw [bigSep_sep', bigSep_sep', ← bigSep_univ_prod (fun p : Dev nD × Cell => iprop(∃ κ : ℕ, cellInv ER (Rd D) κ (cell p.1 p.2))),
    bigSep_congr (s := Finset.univ) (fun (c : Dev nD) _ => bigSep_sep' Finset.univ (fun x : Cell => (atPos ER (cell c x) 0 ∅ 0 : sProp 𝕄)) (fun x => reached ER (cell c x) 0)),
    bigSep_sep', ← bigSep_univ_prod (fun p : Dev nD × Cell => (reached ER (cell p.1 p.2) 0 : sProp 𝕄)), toks_around]
  iintro ⟨HI, ⟨Hat, #HR⟩, Htok⟩
  ihave HK := (BI.bigSep_exists_pi Finset.univ (fun (p : Dev nD × Cell) (κ : ℕ) => (cellInv ER (Rd D) κ (cell p.1 p.2) : sProp 𝕄))) $$ HI
  icases HK with ⟨%K, #HI⟩
  iapply (big_with (S := Finset.univ) (R := rec D K)
    (Φ := fun c : Dev nD => iprop((bigSep Finset.univ fun x : Cell => atPos ER (cell c x) 0 ∅ 0) ∗ Tp c)) (Ψ := Gd' D) fun c => by
      unfold Gd'
      iintro ⟨H, Ha, Ht⟩
      isplitl [H]
      · iexists K; iexact H
      isplitl [Ha] <;> iassumption)
  isplitr
  · unfold rec; isplitl; · iexact HI
    iexact HR
  · rw [bigSep_sep']
    isplitl [Hat]; · iexact Hat
    iexact Htok

/-- Setting up every device's cells at once. -/
theorem glob : (bigSep Finset.univ fun c => iprop(own0 c ∗ unscopedSems0 c ∗ Gd D c) : sProp 𝕄) ⊢ |={Set.univ}=> bigSep Finset.univ (Gd' D) :=
  ((bigSep_mono fun c _ => core_alloc D c).trans (bigSep_fupd _ _)).trans (BI.fupd_mono (regroup D))

/-! ## The credit -/

theorem ev_own (d c : Dev nD) (m : ℕ) (x : Own) (u : ℕ) :
    ev d m (cell c (some x)) u = if evAt m = some (x, u) ∧ d = tgt c (some x) then amt (some x) u else 0 := by
  unfold ev
  split
  · rename_i h3
    rw [tallyAt_apply, if_neg (fun h => by have := cell_inj (a₁ := (c, some x)) (a₂ := (_, none)) h.1; cases this), if_neg]
    rintro ⟨h, -⟩
    unfold evAt at h; rw [if_pos h3] at h; cases h
  · cases hm : evAt m with
    | none => rw [if_neg (by rintro ⟨h, -⟩; cases h)]; rfl
    | some y =>
      obtain ⟨y, n⟩ := y
      show tallyAt (cell (tgt d (some y)) (some y)) n (amt (some y) n) (cell c (some x)) u = _
      rw [tallyAt_apply]
      by_cases h : (y, n) = (x, u) ∧ d = tgt c (some x)
      · obtain ⟨h1, rfl⟩ := h
        cases h1
        rw [tgt_tgt, if_pos ⟨rfl, rfl⟩, if_pos ⟨rfl, rfl⟩]
      · rw [if_neg, if_neg (fun h' => h ⟨Option.some.inj h'.1, h'.2⟩)]
        rintro ⟨h1, rfl⟩
        have := cell_inj (a₁ := (c, some x)) (a₂ := (tgt d (some y), some y)) h1
        have h2 : c = tgt d (some y) := congrArg Prod.fst this
        have h3 : x = y := Option.some.inj (congrArg Prod.snd this)
        subst h3
        exact h ⟨rfl, by rw [h2, tgt_tgt]⟩

theorem ev_bar (d c : Dev nD) (m : ℕ) (u : ℕ) :
    ev d m (cell c none) u = if h : m < 3 then (if d = nb c ⟨m, h⟩ ∧ u = 0 then 1 else 0) else 0 := by
  unfold ev
  split
  · rename_i h3
    rw [tallyAt_apply]
    by_cases h : d = nb c ⟨m, h3⟩ ∧ u = 0
    · obtain ⟨rfl, rfl⟩ := h
      rw [nb_nb, if_pos ⟨rfl, rfl⟩, if_pos ⟨rfl, rfl⟩]
    · rw [if_neg h, if_neg]
      rintro ⟨h1, h2⟩
      have := cell_inj (a₁ := (c, none)) (a₂ := (nb d ⟨m, h3⟩, none)) h1
      have h4 : c = nb d ⟨m, h3⟩ := congrArg Prod.fst this
      exact h ⟨by rw [h4, nb_nb], h2⟩
  · cases evAt m with
    | none => rfl
    | some y =>
      show tallyAt (cell (tgt d (some y.1)) (some y.1)) y.2 (amt (some y.1) y.2) (cell c none) u = _
      rw [tallyAt_apply, if_neg]
      rintro ⟨h1, -⟩
      have := cell_inj (a₁ := (c, none)) (a₂ := (tgt d (some y.1), some y.1)) h1
      cases this

/-- What all devices owe a cell in a round. -/
theorem owed_own (c : Dev nD) {x : Own} (hx : far x = true) (u : ℕ) :
    ∑ d : Dev nD, debt d 0 (cell c (some x)) u = if u < rounds (some x) then amt (some x) u else 0 := by
  simp only [debt_apply, ev_own]
  rw [Finset.sum_comm]
  split
  · rename_i hu
    rw [Finset.sum_eq_single_of_mem (lvOf (some x) u) (Finset.mem_Ico.mpr ⟨Nat.zero_le _, lvOf_lt hx hu⟩)]
    · rw [Finset.sum_eq_single_of_mem (tgt c (some x)) (Finset.mem_univ _), if_pos ⟨evAt_lv hx hu, rfl⟩]
      exact fun d _ hd => if_neg fun h => hd h.2
    · exact fun m _ hm => Finset.sum_eq_zero fun d _ => if_neg fun h => hm (evAt_some h.1).1.symm
  · rename_i hu
    exact Finset.sum_eq_zero fun m _ => Finset.sum_eq_zero fun d _ => if_neg fun h => hu (evAt_some h.1).2.1

theorem owed_bar (c : Dev nD) (u : ℕ) : ∑ d : Dev nD, debt d 0 (cell c none) u = if u = 0 then 3 else 0 := by
  simp only [debt_apply, ev_bar]
  rw [Finset.sum_comm, ← Finset.sum_subset (s₁ := Finset.Ico 0 3) (fun m hm => Finset.mem_Ico.mpr ⟨Nat.zero_le _, (Finset.mem_Ico.mp hm).2.trans (by simp only [endPos, pos]; omega)⟩)
    (fun m _ hm => Finset.sum_eq_zero fun d _ => dif_neg fun h => hm (Finset.mem_Ico.mpr ⟨Nat.zero_le _, h⟩))]
  have h1 (m : ℕ) (hm : m ∈ Finset.Ico 0 3) : (∑ d : Dev nD, if h : m < 3 then (if d = nb c ⟨m, h⟩ ∧ u = 0 then 1 else 0) else 0) = if u = 0 then 1 else 0 := by
    have h3 := (Finset.mem_Ico.mp hm).2
    rw [Finset.sum_eq_single_of_mem (nb c ⟨m, h3⟩) (Finset.mem_univ _) fun d _ hd => by rw [dif_pos h3, if_neg fun h => hd h.1], dif_pos h3]
    by_cases hu : u = 0
    · rw [if_pos ⟨rfl, hu⟩, if_pos hu]
    · rw [if_neg fun h => hu h.2, if_neg hu]
  rw [Finset.sum_congr rfl h1]
  by_cases hu : u = 0 <;> simp [hu]

/-- What every device owes at the start. -/
abbrev O0 (c : Dev nD) : CellTallies nD τ sig ℕ := debt c 0

theorem launch_own (c : Dev nD) {x : Own} (hx : far x = true) :
    tallyOn (cell c (some x)) (launchCredit (Pipeline.owing O0) 0 (cell c (some x)))
      = ∑ n ∈ Finset.range (rounds (some x)), (tallyAt (cell c (some x)) n (amt (some x) n) : CellTallies nD τ sig ℕ) := by
  funext g
  rw [Finset.sum_apply]
  ext u
  rw [Finsupp.finset_sum_apply]
  by_cases hg : g = cell c (some x)
  · subst hg
    rw [tallyOn_self, Pipeline.launchCredit_owing, owed_own c hx]
    simp only [tallyAt_apply, true_and]
    rw [Finset.sum_ite_eq]
    simp only [Finset.mem_range]
  · rw [tallyOn_ne hg]
    refine (Finset.sum_eq_zero fun n _ => ?_).symm
    rw [tallyAt_apply, if_neg fun h => hg h.1]

theorem launch_bar (c : Dev nD) :
    tallyOn (cell c none) (launchCredit (Pipeline.owing O0) 0 (cell c none)) = (tallyAt (cell c none) 0 3 : CellTallies nD τ sig ℕ) := by
  funext g
  ext u
  by_cases hg : g = cell c none
  · subst hg
    rw [tallyOn_self, Pipeline.launchCredit_owing, owed_bar, tallyAt_apply]
    simp only [true_and]
  · rw [tallyOn_ne hg, tallyAt_apply, if_neg fun h => hg h.1]; rfl

theorem creds (c : Dev nD) : (Pipeline.launchCred O0 c : sProp 𝕄)
    ⊢ iprop(cred (tallyAt (cell c none) 0 3)
      ∗ bigSep Finset.univ fun x : Own => match far x with | true => bigSep (Finset.range (rounds (some x))) (cr c x) | false => iprop(emp)) := by
  unfold Pipeline.launchCred
  have h1 : (bigSep Finset.univ fun sm : SemLoc sig => (cred (tallyOn ((c.tc : Thread nD τ), sm) (launchCredit (Pipeline.owing O0) 0 ((c.tc : Thread nD τ), sm))) : sProp 𝕄))
      ⊢ bigSep Finset.univ fun x : Cell => cred (tallyOn (cell c x) (launchCredit (Pipeline.owing O0) 0 (cell c x))) :=
    (bigSep_subset (Finset.subset_univ (Finset.univ.map ⟨csem, csem_inj⟩))).trans (Entails.of_eq (bigSep_map _))
  refine h1.trans ?_
  rw [big_option, launch_bar]
  refine sep_mono_right (bigSep_mono fun x _ => ?_)
  cases hx : far x with
  | false => exact BI.affine
  | true =>
    rw [launch_own c hx, SparseCore.Cfg.cred_finsum]
    exact Entails.refl _

/-- What a device starts with, the arrays apart. -/
theorem start_all (K : Dev nD × Cell → ℕ) (c : Dev nD) :
    iprop(rec D K ∗ (bigSep Finset.univ fun x : Cell => atPos ER (cell c x) 0 ∅ 0) ∗ Tp c ∗ levAts L lv ∗ Pipeline.launchCred O0 c)
      ⊢ (iprop(ctx D K ∗ bar0 c ∗ bigSep Finset.univ (St c)) : sProp 𝕄) := by
  rw [big_option]
  unfold Tp rec ctx bar0
  iintro ⟨⟨H1, H2⟩, ⟨Ha, HA⟩, ⟨HT, Ht⟩, Hl, Hc⟩
  ihave ⟨Hc, HC⟩ := (creds c) $$ Hc
  isplitl [H1 H2 Hl]
  · iframe
  isplitl [Ha Hc Ht]
  · iframe
  unfold St At
  rw [bigSep_sep', bigSep_sep']
  isplitl [HA]; · iexact HA
  isplitl [HT]; · iexact HT
  iexact HC

end Cert.Proof.RS

end
-- ==== Proof.RS.Run.lean ====
/- The run of the kernel on all devices, for any float values. -/
module

public import proofs.«01_k».proof.Proof.RS.Launch
public import proofs.«01_k».proof.Proof.Gen.KernelIdeal.Frame
public import Idealize.ShloMosaic.Lib.Pipeline.CollectiveSegs

@[expose] public section

noncomputable section

namespace Cert.Proof.RS

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## The arrays at the launch -/

/-- The scale a device reads of what its two small arrays hold. -/
def scaleOf (c : Dev nD) (fx : Buf (Elt F) (sxL c)) (fw : Buf (Elt F) (swL c)) : F .f32 :=
  Scalar.mulf ((sxM.access r1).read (Elt F) fx (Shape.Idx.first s1_pos)) ((swM.access r1).read (Elt F) fw (Shape.Idx.first s1_pos))

/-- The staged arrays of a device. -/
abbrev sg0 (c : Dev nD) : Buf (Elt F) (xL c) := Gen.iblk m c 0 Gen.t0_0
abbrev sg1 (c : Dev nD) : Buf (Elt F) (wL c) := Gen.iblk m c 1 Gen.t0_0
abbrev sg2 (c : Dev nD) : Buf (Elt F) (sxL c) := Gen.iblk m c 2 Gen.t0_0
abbrev sg3 (c : Dev nD) : Buf (Elt F) (swL c) := Gen.iblk m c 3 Gen.t0_0

/-- What the kernel computes from. -/
def inp : Inp F where
  X c := sg0 m c
  W c := sg1 m c
  s c := scaleOf c (sg2 m c) (sg3 m c)

/-! ## The obligation of the kernel's body -/

/-- What a device holds before the kernel, the staged arrays apart. -/
def Pre0 (c : Dev nD) : sProp 𝕄 := iprop((∃ K, ctx (inp m) K) ∗ bar0 c ∗ (bigSep Finset.univ (St c)) ∗ any (outL c) Finset.univ)
def Φ0 (c : Dev nD) : sProp 𝕄 := iprop(Pre0 m c ∗ Bufs c)
/-- What it holds after. -/
def Φ1 (c : Dev nD) : sProp 𝕄 :=
  iprop(((bigSep Finset.univ fun x : Own => semVal (cell c (some x)) 0) ∗ semVal (cell c none) 0) ∗ Bufs c
    ∗ (outL c ↦[Finset.univ]{fullShare} buf (OUT (inp m) c)))

def dats (_ : Fin 1) (c : Dev nD) : Dat τ (Elt F) ℕ ℕ UU ℕ cfg0 c where
  A w := m ((cfg0.win w).arr.view.loc (c : Thread nD τ))
  after w _ := match w with
    | ⟨0, _⟩ => sg0 m c
    | ⟨1, _⟩ => sg1 m c
    | ⟨2, _⟩ => sg2 m c
    | ⟨3, _⟩ => sg3 m c
  Φ t := match t with
    | ⟨0, _⟩ => Φ0 m c
    | ⟨_ + 1, _⟩ => Φ1 m c
  q _ := fullShare
  owed t := match t with
    | ⟨0, _⟩ => O0 c
    | ⟨_ + 1, _⟩ => 0

theorem fetch_all (w : Fin cfg0.W) (t : Fin cfg0.N) : (cfg0.win w).fetch t = true := by
  rw [Gen.fin_N0 t]; fin_cases w <;> rfl

theorem before_0 (c : Dev nD) (d) : (dats m 0 c).before (0 : Fin 4) Gen.t0_0 d = sg0 m c := by unfold Dat.before; rw [if_pos (fetch_all _ _)]; rfl
theorem before_1 (c : Dev nD) (d) : (dats m 0 c).before (1 : Fin 4) Gen.t0_0 d = sg1 m c := by unfold Dat.before; rw [if_pos (fetch_all _ _)]; rfl
theorem before_2 (c : Dev nD) (d) : (dats m 0 c).before (2 : Fin 4) Gen.t0_0 d = sg2 m c := by unfold Dat.before; rw [if_pos (fetch_all _ _)]; rfl
theorem before_3 (c : Dev nD) (d) : (dats m 0 c).before (3 : Fin 4) Gen.t0_0 d = sg3 m c := by unfold Dat.before; rw [if_pos (fetch_all _ _)]; rfl

/-- A staged array held whole. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = staged c b X := by
  unfold owns; simp only [Memref.view_whole, View.read_whole, View.set_whole]

def bodyPre (c : Dev nD) : sProp 𝕄 :=
  iprop(Φ0 m c ∗ (dats m 0 c).owesAt 0 Gen.t0_0.castSucc
    ∗ (∃ d, staged c cc0_stg0_0 ((dats m 0 c).before (0 : Fin 4) Gen.t0_0 d))
    ∗ (∃ d, staged c cc0_stg1_0 ((dats m 0 c).before (1 : Fin 4) Gen.t0_0 d))
    ∗ (∃ d, staged c cc0_stg2_0 ((dats m 0 c).before (2 : Fin 4) Gen.t0_0 d))
    ∗ (∃ d, staged c cc0_stg3_0 ((dats m 0 c).before (3 : Fin 4) Gen.t0_0 d)))

def bodyPost (c : Dev nD) : sProp 𝕄 :=
  iprop(Φ1 m c ∗ (dats m 0 c).owesAt 0 Gen.t0_0.succ ∗ staged c cc0_stg0_0 (sg0 m c) ∗ staged c cc0_stg1_0 (sg1 m c) ∗ staged c cc0_stg2_0 (sg2 m c) ∗ staged c cc0_stg3_0 (sg3 m c))

theorem stg_intro (c : Dev nD) (b : Ref sig .tc) (X : b.ty.Contents (Elt F)) :
    (((c : Thread nD τ).loc b) ↦{fullShare} (X : Buf (Elt F) (((c : Dev nD) : Thread nD τ).loc b)) : sProp 𝕄) ⊢ staged c b X := by
  iintro H; iexists X; isplitr; · (ipureintro; rfl)
  iexact H

theorem stg_elim (c : Dev nD) (b : Ref sig .tc) (X : b.ty.Contents (Elt F)) (Y : (b.ty.Contents (Elt F)) → b.ty.Contents (Elt F)) (h : ∀ d, Y d = X) :
    iprop(∃ d, staged c b (Y d)) ⊢ (((c : Thread nD τ).loc b) ↦{fullShare} (X : Buf (Elt F) (((c : Dev nD) : Thread nD τ).loc b)) : sProp 𝕄) := by
  iintro ⟨%d, %f, %hf, H⟩
  rw [h] at hf; subst hf
  iexact H

theorem done_post (c : Dev nD) : Done (inp m) c (sg2 m c) (sg3 m c) ⊢ bodyPost m c := by
  unfold Done bodyPost Φ1 Ow xw Dat.owesAt Pipeline.owesWithin
  rw [debt_end]
  iintro ⟨⟨%W, HO⟩, Hz, ⟨Hx, Hw⟩, Hsx, Hsw, HB, Hout⟩
  isplitl [Hz HB Hout]
  · iframe
  isplitl [HO]
  · iexists W
    isplitr; · ipureintro; exact fun _ _ => Or.inl trivial
    iexact HO
  isplitl [Hx]; · iapply (stg_intro c cc0_stg0_0 (sg0 m c)); iexact Hx
  isplitl [Hw]; · iapply (stg_intro c cc0_stg1_0 (sg1 m c)); iexact Hw
  isplitl [Hsx]; · iapply (stg_intro c cc0_stg2_0 (sg2 m c)); iexact Hsx
  iapply (stg_intro c cc0_stg3_0 (sg3 m c)); iexact Hsw

theorem body_wp (c : Dev nD) : bodyPre m c ⊢ WP c (Gen.bodyAt0 (F := F) Gen.t0_0) fun _ => bodyPost m c := by
  unfold bodyPre Φ0 Pre0 Dat.owesAt Pipeline.owesWithin
  iintro ⟨⟨⟨⟨%K, #Hc⟩, Hb, HS, Ho⟩, HB⟩, ⟨%W, %hW, HO⟩, H0, H1, H2, H3⟩
  ihave H0 := (stg_elim c cc0_stg0_0 (sg0 m c) _ (before_0 m c)) $$ H0
  ihave H1 := (stg_elim c cc0_stg1_0 (sg1 m c) _ (before_1 m c)) $$ H1
  ihave H2 := (stg_elim c cc0_stg2_0 (sg2 m c) _ (before_2 m c)) $$ H2
  ihave H3 := (stg_elim c cc0_stg3_0 (sg3 m c) _ (before_3 m c)) $$ H3
  iapply (wp_mono _ _ _ (Q := fun _ => Done (inp m) c (sg2 m c) (sg3 m c)) fun _ => done_post m c)
  iapply (body_run (inp m) c (sg2 m c) (sg3 m c) rfl K)
  isplitr; · iexact Hc
  unfold Begin Ow xw
  isplitl [HO]; · iexists W; iexact HO
  isplitl [Hb]; · iexact Hb
  isplitl [HS]; · iexact HS
  isplitl [H0 H1]
  · isplitl [H0]; · iexact H0
    iexact H1
  isplitl [H2]; · iexact H2
  isplitl [H3]; · iexact H3
  isplitl [HB]; · iexact HB
  iexact Ho

set_option maxRecDepth 4000 in
/-- The obligation the launch asks of the body. -/
theorem body_obligation (c : Dev nD) : BodyObligation (dats m 0 c) (defs₀ (F := F)) 𝒱₀ 0 Set.univ := fun t => by
  rw [Gen.fin_N0 t]
  rw [Gen.bigSep_W0, Gen.bigSep_W0]
  simp only [owns_whole_eq]
  exact body_wp m c

/-! ## The launch -/

theorem ownSemFacts : Pipeline.OwnSemFacts cfg0.spec osem := by
  refine ⟨?_, fun x y h => Option.some.inj (csem_inj (a₁ := some x) (a₂ := some y) h), ?_⟩
  · decide +kernel
  · decide +kernel

theorem share_eq (c : Dev nD) (w : Fin cfg0.W) : (dats m 0 c).share w = fullShare := by unfold Dat.share; split <;> rfl

/-- The pipeline's resources and the protocol's. -/
def u0 : UU := (initOf (Pipeline.cells cfgs Gen.cellOf_inj) (Pipeline.launchToks cfgs Gen.cellOf_inj), initOf cells toks)

theorem kind_none {sm : SemLoc sig} (h : ∀ x, csem x ≠ sm) : kind sm = none := dif_neg fun ⟨x, hx⟩ => h x hx

theorem ev_lv {c : Dev nD} {k : ℕ} {g : GSem nD τ sig} {n : ℕ} (h : 0 < ev c k g n) : 0 < lv g n := by
  rcases Nat.eq_zero_or_pos k with rfl | hk
  · have h' : 0 < (tallyAt (cell (nb c 0) none) 0 1 : CellTallies nD τ sig ℕ) g n := h
    rw [tallyAt_apply] at h'
    split at h'
    · rename_i hg
      obtain ⟨rfl, rfl⟩ := hg
      rw [lv_cell]; exact Nat.succ_pos 1
    · exact absurd h' (Nat.lt_irrefl 0)
  · exact hk.trans_le (ev_pos h).1

/-- A device may wait for the arrays to be staged whatever it owes. -/
theorem mayStage (c : Dev nD) (sm : SemLoc sig) (h : ∀ x, csem x ≠ sm) (O : CellTallies nD τ sig ℕ) (hO : O = O0 c ∨ O = 0) :
    (levAts L lv : sProp 𝕄) ⊢ MayWait (c : Thread nD τ) sm 0 O := by
  rcases hO with rfl | rfl
  · refine MayOwe.of_cut (L := L) (lev := lv) 0
      (fun p hp => by rw [Finset.mem_singleton.mp hp, L_tc, Finset.mem_range]; exact Nat.succ_pos _)
      (fun g u hg => (debt_pos hg).2)
      (fun p hp => by rw [Finset.mem_singleton.mp hp]; unfold lv; rw [kind_none h])
      (fun g u hg => ?_)
    rw [debt_apply] at hg
    obtain ⟨k, -, hp⟩ := Finset.exists_ne_zero_of_sum_ne_zero hg.ne'
    exact ev_lv (Nat.pos_of_ne_zero hp)
  · rw [MayWait_zero]; exact BI.affine

theorem stage_ne : ∀ (w : Fin cfg0.W) (s : Fin (cfg0.win w).nbuf) (x : Cell), csem x ≠ .dma ((cfg0.win w).sem s) := by decide +kernel

theorem waits (c : Dev nD) : (levAts L lv : sProp 𝕄) ⊢ Pipeline.cellsWaits cfgs (dats m) 0 0 c :=
  Pipeline.cellsWaits_intro cfgs (dats m) 0 0 c fun w s t =>
    mayStage c _ (stage_ne w s) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ Gd' (inp m) c)
      ⊢ |={Set.univ}=> iprop(Pre0 m c ∗ (emp : sProp 𝕄)) := by
  rw [Pipeline.unscopedRestP_none, Gen.unscopedRest0_eq]
  unfold Gd' Pre0
  iintro ⟨Hout, Hl, Hcr, -, ⟨%K, HR⟩, Ha, Ht⟩
  ihave ⟨Hc, Hb, HS⟩ := (start_all (inp m) K c) $$ [HR Ha Ht Hl Hcr]
  · isplitl [HR]; · iexact HR
    isplitl [Ha]; · iexact Ha
    isplitl [Ht]; · iexact Ht
    isplitl [Hl]; · iexact Hl
    iexact Hcr
  imodintro
  isplitl
  · isplitl [Hc]; · iexists K; iexact Hc
    isplitl [Hb]; · iexact Hb
    isplitl [HS]; · iexact HS
    iapply (any_intro (outL c)); iexact Hout
  · iempintro

theorem bufs_eq (c : Dev nD) : (Pipeline.scopedRest cfg0.spec c : sProp 𝕄) = Bufs c := by
  rw [Gen.scopedRest0_eq]; rfl

theorem phi0_intro (c : Dev nD) :
    iprop(Pre0 m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ0 m c from rfl, bufs_eq]
  unfold Φ0
  iintro ⟨Hs, -, Hr⟩
  isplitl [Hs] <;> iassumption

/-- What a device hands back: the result, and the barrier at zero. -/
def Yd (c : Dev nD) : sProp 𝕄 := iprop((outL c ↦[Finset.univ]{fullShare} buf (OUT (inp m) c)) ∗ unscopedSems0 c)

theorem phi1_exit (c : Dev nD) :
    (dats m 0 c).Φ (Fin.last cfg0.N) ⊢ iprop(Yd m c ∗ own0 c ∗ Pipeline.scopedRest cfg0.spec c) := by
  rw [show (dats m 0 c).Φ (Fin.last cfg0.N) = Φ1 m c from rfl, bufs_eq]
  unfold Φ1 Yd own0 Pipeline.ownSems0
  rw [unscoped_eq]
  iintro ⟨⟨Hz, Hb⟩, HB, Hout⟩
  isplitl [Hout Hb]
  · isplitl [Hout] <;> iassumption
  isplitl [Hz]; · iexact Hz
  iexact HB

theorem out_read (c : Dev nD) (s' : Phys nD τ sig (Elt F)) :
    iprop(Yd m c ∗ emp ∗ SI s') ⊢ |={Set.univ}=> iprop(⌜s'.mem.mem (outL c) = buf (OUT (inp m) c)
      ∧ ∀ sm : SemLoc sig, sm.isScoped .tc = false → s'.mem.sem ((c.tc : Thread nD τ), sm) = 0⌝ ∗ (SI s' : sProp 𝕄)) := by
  unfold Yd
  iintro ⟨⟨Hout, Hu⟩, -, HSI⟩
  icombine HSI Hout gives %h
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ h, hu⟩
  iexact HSI

/-! ## The run -/

/-- What the run leaves. -/
def QC : PUnit × MemSt nD τ sig (Elt F) → Prop := fun r =>
  (∀ c : Dev nD, r.2.mem ((c : Thread nD τ).loc main_v1) = buf (OUT (inp m) c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

set_option maxRecDepth 8000 in
/-- On the eight devices, from any memory with zero counters, every execution ends, with each device's result the sum it should be, the
    arguments unchanged and all counters at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) 0 Gen.cellOf_inj (0 : Fin 1)
    Gen.winFacts0.to₀ ownSemFacts (Pipeline.PreFacts.none _) EP0 defs₀ 𝒱₀ m ρ main
    (hmain := fun _ => rfl)
    (hbody := body_obligation m) (hne := Gen.block_pos0) (harr := Gen.arr_whole0) (hstage := Gen.stage_whole0) (hshare := share_eq m)
    (hdistinct := Gen.winFacts0.arr_inj)
    (O₀ := O0) (howed₀ := fun _ => rfl) (howedN := fun _ => rfl)
    (L := L) (lv := lv) (hL := L_of_ne) (hwaits := waits m)
    (G := Gd (inp m)) (G' := Gd' (inp m)) (u₀ := u0)
    (hu₀ := by
      unfold u0
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := Pre0 m) (Y := Yd m) (Z := fun _ => iprop(emp))
    (hX := start_intro m ρ) (hin := phi0_intro m) (hout := phi1_exit m)
    (QY := fun c s => s.mem (outL c) = buf (OUT (inp m) c) ∧ ∀ sm : SemLoc sig, sm.isScoped .tc = false → s.sem ((c.tc : Thread nD τ), sm) = 0)
    (hY := fun c s' => out_read m c s')
    (hQ := fun _ h hs => ⟨fun c => ⟨(h c).2.2.1,
        ((h c).1 (0 : Fin 4)).trans ((dats m 0 c).arrAt_in (0 : Fin 4) rfl _), ((h c).1 (1 : Fin 4)).trans ((dats m 0 c).arrAt_in (1 : Fin 4) rfl _),
        ((h c).1 (2 : Fin 4)).trans ((dats m 0 c).arrAt_in (2 : Fin 4) rfl _), ((h c).1 (3 : Fin 4)).trans ((dats m 0 c).arrAt_in (3 : Fin 4) rfl _)⟩,
      sem_eq_zero hs fun c => (h c).2.2.2⟩)

end Cert.Proof.RS

end
-- ==== Proof.RS.Frames.lean ====
/- Every program runs to its end, keeps its arguments and leaves its semaphores at zero. -/
module

public import proofs.«01_k».proof.Defs
public import proofs.«01_k».proof.Proof.Gen.Kernel
public import proofs.«01_k».proof.Proof.Gen.Kernel.Frame
public import proofs.«01_k».proof.Proof.Gen.ReferenceIdeal
public import Idealize.ShloMosaic.Lib.Claim
public import Idealize.ShloMosaic.Lib.Tactic
public import proofs.«01_k».proof.Proof.RS.Run

@[expose] public section

namespace Cert.Proof.RS

open Idealize.ShloMosaic Idealize.SL.Sem Idealize.ShloMosaic.Tactic

/-- The kernel over extended reals runs to its end, keeps its arguments and leaves its semaphores at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The kernels' tables of bodies are one, in either text. -/
theorem defs_same {F : FTy → Type} [FloatOps F] : Cert.Kernel.defs (F := F) = Cert.KernelIdeal.defs := by
  sl_kernel_rfl

/-- The kernel over bit patterns, the same text, likewise. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

/-- The reference likewise. -/
theorem frame_reference : Cert.quiescent_ReferenceIdeal := by
  intro m g _
  refine (θ_run _ _ _).mono (fun r h => ⟨h, sem_eq_zero_of_no_sems (by decide) r.2⟩) (?_ : θ_run _ _ _ fun r => _)
  hlo_run

end Cert.Proof.RS

end
-- ==== Proof.RS.Value.lean ====
/- What the kernel computes over extended reals is what the reference computes. -/
module

public import proofs.«01_k».proof.Proof.RS.Frames
public import Idealize.ShloMosaic.Lib.Pipeline.ValueKit.Geometry
public import Idealize.ShloMosaic.Lib.IntMxu
public import Idealize.ShloMosaic.Lib.IdealHost
public import Idealize.ShloMosaic.Lib.MatmulPlain
public import Idealize.ShloMosaic.Lib.StackMember

@[expose] public section

noncomputable section

namespace Cert.Proof.RS

open Cert.KernelIdeal
open Idealize.ShloMosaic Idealize.ShloMosaic.TcCoe
open Idealize.SL Idealize.SL.Sem
open scoped BigOperators

/-! ## Integers as extended reals -/

/-- An integer as an extended real. -/
def er (z : ℤ) : EReal := ((z : ℝ) : EReal)
/-- A sum of integers as an extended real is the sum. -/
theorem er_add (a b : ℤ) : er (a + b) = er a + er b := by unfold er; rw [Int.cast_add, EReal.coe_add]
/-- A product of integers as an extended real is the product. -/
theorem er_mul (a b : ℤ) : er (a * b) = er a * er b := by unfold er; rw [Int.cast_mul, EReal.coe_mul]
/-- A finite sum of integers as an extended real is the sum. -/
theorem er_sum {ι : Type} [Fintype ι] (f : ι → ℤ) : er (∑ k, f k) = ∑ k, er (f k) := by
  classical
  refine Finset.induction_on (Finset.univ : Finset ι) (by simp [er]) fun a s ha ih => ?_
  rw [Finset.sum_insert ha, Finset.sum_insert ha, er_add, ih]

/-! ## One device's product of one round -/

/-- The exact product of 512 columns and 512 rows at a row and a column. -/
theorem dotI8_plain {N : ℕ} (hN : 0 < N) (x : IVec (sh 512 512) 8) (w : IVec (sh 512 N) 8) (y : (sh 512 N).Idx) :
    dotI8 (DotDims.plain 512 512 N) x w y
      = ∑ k : Fin 512, (x (ix (by decide) (by decide) (y 0 : ℕ) k)).toInt * (w (ix (by decide) hN k (y 1 : ℕ))).toInt := by
  unfold dotI8
  rw [← Equiv.sum_comp (DotDims.plainContr 512 512 N).symm]
  refine Finset.sum_congr rfl fun k _ => ?_
  have hk := ValueIdx.contrEquiv1_symm_val _ 512 (DotDims.plain_contr_rank 512 512 N) (DotDims.plain_contr_size 512 512 N) k
  rw [← ix_self (A := 512) (B := 512) (R := (y 0 : ℕ)) (C := k) (by decide) (by decide)
      ((DotDims.plain 512 512 N).lhsIdx y ((DotDims.plainContr 512 512 N).symm k)) rfl hk.symm,
    ← ix_self (A := 512) (B := N) (R := k) (C := (y 1 : ℕ)) (by decide) hN
      ((DotDims.plain 512 512 N).rhsIdx y ((DotDims.plainContr 512 512 N).symm k)) hk.symm rfl]

/-- A product over 512 columns contracts 512 positions. -/
theorem plain_numel {N : ℕ} : (DotDims.plain 512 512 N).contr.numel = 512 := by
  rw [← Shape.card_idx, Fintype.card_congr (DotDims.plainContr 512 512 N), Fintype.card_fin]

/-- What the product of int8 operands into int32, cast to f32, holds: the integer, exactly. -/
theorem pay_val {N : ℕ} (hN : 0 < N) (d : DotDims (sh 512 512) (sh 512 N) (sh 512 N)) (hd : d = DotDims.plain 512 512 N)
    (x : IVec (sh 512 512) 8) (w : IVec (sh 512 N) 8) (h1 h2 h3) (y : (sh 512 N).Idx) :
    (shapeCast (sh 512 N) (sitofp (F := Ideal) .f32 (matmulI8 IntMxuNumerics.v7x d (shapeCast (sh 512 512) x h1) (shapeCast (sh 512 N) w h2)
      (constantI (sh 512 N) 32 0#32))) h3 : FVec Ideal (sh 512 N) .f32) y
      = er (∑ k : Fin 512, (x (ix (by decide) (by decide) (y 0 : ℕ) k)).toInt * (w (ix (by decide) hN k (y 1 : ℕ))).toInt) := by
  subst hd
  rw [shapeCast_self, shapeCast_self, shapeCast_self, ← dotI8_plain hN]
  show er (matmulI8 IntMxuNumerics.v7x _ x w _ y).toInt = _
  rw [matmulI8_toInt IntMxuNumerics.v7x _ x w _ y rfl ((absDotI8_le_numel _ _ _ _).trans
    (by rw [plain_numel]; decide))]

/-- What each part's product holds: the integer, exactly. -/
theorem dotPay_val (i : Fin 6) (x : IVec (sh 512 512) 8) (w : IVec (sh 512 (cn i)) 8) (y : (sh 512 (cn i)).Idx) :
    dotPay (F := Ideal) i x w y
      = er (∑ k : Fin 512, (x (ix (by decide) (by decide) (y 0 : ℕ) k)).toInt * (w (ix (by decide) (cn_pos i) k (y 1 : ℕ))).toInt) := by
  match i with
  | 0 => exact pay_val (cn_pos 0) _ rfl x w _ _ _ y
  | 1 => exact pay_val (cn_pos 1) _ rfl x w _ _ _ y
  | 2 => exact pay_val (cn_pos 2) _ rfl x w _ _ _ y
  | 3 => exact pay_val (cn_pos 3) _ rfl x w _ _ _ y
  | 4 => exact pay_val (cn_pos 4) _ rfl x w _ _ _ y
  | 5 => exact pay_val (cn_pos 5) _ rfl x w _ _ _ y

variable (D : Inp Ideal)

/-- The product of one device's columns and rows, at a row and a column, as an integer. -/
def Z (c : Dev nD) (R C : ℕ) : ℤ :=
  ∑ k : Fin 512, (D.X c (ix (A := 4096) (B := 512) (by decide) (by decide) R k) : BitVec 8).toInt
    * (D.W c (ix (A := 512) (B := 8192) (by decide) (by decide) k C) : BitVec 8).toInt

/-- A device's product of a round, in the part that a column lies in, is its integer product at that row of the whole array. -/
theorem dotAt_val (c : Dev nD) (r R C : ℕ) (hR : R < 512) (hC : C < 8192) :
    dotAt D c r (part C) R C = er (Z D c (512 * r + R) C) := by
  obtain ⟨h1, h2⟩ := part_spec hC
  unfold dotAt
  refine (dotPay_val _ _ _ _).trans (congrArg er (Finset.sum_congr rfl fun k _ => ?_))
  have e1 : xrow D c r (ix (A := 512) (B := 512) (by decide) (by decide)
      ((ix (A := 512) (B := cn (part C)) (by decide) (cn_pos _) R (C - co (part C)) 0 : Fin _) : ℕ) k)
      = D.X c (ix (A := 4096) (B := 512) (by decide) (by decide) (512 * r + R) k) := by
    show D.X c (ix _ _ (512 * r + (R % 512) % 512) (k % 512 : ℕ)) = _
    rw [Nat.mod_mod, Nat.mod_eq_of_lt hR, Nat.mod_eq_of_lt k.isLt]
  have e2 : wcol D c (part C) (ix (A := 512) (B := cn (part C)) (by decide) (cn_pos _) k
      ((ix (A := 512) (B := cn (part C)) (by decide) (cn_pos _) R (C - co (part C)) 1 : Fin _) : ℕ))
      = D.W c (ix (A := 512) (B := 8192) (by decide) (by decide) k C) := by
    refine congrArg (D.W c) (ix_self _ _ _ ?_ ?_).symm
    · show (k : ℕ) = 0 + 1 * (k % 512 : ℕ)
      have := k.isLt
      omega
    · show C = co (part C) + 1 * ((C - co (part C)) % cn (part C) % cn (part C))
      rw [Nat.mod_mod, Nat.mod_eq_of_lt (by omega)]
      omega
  exact congrArg₂ (fun (a b : BitVec 8) => a.toInt * b.toInt) e1 e2

/-! ## The sum over the devices -/

/-- The eight devices are those that a device reaches through the three dimensions in a part's order, each once. -/
theorem ring_all (c : Dev nD) (i : Fin 6) :
    (Finset.univ : Finset (Dev nD)).val = {c, prt c i 0, prt c i 1, prt (prt c i 1) i 0, prt c i 2, prt (prt c i 2) i 0, prt (prt c i 2) i 1,
      prt (prt (prt c i 2) i 1) i 0} := by
  revert c i; decide +kernel

/-- After the three stages the rows a device kept hold the product of all columns and rows. -/
theorem S_val (c : Dev nD) (r R C : ℕ) (hR : R < 512) (hC : C < 8192) :
    S D c r 3 R C = er (∑ d : Dev nD, Z D d (512 * r + R) C) := by
  have h0 : ∀ d, S D d r 0 R C = er (Z D d (512 * r + R) C) := fun d => dotAt_val D d r R C hR hC
  have hs : ∀ d (k : Fin 3), S D d r (k + 1) R C = (S D d r k R C + S D (prt d (part C) k) r k R C : EReal) := fun d k => S_succ D d r k R C
  have h1 : ∀ d, S D d r 1 R C = er (Z D d (512 * r + R) C + Z D (prt d (part C) 0) (512 * r + R) C) := fun d => by
    rw [er_add, ← h0, ← h0]; exact hs d 0
  have h2 : ∀ d, S D d r 2 R C = er ((Z D d (512 * r + R) C + Z D (prt d (part C) 0) (512 * r + R) C)
      + (Z D (prt d (part C) 1) (512 * r + R) C + Z D (prt (prt d (part C) 1) (part C) 0) (512 * r + R) C)) := fun d => by
    rw [er_add, ← h1, ← h1]; exact hs d 1
  refine (hs c 2).trans ?_
  show (S D c r 2 R C + S D (prt c (part C) 2) r 2 R C : EReal) = _
  rw [h2, h2, ← er_add]
  refine congrArg er ?_
  rw [Finset.sum_eq_multiset_sum, ring_all c (part C)]
  simp only [Multiset.insert_eq_cons, Multiset.map_cons, Multiset.map_singleton, Multiset.sum_cons, Multiset.sum_singleton]
  ring

/-! ## The epilogue -/

/-- The exponential is nonnegative, at the infinities too. -/
theorem exp_nonneg (x : EReal) : 0 ≤ Ideal.exp x := by
  induction x with
  | bot => exact le_rfl
  | top => exact le_top
  | coe r => exact EReal.coe_nonneg.2 (Real.exp_pos r).le

/-- A value times the logistic of a bounded one is the value over one plus the exponential of the negated bounded one. -/
theorem mul_logistic (y t : EReal) : y * Ideal.logistic t = Ideal.div y (1 + Ideal.exp (-t)) := by
  have h : (1 : EReal) + Ideal.exp (-t) ≠ 0 := fun h => by
    have h1 : (1 : EReal) ≤ 1 + Ideal.exp (-t) := le_add_of_nonneg_right (exp_nonneg _)
    rw [h] at h1
    exact absurd h1 (not_le.2 zero_lt_one)
  rw [Ideal.logistic, Ideal.div, Ideal.div, if_neg h, if_neg h, one_mul]

/-- The epilogue as the reference writes it: a value over one plus the exponential of its negated clip. -/
def silu (y : EReal) : EReal :=
  Ideal.div y (Ideal.ofBits .f32 0x3F800000#32 + Ideal.exp (-(min (Ideal.ofBits .f32 0x42700000#32) (max (Ideal.ofBits .f32 0xC2700000#32) y))))

/-- The kernel's epilogue is the reference's. -/
theorem ep_val (s v : EReal) : ep1 (F := Ideal) s v = silu (v * s) := by
  unfold silu
  rw [Ideal.ofBits_one_f32]
  exact mul_logistic _ _

/-- With one scale on all devices, every device's result is the epilogue of the sum over the devices. -/
theorem OUT_val (s : EReal) (hs : ∀ d, D.s d = s) (c : Dev nD) (R C : ℕ) (hC : C < 8192) :
    OUT D c R C = ep1 (F := Ideal) s (er (∑ d : Dev nD, Z D d R C)) := by
  have h : ∀ d, EP D d (R / 512) (R % 512) C = ep1 (F := Ideal) s (er (∑ d : Dev nD, Z D d R C)) := fun d => by
    unfold EP
    rw [S_val D d _ _ C (Nat.mod_lt _ (by decide)) hC, hs, Nat.div_add_mod]
  unfold OUT
  split
  · exact h c
  · exact h _

/-! ## The reference's product -/

/-- The devices' products sum to the product of the matrices they hold blocks of. -/
theorem Z_sum (X : Vec Ideal ⟨2, ![4096, 4096]⟩ .i8) (W : Vec Ideal ⟨2, ![4096, 8192]⟩ .i8)
    (hX : ∀ c, D.X c = Layout.block ⟨2, ![4096, 512]⟩ ⟨2, ![4096, 4096]⟩ 1 8 c X)
    (hW : ∀ c, D.W c = Layout.block ⟨2, ![512, 8192]⟩ ⟨2, ![4096, 8192]⟩ 0 8 c W) (x : (⟨2, ![4096, 8192]⟩ : Shape).Idx) :
    ∑ d : Dev nD, Z D d (x 0 : ℕ) (x 1 : ℕ)
      = ∑ K : Fin 4096, (X (ValueIdx.ix2 (x 0) K) : BitVec 8).toInt * (W (ValueIdx.ix2 K (x 1)) : BitVec 8).toInt := by
  have e := Equiv.sum_comp (finProdFinEquiv : Fin 8 × Fin 512 ≃ Fin (8 * 512))
    (fun K : Fin 4096 => (X (ValueIdx.ix2 (x 0) K) : BitVec 8).toInt * (W (ValueIdx.ix2 K (x 1)) : BitVec 8).toInt)
  refine Eq.trans ?_ e
  rw [Fintype.sum_prod_type]
  refine Finset.sum_congr rfl fun d _ => Finset.sum_congr rfl fun k _ => ?_
  have hk := k.isLt
  have h0 := (x 0).isLt
  have h1 := (x 1).isLt
  rw [hX, hW, Layout.block_apply, Layout.block_apply]
  refine congrArg₂ (fun (a b : BitVec 8) => a.toInt * b.toInt) (congrArg X ?_) (congrArg W ?_)
  · funext a
    match a with
    | ⟨0, _⟩ => exact Fin.ext (Nat.mod_eq_of_lt h0)
    | ⟨1, _⟩ =>
      refine Fin.ext ?_
      show (d : ℕ) * 512 + (k : ℕ) % 512 = (k : ℕ) + 512 * (d : ℕ)
      omega
  · funext a
    match a with
    | ⟨0, _⟩ =>
      refine Fin.ext ?_
      show (d : ℕ) * 512 + (k : ℕ) % 512 = (k : ℕ) + 512 * (d : ℕ)
      omega
    | ⟨1, _⟩ => exact Fin.ext (Nat.mod_eq_of_lt h1)

/-- The reference's product of the matrices, widened to int32 and cast, is the integer product. -/
theorem ref_dot (X : Vec Ideal ⟨2, ![4096, 4096]⟩ .i8) (W : Vec Ideal ⟨2, ![4096, 8192]⟩ .i8) (hx hw)
    (x : (⟨2, ![4096, 8192]⟩ : Shape).Idx) :
    Host.dotGeneral (φ₁ := .f32) (φ₂ := .f32) (DotDims.plain 4096 4096 8192) none (sitofp (F := Ideal) .f32 (extsi 32 X hx))
        (sitofp (F := Ideal) .f32 (extsi 32 W hw)) x
      = er (∑ K : Fin 4096, (X (ValueIdx.ix2 (x 0) K) : BitVec 8).toInt * (W (ValueIdx.ix2 K (x 1)) : BitVec 8).toInt) := by
  rw [ValueIdx.eq_ix2 x]
  refine (StackMember.dotGeneral_plain_apply _ _ _ (x 0) (x 1)).trans ?_
  rw [er_sum]
  refine Finset.sum_congr rfl fun K _ => ?_
  rw [er_mul]
  refine congrArg₂ (fun a b : ℤ => er a * er b) (BitVec.toInt_signExtend_of_le (by decide)) (BitVec.toInt_signExtend_of_le (by decide))

/-- The reference's epilogue at an index. -/
theorem ref_ep (Y : FVec Ideal ReferenceIdeal.S4096x8192 .f32) (b) (x : ReferenceIdeal.S4096x8192.Idx) :
    Host.divf Y (addf (broadcastInDim ReferenceIdeal.S4096x8192 ![] b (constant ReferenceIdeal.S_ .f32 0x3F800000#32))
      (Host.exp (Host.negf (minimumf (broadcastInDim ReferenceIdeal.S4096x8192 ![] b (constant ReferenceIdeal.S_ .f32 0x42700000#32))
        (maximumf (broadcastInDim ReferenceIdeal.S4096x8192 ![] b (constant ReferenceIdeal.S_ .f32 0xC2700000#32)) Y))))) x = silu (Y x) := rfl

/-! ## The claim -/

section
variable (m : (ℓ : Loc nD τ sig) → Buf (Elt Ideal) ℓ)

/-- What a device computes from is its first argument, -/
theorem inp_X (c : Dev nD) : (inp m).X c = m ((c.tc : Thread nD τ).loc main_arg0) := by
  show Gen.iblk m c 0 Gen.t0_0 = _
  funext y
  have h0 : win0_0.index Gen.t0_0 0 = 0 := rfl
  have h1 : win0_0.index Gen.t0_0 1 = 0 := rfl
  blk_ext [Gen.iblk, h0, h1]
/-- its second argument, -/
theorem inp_W (c : Dev nD) : (inp m).W c = m ((c.tc : Thread nD τ).loc main_arg1) := by
  show Gen.iblk m c 1 Gen.t0_0 = _
  funext y
  have h0 : win0_1.index Gen.t0_0 0 = 0 := rfl
  have h1 : win0_1.index Gen.t0_0 1 = 0 := rfl
  blk_ext [Gen.iblk, h0, h1]
/-- and, staged whole, its third -/
theorem sg2_val (c : Dev nD) : sg2 m c = m ((c.tc : Thread nD τ).loc main_arg2) := by
  show Gen.iblk m c 2 Gen.t0_0 = _
  funext y
  have h0 : win0_2.index Gen.t0_0 0 = 0 := rfl
  blk_ext [Gen.iblk, h0]
/-- and its fourth. -/
theorem sg3_val (c : Dev nD) : sg3 m c = m ((c.tc : Thread nD τ).loc main_arg3) := by
  show Gen.iblk m c 3 Gen.t0_0 = _
  funext y
  have h0 : win0_3.index Gen.t0_0 0 = 0 := rfl
  blk_ext [Gen.iblk, h0]
/-- The one index of a one-element array. -/
def i0 : S1.Idx := Shape.Idx.first s1_pos
/-- It is the only one. -/
theorem idx1_eq (i j : S1.Idx) : i = j := by
  funext a
  match a with
  | ⟨0, _⟩ => exact Subsingleton.elim (α := Fin 1) _ _
/-- The scale is the product of the two one-element arguments. -/
theorem inp_s (c : Dev nD) (f2 f3 : S1.Idx → EReal) (h2 : m ((c.tc : Thread nD τ).loc main_arg2) = f2)
    (h3 : m ((c.tc : Thread nD τ).loc main_arg3) = f3) : (inp m).s c = f2 i0 * f3 i0 := by
  show scaleOf c (sg2 m c) (sg3 m c) = _
  rw [sg2_val, sg3_val, h2, h3]
  refine congrArg₂ (fun a b : EReal => a * b) (congrArg f2 ?_) (congrArg f3 ?_)
  · exact idx1_eq _ _
  · exact idx1_eq _ _
end

/-- Over extended reals every device of the kernel ends holding the reference's result, whole, from the blocks of the reference's arguments. -/
theorem algebraic : Cert.algebraic_KernelIdeal_ReferenceIdeal := by
  pair_intro
  rotate_left
  · hlo_run
  · refine (θ_run Cert.KernelIdeal.defs _ _).mono ?_ (run_main (F := Ideal) m g)
    intro r h c
    refine ⟨(h.1 c).1.trans ?_, (h.1 c).2⟩
    have hX : ∀ d, (inp m).X d = _ := fun d => (inp_X m d).trans (hagree d).1
    have hW : ∀ d, (inp m).W d = _ := fun d => (inp_W m d).trans (hagree d).2.1
    have hs : ∀ d, (inp m).s d = _ := fun d => inp_s m d _ _ (hagree d).2.2.1 (hagree d).2.2.2
    funext x
    refine (OUT_val (inp m) _ hs c (x 0 : ℕ) (x 1 : ℕ) (x 1).isLt).trans ?_
    rw [Z_sum (inp m) _ _ hX hW x, ← ref_dot _ _ (by decide) (by decide) x, ep_val]
    refine Eq.trans ?_ (ref_ep _ _ x).symm
    refine congrArg silu (congrArg₂ (fun a b : EReal => a * b) ?_ (congrArg₂ (fun a b : EReal => a * b) ?_ ?_))
    · rfl
    · exact congrArg _ (idx1_eq _ _)
    · exact congrArg _ (idx1_eq _ _)

end Cert.Proof.RS

end
-- ==== Proof.lean ====
/- The proof of the certificate's claim, from the runs of the programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RS.Value

@[expose] public section

namespace Cert.Proof

/-- The three frames, that nothing is rewritten, and that kernel and reference compute the same function over extended reals. -/
theorem claim : Cert.Claim :=
  ⟨Cert.Kernel.Gen.facts, Cert.KernelIdeal.Gen.facts, Cert.ReferenceIdeal.Gen.facts,
    RS.frame_kernel, RS.frame_kernelIdeal, RS.frame_reference, trivial, RS.algebraic⟩

end Cert.Proof

end
